-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_ok [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tables_ok [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tables_ok [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tables_ok : Cert.Pre_tables_ok.Facts),
    quiescent_Kernel (hKernel := hKernel)
    ∧ quiescent_KernelIdeal (hKernelIdeal := hKernelIdeal)
    ∧ quiescent_KernelIdeal_pre_tables_ok (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ preserves_Kernel_KernelIdeal
    ∧ algebraic_KernelIdeal_ReferenceIdeal_pre_tables_ok (hKernelIdeal := hKernelIdeal) (hReferenceIdeal := hReferenceIdeal) (hPre_tables_ok := hPre_tables_ok)
-- ==== Pre_tables_ok.lean ====
abbrev S128x64 : Shape := ⟨2, ![128, 64]⟩
abbrev S64x100000 : Shape := ⟨2, ![64, 100000]⟩
abbrev S100000 : Shape := ⟨1, ![100000]⟩
abbrev S5x128x640 : Shape := ⟨3, ![5, 128, 640]⟩
abbrev S5x1x20480 : Shape := ⟨3, ![5, 1, 20480]⟩
abbrev S5x128x128 : Shape := ⟨3, ![5, 128, 128]⟩
abbrev S128x1 : Shape := ⟨2, ![128, 1]⟩
abbrev S_ : Shape := ⟨0, ![]⟩
abbrev S1 : Shape := ⟨1, ![1]⟩
abbrev S2 : Shape := ⟨1, ![2]⟩
abbrev S1x1 : Shape := ⟨2, ![1, 1]⟩
abbrev S128x100000 : Shape := ⟨2, ![128, 100000]⟩
abbrev S128x2400 : Shape := ⟨2, ![128, 2400]⟩
abbrev S128x102400 : Shape := ⟨2, ![128, 102400]⟩
abbrev S128x5x20480 : Shape := ⟨3, ![128, 5, 20480]⟩
abbrev S5x128x20480 : Shape := ⟨3, ![5, 128, 20480]⟩
abbrev S5x128x32x640 : Shape := ⟨4, ![5, 128, 32, 640]⟩
abbrev S5x128x1x640 : Shape := ⟨4, ![5, 128, 1, 640]⟩
abbrev S5x128x20480x1 : Shape := ⟨4, ![5, 128, 20480, 1]⟩
abbrev S5x128x20480x128 : Shape := ⟨4, ![5, 128, 20480, 128]⟩
abbrev S5x128x1x128 : Shape := ⟨4, ![5, 128, 1, 128]⟩
abbrev S1x128x1 : Shape := ⟨3, ![1, 128, 1]⟩

class Facts : Prop where
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S128x100000 : S_.BroadcastsInDim S128x100000 (![] : Fin 0 → Fin S128x100000.rank)
  natLt_32_64 : 32 < 64
  bcast_S1x1_S128x100000_0_1 : S1x1.BroadcastsInDim S128x100000 (![0, 1] : Fin 2 → Fin S128x100000.rank)
  bcast_S_S128x2400 : S_.BroadcastsInDim S128x2400 (![] : Fin 0 → Fin S128x2400.rank)
  concatenates_S128x100000_S128x2400_S128x102400_d1 : Shape.Concatenates [S128x100000, S128x2400] S128x102400 1
  shapeCasts_S128x102400_S128x5x20480 : S128x102400.ShapeCasts S128x5x20480
  transposes_S128x5x20480_S5x128x20480_1_0_2 : S128x5x20480.Transposes [1, 0, 2] S5x128x20480
  bcast_S5x128x640_S5x128x1x640_0_1_3 : S5x128x640.BroadcastsInDim S5x128x1x640 (![0, 1, 3] : Fin 3 → Fin S5x128x1x640.rank)
  bcast_S5x128x1x640_S5x128x32x640_0_1_2_3 : S5x128x1x640.BroadcastsInDim S5x128x32x640 (![0, 1, 2, 3] : Fin 4 → Fin S5x128x32x640.rank)
  bcast_S_S5x128x32x640 : S_.BroadcastsInDim S5x128x32x640 (![] : Fin 0 → Fin S5x128x32x640.rank)
  shapeCasts_S5x128x32x640_S5x128x20480 : S5x128x32x640.ShapeCasts S5x128x20480
  bcast_S_S5x128x20480 : S_.BroadcastsInDim S5x128x20480 (![] : Fin 0 → Fin S5x128x20480.rank)
  bcast_S5x1x20480_S5x128x20480_0_1_2 : S5x1x20480.BroadcastsInDim S5x128x20480 (![0, 1, 2] : Fin 3 → Fin S5x128x20480.rank)
  bcast_S5x128x20480_S5x128x20480x1_0_1_2 : S5x128x20480.BroadcastsInDim S5x128x20480x1 (![0, 1, 2] : Fin 3 → Fin S5x128x20480x1.rank)
  bcast_S5x128x20480x1_S5x128x20480x128_0_1_2_3 : S5x128x20480x1.BroadcastsInDim S5x128x20480x128 (![0, 1, 2, 3] : Fin 4 → Fin S5x128x20480x128.rank)
  bcast_S5x128x128_S5x128x1x128_0_1_3 : S5x128x128.BroadcastsInDim S5x128x1x128 (![0, 1, 3] : Fin 3 → Fin S5x128x1x128.rank)
  bcast_S5x128x1x128_S5x128x20480x128_0_1_2_3 : S5x128x1x128.BroadcastsInDim S5x128x20480x128 (![0, 1, 2, 3] : Fin 4 → Fin S5x128x20480x128.rank)
  reducesTo_S5x128x20480x128_S5x128x128_d2 : S5x128x20480x128.ReducesTo [2] S5x128x128
  h_S_ : 0 < S_.numel
  bcast_S_S5x128x128 : S_.BroadcastsInDim S5x128x128 (![] : Fin 0 → Fin S5x128x128.rank)
  bcast_S128x1_S1x128x1_1_2 : S128x1.BroadcastsInDim S1x128x1 (![1, 2] : Fin 2 → Fin S1x128x1.rank)
  bcast_S1x128x1_S5x128x20480_0_1_2 : S1x128x1.BroadcastsInDim S5x128x20480 (![0, 1, 2] : Fin 3 → Fin S5x128x20480.rank)
  bcast_S_S128x1 : S_.BroadcastsInDim S128x1 (![] : Fin 0 → Fin S128x1.rank)

variable [Facts]

def fn_threefry2x32_part9 {F : FTy → Type} [FloatOps F] (arg0 : IVec S_ 32) (v163 : IVec S128x100000 32) (v169 : IVec S128x100000 32) (v170 : IVec S128x100000 32) : IVec S128x100000 32 × IVec S128x100000 32 :=
  let v171 : IVec S128x100000 32 := addi v163 v170
  let v172 : IVec S128x100000 32 := broadcastInDim S128x100000 ![] bcast_S_S128x100000 arg0
  let v173 : IVec S128x100000 32 := addi v169 v172
  let c_44 : IVec S_ 32 := constantI S_ 32 5#32
  let v174 : IVec S128x100000 32 := broadcastInDim S128x100000 ![] bcast_S_S128x100000 c_44
  let v175 : IVec S128x100000 32 := addi v173 v174
  (v171, v175)

def fn_threefry2x32_part8 {F : FTy → Type} [FloatOps F] (arg0 : IVec S_ 32) (v1 : IVec S_ 32) (v148 : IVec S128x100000 32) (v149 : IVec S128x100000 32) (v151 : IVec S128x100000 32) : IVec S128x100000 32 × IVec S128x100000 32 :=
  let c_39 : IVec S_ 32 := constantI S_ 32 17#32
  let v152 : IVec S128x100000 32 := broadcastInDim S128x100000 ![] bcast_S_S128x100000 c_39
  let v153 : IVec S128x100000 32 := Host.shrui v148 v152
  let v154 : IVec S128x100000 32 := ori v151 v153
  let v155 : IVec S128x100000 32 := xori v149 v154
  let v156 : IVec S128x100000 32 := addi v149 v155
  let c_40 : IVec S_ 32 := constantI S_ 32 26#32
  let v157 : IVec S128x100000 32 := broadcastInDim S128x100000 ![] bcast_S_S128x100000 c_40
  let v158 : IVec S128x100000 32 := Host.shli v155 v157
  let c_41 : IVec S_ 32 := constantI S_ 32 6#32
  let v159 : IVec S128x100000 32 := broadcastInDim S128x100000 ![] bcast_S_S128x100000 c_41
  let v160 : IVec S128x100000 32 := Host.shrui v155 v159
  let v161 : IVec S128x100000 32 := ori v158 v160
  let v162 : IVec S128x100000 32 := xori v156 v161
  let v163 : IVec S128x100000 32 := addi v156 v162
  let c_42 : IVec S_ 32 := constantI S_ 32 6#32
  let v164 : IVec S128x100000 32 := broadcastInDim S128x100000 ![] bcast_S_S128x100000 c_42
  let v165 : IVec S128x100000 32 := Host.shli v162 v164
  let c_43 : IVec S_ 32 := constantI S_ 32 26#32
  let v166 : IVec S128x100000 32 := broadcastInDim S128x100000 ![] bcast_S_S128x100000 c_43
  let v167 : IVec S128x100000 32 := Host.shrui v162 v166
  let v168 : IVec S128x100000 32 := ori v165 v167
  let v169 : IVec S128x100000 32 := xori v163 v168
  let v170 : IVec S128x100000 32 := broadcastInDim S128x100000 ![] bcast_S_S128x100000 v1
  fn_threefry2x32_part9 (F := F) arg0 v163 v169 v170

def fn_threefry2x32_part7 {F : FTy → Type} [FloatOps F] (arg0 : IVec S_ 32) (arg1 : IVec S_ 32) (v1 : IVec S_ 32) (v128 : IVec S128x100000 32) (v129 : IVec S128x100000 32) (v131 : IVec S128x100000 32) (c_34 : IVec S_ 32) : IVec S128x100000 32 × IVec S128x100000 32 :=
  let v132 : IVec S128x100000 32 := broadcastInDim S128x100000 ![] bcast_S_S128x100000 c_34
  let v133 : IVec S128x100000 32 := Host.shrui v128 v132
  let v134 : IVec S128x100000 32 := ori v131 v133
  let v135 : IVec S128x100000 32 := xori v129 v134
  let v136 : IVec S128x100000 32 := broadcastInDim S128x100000 ![] bcast_S_S128x100000 arg1
  let v137 : IVec S128x100000 32 := addi v129 v136
  let v138 : IVec S128x100000 32 := broadcastInDim S128x100000 ![] bcast_S_S128x100000 v1
  let v139 : IVec S128x100000 32 := addi v135 v138
  let c_35 : IVec S_ 32 := constantI S_ 32 4#32
  let v140 : IVec S128x100000 32 := broadcastInDim S128x100000 ![] bcast_S_S128x100000 c_35
  let v141 : IVec S128x100000 32 := addi v139 v140
  let v142 : IVec S128x100000 32 := addi v137 v141
  let c_36 : IVec S_ 32 := constantI S_ 32 13#32
  let v143 : IVec S128x100000 32 := broadcastInDim S128x100000 ![] bcast_S_S128x100000 c_36
  let v144 : IVec S128x100000 32 := Host.shli v141 v143
  let c_37 : IVec S_ 32 := constantI S_ 32 19#32
  let v145 : IVec S128x100000 32 := broadcastInDim S128x100000 ![] bcast_S_S128x100000 c_37
  let v146 : IVec S128x100000 32 := Host.shrui v141 v145
  let v147 : IVec S128x100000 32 := ori v144 v146
  let v148 : IVec S128x100000 32 := xori v142 v147
  let v149 : IVec S128x100000 32 := addi v142 v148
  let c_38 : IVec S_ 32 := constantI S_ 32 15#32
  let v150 : IVec S128x100000 32 := broadcastInDim S128x100000 ![] bcast_S_S128x100000 c_38
  let v151 : IVec S128x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S128x100000 32) (v113 : IVec S128x100000 32) : IVec S128x100000 32 × IVec S128x100000 32 :=
  let v114 : IVec S128x100000 32 := xori v108 v113
  let v115 : IVec S128x100000 32 := addi v108 v114
  let c_29 : IVec S_ 32 := constantI S_ 32 29#32
  let v116 : IVec S128x100000 32 := broadcastInDim S128x100000 ![] bcast_S_S128x100000 c_29
  let v117 : IVec S128x100000 32 := Host.shli v114 v116
  let c_30 : IVec S_ 32 := constantI S_ 32 3#32
  let v118 : IVec S128x100000 32 := broadcastInDim S128x100000 ![] bcast_S_S128x100000 c_30
  let v119 : IVec S128x100000 32 := Host.shrui v114 v118
  let v120 : IVec S128x100000 32 := ori v117 v119
  let v121 : IVec S128x100000 32 := xori v115 v120
  let v122 : IVec S128x100000 32 := addi v115 v121
  let c_31 : IVec S_ 32 := constantI S_ 32 16#32
  let v123 : IVec S128x100000 32 := broadcastInDim S128x100000 ![] bcast_S_S128x100000 c_31
  let v124 : IVec S128x100000 32 := Host.shli v121 v123
  let c_32 : IVec S_ 32 := constantI S_ 32 16#32
  let v125 : IVec S128x100000 32 := broadcastInDim S128x100000 ![] bcast_S_S128x100000 c_32
  let v126 : IVec S128x100000 32 := Host.shrui v121 v125
  let v127 : IVec S128x100000 32 := ori v124 v126
  let v128 : IVec S128x100000 32 := xori v122 v127
  let v129 : IVec S128x100000 32 := addi v122 v128
  let c_33 : IVec S_ 32 := constantI S_ 32 24#32
  let v130 : IVec S128x100000 32 := broadcastInDim S128x100000 ![] bcast_S_S128x100000 c_33
  let v131 : IVec S128x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S128x100000 32) (v94 : IVec S128x100000 32) : IVec S128x100000 32 × IVec S128x100000 32 :=
  let v95 : IVec S128x100000 32 := addi v88 v94
  let c_24 : IVec S_ 32 := constantI S_ 32 6#32
  let v96 : IVec S128x100000 32 := broadcastInDim S128x100000 ![] bcast_S_S128x100000 c_24
  let v97 : IVec S128x100000 32 := Host.shli v94 v96
  let c_25 : IVec S_ 32 := constantI S_ 32 26#32
  let v98 : IVec S128x100000 32 := broadcastInDim S128x100000 ![] bcast_S_S128x100000 c_25
  let v99 : IVec S128x100000 32 := Host.shrui v94 v98
  let v100 : IVec S128x100000 32 := ori v97 v99
  let v101 : IVec S128x100000 32 := xori v95 v100
  let v102 : IVec S128x100000 32 := broadcastInDim S128x100000 ![] bcast_S_S128x100000 arg0
  let v103 : IVec S128x100000 32 := addi v95 v102
  let v104 : IVec S128x100000 32 := broadcastInDim S128x100000 ![] bcast_S_S128x100000 arg1
  let v105 : IVec S128x100000 32 := addi v101 v104
  let c_26 : IVec S_ 32 := constantI S_ 32 3#32
  let v106 : IVec S128x100000 32 := broadcastInDim S128x100000 ![] bcast_S_S128x100000 c_26
  let v107 : IVec S128x100000 32 := addi v105 v106
  let v108 : IVec S128x100000 32 := addi v103 v107
  let c_27 : IVec S_ 32 := constantI S_ 32 17#32
  let v109 : IVec S128x100000 32 := broadcastInDim S128x100000 ![] bcast_S_S128x100000 c_27
  let v110 : IVec S128x100000 32 := Host.shli v107 v109
  let c_28 : IVec S_ 32 := constantI S_ 32 15#32
  let v111 : IVec S128x100000 32 := broadcastInDim S128x100000 ![] bcast_S_S128x100000 c_28
  let v112 : IVec S128x100000 32 := Host.shrui v107 v111
  let v113 : IVec S128x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S128x100000 32) (v74 : IVec S128x100000 32) (v75 : IVec S128x100000 32) : IVec S128x100000 32 × IVec S128x100000 32 :=
  let v76 : IVec S128x100000 32 := Host.shli v73 v75
  let c_19 : IVec S_ 32 := constantI S_ 32 19#32
  let v77 : IVec S128x100000 32 := broadcastInDim S128x100000 ![] bcast_S_S128x100000 c_19
  let v78 : IVec S128x100000 32 := Host.shrui v73 v77
  let v79 : IVec S128x100000 32 := ori v76 v78
  let v80 : IVec S128x100000 32 := xori v74 v79
  let v81 : IVec S128x100000 32 := addi v74 v80
  let c_20 : IVec S_ 32 := constantI S_ 32 15#32
  let v82 : IVec S128x100000 32 := broadcastInDim S128x100000 ![] bcast_S_S128x100000 c_20
  let v83 : IVec S128x100000 32 := Host.shli v80 v82
  let c_21 : IVec S_ 32 := constantI S_ 32 17#32
  let v84 : IVec S128x100000 32 := broadcastInDim S128x100000 ![] bcast_S_S128x100000 c_21
  let v85 : IVec S128x100000 32 := Host.shrui v80 v84
  let v86 : IVec S128x100000 32 := ori v83 v85
  let v87 : IVec S128x100000 32 := xori v81 v86
  let v88 : IVec S128x100000 32 := addi v81 v87
  let c_22 : IVec S_ 32 := constantI S_ 32 26#32
  let v89 : IVec S128x100000 32 := broadcastInDim S128x100000 ![] bcast_S_S128x100000 c_22
  let v90 : IVec S128x100000 32 := Host.shli v87 v89
  let c_23 : IVec S_ 32 := constantI S_ 32 6#32
  let v91 : IVec S128x100000 32 := broadcastInDim S128x100000 ![] bcast_S_S128x100000 c_23
  let v92 : IVec S128x100000 32 := Host.shrui v87 v91
  let v93 : IVec S128x100000 32 := ori v90 v92
  let v94 : IVec S128x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S128x100000 32) (v54 : IVec S128x100000 32) (v56 : IVec S128x100000 32) : IVec S128x100000 32 × IVec S128x100000 32 :=
  let c_14 : IVec S_ 32 := constantI S_ 32 16#32
  let v57 : IVec S128x100000 32 := broadcastInDim S128x100000 ![] bcast_S_S128x100000 c_14
  let v58 : IVec S128x100000 32 := Host.shrui v53 v57
  let v59 : IVec S128x100000 32 := ori v56 v58
  let v60 : IVec S128x100000 32 := xori v54 v59
  let v61 : IVec S128x100000 32 := addi v54 v60
  let c_15 : IVec S_ 32 := constantI S_ 32 24#32
  let v62 : IVec S128x100000 32 := broadcastInDim S128x100000 ![] bcast_S_S128x100000 c_15
  let v63 : IVec S128x100000 32 := Host.shli v60 v62
  let c_16 : IVec S_ 32 := constantI S_ 32 8#32
  let v64 : IVec S128x100000 32 := broadcastInDim S128x100000 ![] bcast_S_S128x100000 c_16
  let v65 : IVec S128x100000 32 := Host.shrui v60 v64
  let v66 : IVec S128x100000 32 := ori v63 v65
  let v67 : IVec S128x100000 32 := xori v61 v66
  let v68 : IVec S128x100000 32 := broadcastInDim S128x100000 ![] bcast_S_S128x100000 v1
  let v69 : IVec S128x100000 32 := addi v61 v68
  let v70 : IVec S128x100000 32 := broadcastInDim S128x100000 ![] bcast_S_S128x100000 arg0
  let v71 : IVec S128x100000 32 := addi v67 v70
  let c_17 : IVec S_ 32 := constantI S_ 32 2#32
  let v72 : IVec S128x100000 32 := broadcastInDim S128x100000 ![] bcast_S_S128x100000 c_17
  let v73 : IVec S128x100000 32 := addi v71 v72
  let v74 : IVec S128x100000 32 := addi v69 v73
  let c_18 : IVec S_ 32 := constantI S_ 32 13#32
  let v75 : IVec S128x100000 32 := broadcastInDim S128x100000 ![] bcast_S_S128x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S128x100000 32) (v37 : IVec S128x100000 32) (c_8 : IVec S_ 32) : IVec S128x100000 32 × IVec S128x100000 32 :=
  let v38 : IVec S128x100000 32 := broadcastInDim S128x100000 ![] bcast_S_S128x100000 c_8
  let v39 : IVec S128x100000 32 := addi v37 v38
  let v40 : IVec S128x100000 32 := addi v35 v39
  let c_9 : IVec S_ 32 := constantI S_ 32 17#32
  let v41 : IVec S128x100000 32 := broadcastInDim S128x100000 ![] bcast_S_S128x100000 c_9
  let v42 : IVec S128x100000 32 := Host.shli v39 v41
  let c_10 : IVec S_ 32 := constantI S_ 32 15#32
  let v43 : IVec S128x100000 32 := broadcastInDim S128x100000 ![] bcast_S_S128x100000 c_10
  let v44 : IVec S128x100000 32 := Host.shrui v39 v43
  let v45 : IVec S128x100000 32 := ori v42 v44
  let v46 : IVec S128x100000 32 := xori v40 v45
  let v47 : IVec S128x100000 32 := addi v40 v46
  let c_11 : IVec S_ 32 := constantI S_ 32 29#32
  let v48 : IVec S128x100000 32 := broadcastInDim S128x100000 ![] bcast_S_S128x100000 c_11
  let v49 : IVec S128x100000 32 := Host.shli v46 v48
  let c_12 : IVec S_ 32 := constantI S_ 32 3#32
  let v50 : IVec S128x100000 32 := broadcastInDim S128x100000 ![] bcast_S_S128x100000 c_12
  let v51 : IVec S128x100000 32 := Host.shrui v46 v50
  let v52 : IVec S128x100000 32 := ori v49 v51
  let v53 : IVec S128x100000 32 := xori v47 v52
  let v54 : IVec S128x100000 32 := addi v47 v53
  let c_13 : IVec S_ 32 := constantI S_ 32 16#32
  let v55 : IVec S128x100000 32 := broadcastInDim S128x100000 ![] bcast_S_S128x100000 c_13
  let v56 : IVec S128x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S128x100000 32) (v18 : IVec S128x100000 32) : IVec S128x100000 32 × IVec S128x100000 32 :=
  let v19 : IVec S128x100000 32 := xori v13 v18
  let v20 : IVec S128x100000 32 := addi v13 v19
  let c_4 : IVec S_ 32 := constantI S_ 32 26#32
  let v21 : IVec S128x100000 32 := broadcastInDim S128x100000 ![] bcast_S_S128x100000 c_4
  let v22 : IVec S128x100000 32 := Host.shli v19 v21
  let c_5 : IVec S_ 32 := constantI S_ 32 6#32
  let v23 : IVec S128x100000 32 := broadcastInDim S128x100000 ![] bcast_S_S128x100000 c_5
  let v24 : IVec S128x100000 32 := Host.shrui v19 v23
  let v25 : IVec S128x100000 32 := ori v22 v24
  let v26 : IVec S128x100000 32 := xori v20 v25
  let v27 : IVec S128x100000 32 := addi v20 v26
  let c_6 : IVec S_ 32 := constantI S_ 32 6#32
  let v28 : IVec S128x100000 32 := broadcastInDim S128x100000 ![] bcast_S_S128x100000 c_6
  let v29 : IVec S128x100000 32 := Host.shli v26 v28
  let c_7 : IVec S_ 32 := constantI S_ 32 26#32
  let v30 : IVec S128x100000 32 := broadcastInDim S128x100000 ![] bcast_S_S128x100000 c_7
  let v31 : IVec S128x100000 32 := Host.shrui v26 v30
  let v32 : IVec S128x100000 32 := ori v29 v31
  let v33 : IVec S128x100000 32 := xori v27 v32
  let v34 : IVec S128x100000 32 := broadcastInDim S128x100000 ![] bcast_S_S128x100000 arg1
  let v35 : IVec S128x100000 32 := addi v27 v34
  let v36 : IVec S128x100000 32 := broadcastInDim S128x100000 ![] bcast_S_S128x100000 v1
  let v37 : IVec S128x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S128x100000 32) (arg3 : IVec S128x100000 32) : IVec S128x100000 32 × IVec S128x100000 32 :=
  let v0 : IVec S_ 32 := xori arg0 arg1
  let c : IVec S_ 32 := constantI S_ 32 466688986#32
  let v1 : IVec S_ 32 := xori v0 c
  let v2 : IVec S128x100000 32 := broadcastInDim S128x100000 ![] bcast_S_S128x100000 arg0
  let v3 : IVec S128x100000 32 := addi arg2 v2
  let v4 : IVec S128x100000 32 := broadcastInDim S128x100000 ![] bcast_S_S128x100000 arg1
  let v5 : IVec S128x100000 32 := addi arg3 v4
  let v6 : IVec S128x100000 32 := addi v3 v5
  let c_0 : IVec S_ 32 := constantI S_ 32 13#32
  let v7 : IVec S128x100000 32 := broadcastInDim S128x100000 ![] bcast_S_S128x100000 c_0
  let v8 : IVec S128x100000 32 := Host.shli v5 v7
  let c_1 : IVec S_ 32 := constantI S_ 32 19#32
  let v9 : IVec S128x100000 32 := broadcastInDim S128x100000 ![] bcast_S_S128x100000 c_1
  let v10 : IVec S128x100000 32 := Host.shrui v5 v9
  let v11 : IVec S128x100000 32 := ori v8 v10
  let v12 : IVec S128x100000 32 := xori v6 v11
  let v13 : IVec S128x100000 32 := addi v6 v12
  let c_2 : IVec S_ 32 := constantI S_ 32 15#32
  let v14 : IVec S128x100000 32 := broadcastInDim S128x100000 ![] bcast_S_S128x100000 c_2
  let v15 : IVec S128x100000 32 := Host.shli v12 v14
  let c_3 : IVec S_ 32 := constantI S_ 32 17#32
  let v16 : IVec S128x100000 32 := broadcastInDim S128x100000 ![] bcast_S_S128x100000 c_3
  let v17 : IVec S128x100000 32 := Host.shrui v12 v16
  let v18 : IVec S128x100000 32 := ori v15 v17
  fn_threefry2x32_part1 (F := F) arg0 arg1 v1 v13 v18

def fn_uniform_part1 {F : FTy → Type} [FloatOps F] (v1 : FVec F S1x1 .f32) (v2 : FVec F S1x1 .f32) (v19 : IVec S128x100000 32) : FVec F S128x100000 .f32 :=
  let c_2 : IVec S_ 32 := constantI S_ 32 9#32
  let v20 : IVec S128x100000 32 := broadcastInDim S128x100000 ![] bcast_S_S128x100000 c_2
  let v21 : IVec S128x100000 32 := Host.shrui v19 v20
  let c_3 : IVec S_ 32 := constantI S_ 32 1065353216#32
  let v22 : IVec S128x100000 32 := broadcastInDim S128x100000 ![] bcast_S_S128x100000 c_3
  let v23 : IVec S128x100000 32 := ori v21 v22
  let v24 : FVec F S128x100000 .f32 := bitcastToFloat .f32 v23
  let cst : FVec F S_ .f32 := constant S_ .f32 0x3F800000#32
  let v25 : FVec F S128x100000 .f32 := broadcastInDim S128x100000 ![] bcast_S_S128x100000 cst
  let v26 : FVec F S128x100000 .f32 := subf v24 v25
  let v27 : FVec F S1x1 .f32 := subf v2 v1
  let v28 : FVec F S128x100000 .f32 := broadcastInDim S128x100000 ![0, 1] bcast_S1x1_S128x100000_0_1 v27
  let v29 : FVec F S128x100000 .f32 := mulf v26 v28
  let v30 : FVec F S128x100000 .f32 := broadcastInDim S128x100000 ![0, 1] bcast_S1x1_S128x100000_0_1 v1
  let v31 : FVec F S128x100000 .f32 := addf v29 v30
  let v32 : FVec F S128x100000 .f32 := broadcastInDim S128x100000 ![0, 1] bcast_S1x1_S128x100000_0_1 v1
  let v33 : FVec F S128x100000 .f32 := maximumf v32 v31
  v33

def fn_uniform {F : FTy → Type} [FloatOps F] (arg0 : IVec S2 32) (arg1 : FVec F S_ .f32) (arg2 : FVec F S_ .f32) : FVec F S128x100000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S128x100000 64 := iotaInDim S128x100000 64 0
  let v8 : IVec S128x100000 64 := iotaInDim S128x100000 64 1
  let c : IVec S_ 64 := constantI S_ 64 100000#64
  let v9 : IVec S128x100000 64 := broadcastInDim S128x100000 ![] bcast_S_S128x100000 c
  let v10 : IVec S128x100000 64 := muli v9 v7
  let c_0 : IVec S_ 64 := constantI S_ 64 1#64
  let v11 : IVec S128x100000 64 := broadcastInDim S128x100000 ![] bcast_S_S128x100000 c_0
  let v12 : IVec S128x100000 64 := muli v11 v8
  let v13 : IVec S128x100000 64 := addi v10 v12
  let c_1 : IVec S_ 64 := constantI S_ 64 32#64
  let v14 : IVec S128x100000 64 := broadcastInDim S128x100000 ![] bcast_S_S128x100000 c_1
  let v15 : IVec S128x100000 64 := Host.shrui v13 v14
  let v16 : IVec S128x100000 32 := (trunci 32 · natLt_32_64) v13
  let v17 : IVec S128x100000 32 := (trunci 32 · natLt_32_64) v15
  let v18_0 : IVec S128x100000 32 := (fn_threefry2x32 (F := F) v4 v6 v17 v16).1
  let v18_1 : IVec S128x100000 32 := (fn_threefry2x32 (F := F) v4 v6 v17 v16).2
  let v19 : IVec S128x100000 32 := xori v18_0 v18_1
  fn_uniform_part1 (F := F) v1 v2 v19

def fn_gumbel {F : FTy → Type} [FloatOps F] (arg0 : IVec S2 32) : FVec F S128x100000 .f32 :=
  let cst : FVec F S_ .f32 := constant S_ .f32 0x3F800000#32
  let cst_0 : FVec F S_ .f32 := constant S_ .f32 0x00800000#32
  let v0 : FVec F S128x100000 .f32 := fn_uniform (F := F) arg0 cst cst_0
  let v1 : FVec F S128x100000 .f32 := Host.log v0
  let v2 : FVec F S128x100000 .f32 := Host.negf v1
  let v3 : FVec F S128x100000 .f32 := Host.log v2
  let v4 : FVec F S128x100000 .f32 := Host.negf v3
  v4

def fn_part3 {F : FTy → Type} [FloatOps F] (main_arg7 : FVec F S128x1 .f32) (main_v11 : FVec F S5x128x20480 .f32) (main_v20 : IVec S5x128x20480 1) (main_v28 : IVec S5x128x20480 1) (main_v36 : IVec S5x128x20480 1) (main_v56 : IVec S5x128x20480x128 1) (main_v57 : IVec S5x128x128 1) (main_v59 : IVec S5x128x128 1) : IVec S5x128x20480 1 × IVec S5x128x20480x128 1 × IVec S5x128x128 1 × IVec S5x128x20480 1 × IVec S128x1 1 :=
  let main_v60 : IVec S5x128x128 1 := ori main_v57 main_v59
  let main_v61 : IVec S5x128x20480 1 := noti main_v28
  let main_v62 : IVec S5x128x20480 1 := ori main_v61 main_v20
  let main_v63 : FVec F S1x128x1 .f32 := broadcastInDim S1x128x1 ![1, 2] bcast_S128x1_S1x128x1_1_2 main_arg7
  let main_v64 : FVec F S5x128x20480 .f32 := broadcastInDim S5x128x20480 ![0, 1, 2] bcast_S1x128x1_S5x128x20480_0_1_2 main_v63
  let main_v65 : IVec S5x128x20480 1 := cmpf .ole main_v11 main_v64
  let main_v66 : IVec S5x128x20480 1 := ori main_v62 main_v65
  let main_cst_10 : FVec F S_ .f32 := constant S_ .f32 0x00000000#32
  let main_v67 : FVec F S128x1 .f32 := broadcastInDim S128x1 ![] bcast_S_S128x1 main_cst_10
  let main_v68 : IVec S128x1 1 := cmpf .oge main_arg7 main_v67
  (main_v36, main_v56, main_v60, main_v66, main_v68)

def fn_part2 {F : FTy → Type} [FloatOps F] (main_arg5 : FVec F S5x128x128 .f32) (main_arg6 : IVec S5x128x128 32) (main_arg7 : FVec F S128x1 .f32) (main_v11 : FVec F S5x128x20480 .f32) (main_v20 : IVec S5x128x20480 1) (main_v25 : IVec S5x128x20480 32) (main_v26 : IVec S5x128x20480 32) (main_v28 : IVec S5x128x20480 1) (main_v36 : IVec S5x128x20480 1) (main_v37 : IVec S5x128x20480x1 1) : IVec S5x128x20480 1 × IVec S5x128x20480x128 1 × IVec S5x128x128 1 × IVec S5x128x20480 1 × IVec S128x1 1 :=
  let main_v38 : IVec S5x128x20480x128 1 := broadcastInDim S5x128x20480x128 ![0, 1, 2, 3] bcast_S5x128x20480x1_S5x128x20480x128_0_1_2_3 main_v37
  let main_v39 : IVec S5x128x20480x1 32 := broadcastInDim S5x128x20480x1 ![0, 1, 2] bcast_S5x128x20480_S5x128x20480x1_0_1_2 main_v26
  let main_v40 : IVec S5x128x20480x128 32 := broadcastInDim S5x128x20480x128 ![0, 1, 2, 3] bcast_S5x128x20480x1_S5x128x20480x128_0_1_2_3 main_v39
  let main_v41 : IVec S5x128x20480x128 32 := iotaInDim S5x128x20480x128 32 3
  let main_v42 : IVec S5x128x20480x128 1 := cmpi .eq main_v40 main_v41
  let main_v43 : IVec S5x128x20480x128 1 := andi main_v38 main_v42
  let main_v44 : IVec S5x128x1x128 32 := broadcastInDim S5x128x1x128 ![0, 1, 3] bcast_S5x128x128_S5x128x1x128_0_1_3 main_arg6
  let main_v45 : IVec S5x128x20480x128 32 := broadcastInDim S5x128x20480x128 ![0, 1, 2, 3] bcast_S5x128x1x128_S5x128x20480x128_0_1_2_3 main_v44
  let main_v46 : IVec S5x128x20480x1 32 := broadcastInDim S5x128x20480x1 ![0, 1, 2] bcast_S5x128x20480_S5x128x20480x1_0_1_2 main_v25
  let main_v47 : IVec S5x128x20480x128 32 := broadcastInDim S5x128x20480x128 ![0, 1, 2, 3] bcast_S5x128x20480x1_S5x128x20480x128_0_1_2_3 main_v46
  let main_v48 : IVec S5x128x20480x128 1 := cmpi .eq main_v45 main_v47
  let main_v49 : FVec F S5x128x1x128 .f32 := broadcastInDim S5x128x1x128 ![0, 1, 3] bcast_S5x128x128_S5x128x1x128_0_1_3 main_arg5
  let main_v50 : FVec F S5x128x20480x128 .f32 := broadcastInDim S5x128x20480x128 ![0, 1, 2, 3] bcast_S5x128x1x128_S5x128x20480x128_0_1_2_3 main_v49
  let main_v51 : FVec F S5x128x20480x1 .f32 := broadcastInDim S5x128x20480x1 ![0, 1, 2] bcast_S5x128x20480_S5x128x20480x1_0_1_2 main_v11
  let main_v52 : FVec F S5x128x20480x128 .f32 := broadcastInDim S5x128x20480x128 ![0, 1, 2, 3] bcast_S5x128x20480x1_S5x128x20480x128_0_1_2_3 main_v51
  let main_v53 : IVec S5x128x20480x128 1 := cmpf .oeq main_v50 main_v52
  let main_v54 : IVec S5x128x20480x128 1 := noti main_v43
  let main_v55 : IVec S5x128x20480x128 1 := andi main_v48 main_v53
  let main_v56 : IVec S5x128x20480x128 1 := ori main_v54 main_v55
  let main_c_8 : IVec S_ 1 := constantI S_ 1 0#1
  let main_v57 : IVec S5x128x128 1 := (fun x v => Host.reduce IntOp.ori x v reducesTo_S5x128x20480x128_S5x128x128_d2 h_S_) main_v43 main_c_8
  let main_cst_9 : FVec F S_ .f32 := constant S_ .f32 0xFF61B1E6#32
  let main_v58 : FVec F S5x128x128 .f32 := broadcastInDim S5x128x128 ![] bcast_S_S5x128x128 main_cst_9
  let main_v59 : IVec S5x128x128 1 := cmpf .oeq main_arg5 main_v58
  fn_part3 (F := F) main_arg7 main_v11 main_v20 main_v28 main_v36 main_v56 main_v57 main_v59

def fn_part1 {F : FTy → Type} [FloatOps F] (main_arg4 : IVec S5x1x20480 32) (main_arg5 : FVec F S5x128x128 .f32) (main_arg6 : IVec S5x128x128 32) (main_arg7 : FVec F S128x1 .f32) (main_v11 : FVec F S5x128x20480 .f32) (main_v17 : IVec S5x128x32x640 32) (main_c_3 : IVec S_ 32) : IVec S5x128x20480 1 × IVec S5x128x20480x128 1 × IVec S5x128x128 1 × IVec S5x128x20480 1 × IVec S128x1 1 :=
  let main_v18 : IVec S5x128x32x640 32 := broadcastInDim S5x128x32x640 ![] bcast_S_S5x128x32x640 main_c_3
  let main_v19 : IVec S5x128x32x640 1 := cmpi .ne main_v17 main_v18
  let main_v20 : IVec S5x128x20480 1 := shapeCast S5x128x20480 main_v19 shapeCasts_S5x128x32x640_S5x128x20480
  let main_v21 : IVec S5x128x20480 32 := iotaInDim S5x128x20480 32 0
  let main_c_4 : IVec S_ 32 := constantI S_ 32 20480#32
  let main_v22 : IVec S5x128x20480 32 := broadcastInDim S5x128x20480 ![] bcast_S_S5x128x20480 main_c_4
  let main_v23 : IVec S5x128x20480 32 := muli main_v21 main_v22
  let main_v24 : IVec S5x128x20480 32 := iotaInDim S5x128x20480 32 2
  let main_v25 : IVec S5x128x20480 32 := addi main_v23 main_v24
  let main_v26 : IVec S5x128x20480 32 := broadcastInDim S5x128x20480 ![0, 1, 2] bcast_S5x1x20480_S5x128x20480_0_1_2 main_arg4
  let main_c_5 : IVec S_ 32 := constantI S_ 32 100000#32
  let main_v27 : IVec S5x128x20480 32 := broadcastInDim S5x128x20480 ![] bcast_S_S5x128x20480 main_c_5
  let main_v28 : IVec S5x128x20480 1 := cmpi .slt main_v25 main_v27
  let main_v29 : IVec S5x128x20480 1 := noti main_v20
  let main_c_6 : IVec S_ 32 := constantI S_ 32 0#32
  let main_v30 : IVec S5x128x20480 32 := broadcastInDim S5x128x20480 ![] bcast_S_S5x128x20480 main_c_6
  let main_v31 : IVec S5x128x20480 1 := cmpi .sge main_v26 main_v30
  let main_v32 : IVec S5x128x20480 1 := andi main_v28 main_v31
  let main_c_7 : IVec S_ 32 := constantI S_ 32 128#32
  let main_v33 : IVec S5x128x20480 32 := broadcastInDim S5x128x20480 ![] bcast_S_S5x128x20480 main_c_7
  let main_v34 : IVec S5x128x20480 1 := cmpi .slt main_v26 main_v33
  let main_v35 : IVec S5x128x20480 1 := andi main_v32 main_v34
  let main_v36 : IVec S5x128x20480 1 := ori main_v29 main_v35
  let main_v37 : IVec S5x128x20480x1 1 := broadcastInDim S5x128x20480x1 ![0, 1, 2] bcast_S5x128x20480_S5x128x20480x1_0_1_2 main_v20
  fn_part2 (F := F) main_arg5 main_arg6 main_arg7 main_v11 main_v20 main_v25 main_v26 main_v28 main_v36 main_v37

def fn {F : FTy → Type} [FloatOps F] (main_arg0 : FVec F S128x64 .f32) (main_arg1 : FVec F S64x100000 .f32) (main_arg2 : FVec F S100000 .f32) (main_arg3 : IVec S5x128x640 32) (main_arg4 : IVec S5x1x20480 32) (main_arg5 : FVec F S5x128x128 .f32) (main_arg6 : IVec S5x128x128 32) (main_arg7 : FVec F S128x1 .f32) : IVec S5x128x20480 1 × IVec S5x128x20480x128 1 × IVec S5x128x128 1 × IVec S5x128x20480 1 × IVec S128x1 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : FVec F S128x100000 .f32 := fn_gumbel (F := F) main_v6
  let main_cst : FVec F S_ .f32 := constant S_ .f32 0x00000000#32
  let main_v8 : FVec F S128x2400 .f32 := broadcastInDim S128x2400 ![] bcast_S_S128x2400 main_cst
  let main_v9 : FVec F S128x102400 .f32 := (fun a b => concatenate S128x102400 1 [⟨S128x100000, a⟩, ⟨S128x2400, b⟩] concatenates_S128x100000_S128x2400_S128x102400_d1) main_v7 main_v8
  let main_v10 : FVec F S128x5x20480 .f32 := shapeCast S128x5x20480 main_v9 shapeCasts_S128x102400_S128x5x20480
  let main_v11 : FVec F S5x128x20480 .f32 := (transpose S5x128x20480 [1, 0, 2] · transposes_S128x5x20480_S5x128x20480_1_0_2) main_v10
  let main_v12 : IVec S5x128x32x640 32 := iotaInDim S5x128x32x640 32 2
  let main_v13 : IVec S5x128x1x640 32 := broadcastInDim S5x128x1x640 ![0, 1, 3] bcast_S5x128x640_S5x128x1x640_0_1_3 main_arg3
  let main_v14 : IVec S5x128x32x640 32 := broadcastInDim S5x128x32x640 ![0, 1, 2, 3] bcast_S5x128x1x640_S5x128x32x640_0_1_2_3 main_v13
  let main_v15 : IVec S5x128x32x640 32 := Host.shrui main_v14 main_v12
  let main_c_2 : IVec S_ 32 := constantI S_ 32 1#32
  let main_v16 : IVec S5x128x32x640 32 := broadcastInDim S5x128x32x640 ![] bcast_S_S5x128x32x640 main_c_2
  let main_v17 : IVec S5x128x32x640 32 := andi main_v15 main_v16
  let main_c_3 : IVec S_ 32 := constantI S_ 32 0#32
  fn_part1 (F := F) main_arg4 main_arg5 main_arg6 main_arg7 main_v11 main_v17 main_c_3
-- ==== Kernel.lean ====
abbrev S128x64 : Shape := ⟨2, ![128, 64]⟩
abbrev S64x100000 : Shape := ⟨2, ![64, 100000]⟩
abbrev S100000 : Shape := ⟨1, ![100000]⟩
abbrev S5x128x640 : Shape := ⟨3, ![5, 128, 640]⟩
abbrev S5x1x20480 : Shape := ⟨3, ![5, 1, 20480]⟩
abbrev S5x128x128 : Shape := ⟨3, ![5, 128, 128]⟩
abbrev S128x1 : Shape := ⟨2, ![128, 1]⟩
abbrev S1x100000 : Shape := ⟨2, ![1, 100000]⟩
abbrev S64x20480 : Shape := ⟨2, ![64, 20480]⟩
abbrev S1x20480 : Shape := ⟨2, ![1, 20480]⟩
abbrev S1x128x640 : Shape := ⟨3, ![1, 128, 640]⟩
abbrev S1x1x20480 : Shape := ⟨3, ![1, 1, 20480]⟩
abbrev S1x128x128 : Shape := ⟨3, ![1, 128, 128]⟩
abbrev S128x20480 : Shape := ⟨2, ![128, 20480]⟩
abbrev S128 : Shape := ⟨1, ![128]⟩
abbrev S128x640 : Shape := ⟨2, ![128, 640]⟩
abbrev S128x128 : Shape := ⟨2, ![128, 128]⟩
abbrev S_ : Shape := ⟨0, ![]⟩

abbrev nBuf : Space → Nat
  | .hbm => 23
  | .vmem => 27
  | .smem => 0
  | _ => 0

abbrev bufTy : (tb : Table) → Fin (tcTables nBuf tb) → BufTy
  | .hbm, ⟨0, _⟩ => ⟨S128x64, .f32⟩
  | .hbm, ⟨1, _⟩ => ⟨S64x100000, .f32⟩
  | .hbm, ⟨2, _⟩ => ⟨S100000, .f32⟩
  | .hbm, ⟨3, _⟩ => ⟨S5x128x640, .i32⟩
  | .hbm, ⟨4, _⟩ => ⟨S5x1x20480, .i32⟩
  | .hbm, ⟨5, _⟩ => ⟨S5x128x128, .f32⟩
  | .hbm, ⟨6, _⟩ => ⟨S5x128x128, .i32⟩
  | .hbm, ⟨7, _⟩ => ⟨S128x1, .f32⟩
  | .hbm, ⟨8, _⟩ => ⟨S1x100000, .f32⟩
  | .hbm, ⟨9, _⟩ => ⟨S128x1, .f32⟩
  | .hbm, ⟨10, _⟩ => ⟨S128x1, .i32⟩
  | .hbm, ⟨11, _⟩ => ⟨S128x1, .f32⟩
  | .hbm, ⟨12, _⟩ => ⟨S128x1, .f32⟩
  | .hbm, ⟨13, _⟩ => ⟨S128x1, .i1⟩
  | .hbm, ⟨14, _⟩ => ⟨S_, .i1⟩
  | .hbm, ⟨15, _⟩ => ⟨S_, .i1⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128x1, .i32⟩
  | .hbm, ⟨20, _⟩ => ⟨S128, .i32⟩
  | .hbm, ⟨21, _⟩ => ⟨S_, .f32⟩
  | .hbm, ⟨22, _⟩ => ⟨S128, .f32⟩
  | .local _ .vmem, ⟨0, _⟩ => ⟨S128x64, .f32⟩
  | .local _ .vmem, ⟨1, _⟩ => ⟨S64x20480, .f32⟩
  | .local _ .vmem, ⟨2, _⟩ => ⟨S64x20480, .f32⟩
  | .local _ .vmem, ⟨3, _⟩ => ⟨S1x20480, .f32⟩
  | .local _ .vmem, ⟨4, _⟩ => ⟨S1x20480, .f32⟩
  | .local _ .vmem, ⟨5, _⟩ => ⟨S1x128x640, .i32⟩
  | .local _ .vmem, ⟨6, _⟩ => ⟨S1x128x640, .i32⟩
  | .local _ .vmem, ⟨7, _⟩ => ⟨S1x1x20480, .i32⟩
  | .local _ .vmem, ⟨8, _⟩ => ⟨S1x1x20480, .i32⟩
  | .local _ .vmem, ⟨9, _⟩ => ⟨S1x128x128, .f32⟩
  | .local _ .vmem, ⟨10, _⟩ => ⟨S1x128x128, .f32⟩
  | .local _ .vmem, ⟨11, _⟩ => ⟨S1x128x128, .i32⟩
  | .local _ .vmem, ⟨12, _⟩ => ⟨S1x128x128, .i32⟩
  | .local _ .vmem, ⟨13, _⟩ => ⟨S128x1, .f32⟩
  | .local _ .vmem, ⟨14, _⟩ => ⟨S128x1, .i32⟩
  | .local _ .vmem, ⟨15, _⟩ => ⟨S128x1, .f32⟩
  | .local _ .vmem, ⟨16, _⟩ => ⟨S128x1, .f32⟩
  | .local _ .vmem, ⟨17, _⟩ => ⟨S128x1, .i32⟩
  | .local _ .vmem, ⟨18, _⟩ => ⟨S128x1, .f32⟩
  | .local _ .vmem, ⟨19, _⟩ => ⟨S128x64, .f32⟩
  | .local _ .vmem, ⟨20, _⟩ => ⟨S64x20480, .f32⟩
  | .local _ .vmem, ⟨21, _⟩ => ⟨S64x20480, .f32⟩
  | .local _ .vmem, ⟨22, _⟩ => ⟨S1x20480, .f32⟩
  | .local _ .vmem, ⟨23, _⟩ => ⟨S1x20480, .f32⟩
  | .local _ .vmem, ⟨24, _⟩ => ⟨S128x1, .i32⟩
  | .local _ .vmem, ⟨25, _⟩ => ⟨S128x1, .f32⟩
  | .local _ .vmem, ⟨26, _⟩ => ⟨S128x1, .i32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_case0b0_v9 : Ref sig .tc := ⟨.hbm, 19, rfl⟩
abbrev main_case0b0_v10 : Ref sig .tc := ⟨.hbm, 20, rfl⟩
abbrev main_cst : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32_60 : BitVec 32 := 4#32
  let v179 : BitVec 1 := Scalar.cmpi .eq arg0 c4_i32_60
  let v180 : BitVec 32 := Scalar.extui v179
  let c0_i32_61 : BitVec 32 := 0#32
  let v181 : BitVec 1 := Scalar.cmpi .ne v180 c0_i32_61
  v181

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x20480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20480 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x640 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x20480 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![5], ![false]⟩

def k1_cond3 (i : grid1.Coords) : BitVec 1 :=
  let arg0 : BitVec 32 := BitVec.ofNat 32 (i 0).val
  let c4_i32_59 : BitVec 32 := 4#32
  let v228 : BitVec 1 := Scalar.cmpi .eq arg0 c4_i32_59
  let v229 : BitVec 32 := Scalar.extui v228
  let c0_i32_60 : BitVec 32 := 0#32
  let v230 : BitVec 1 := Scalar.cmpi .ne v229 c0_i32_60
  v230

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x20480 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x20480 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S128x64 : Shape := ⟨2, ![128, 64]⟩
abbrev S64x100000 : Shape := ⟨2, ![64, 100000]⟩
abbrev S100000 : Shape := ⟨1, ![100000]⟩
abbrev S5x128x640 : Shape := ⟨3, ![5, 128, 640]⟩
abbrev S5x1x20480 : Shape := ⟨3, ![5, 1, 20480]⟩
abbrev S5x128x128 : Shape := ⟨3, ![5, 128, 128]⟩
abbrev S128x1 : Shape := ⟨2, ![128, 1]⟩
abbrev S128x100000 : Shape := ⟨2, ![128, 100000]⟩
abbrev S1x100000 : Shape := ⟨2, ![1, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩

abbrev nBuf : Space → Nat
  | .hbm => 300
  | .vmem => 0
  | .smem => 0
  | _ => 0

abbrev hbmTy0_0 (i : Nat) : BufTy := match i % 128 with
  | 0 => ⟨S128x64, .f32⟩
  | 1 => ⟨S64x100000, .f32⟩
  | 2 => ⟨S100000, .f32⟩
  | 3 => ⟨S5x128x640, .i32⟩
  | 4 => ⟨S5x1x20480, .i32⟩
  | 5 => ⟨S5x128x128, .f32⟩
  | 6 => ⟨S5x128x128, .i32⟩
  | 7 => ⟨S128x1, .f32⟩
  | 8 => ⟨S128x100000, .f32⟩
  | 9 => ⟨S1x100000, .f32⟩
  | 10 => ⟨S128x100000, .f32⟩
  | 11 => ⟨S128x100000, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S_, .f32⟩
  | 23 => ⟨S_, .f32⟩
  | 24 => ⟨S_, .f32⟩
  | 25 => ⟨S1x1, .f32⟩
  | 26 => ⟨S1x1, .f32⟩
  | 27 => ⟨S1, .i32⟩
  | 28 => ⟨S_, .i32⟩
  | 29 => ⟨S1, .i32⟩
  | 30 => ⟨S_, .i32⟩
  | 31 => ⟨S128x100000, .i64⟩
  | 32 => ⟨S128x100000, .i64⟩
  | 33 => ⟨S_, .i64⟩
  | 34 => ⟨S128x100000, .i64⟩
  | 35 => ⟨S128x100000, .i64⟩
  | 36 => ⟨S_, .i64⟩
  | 37 => ⟨S128x100000, .i64⟩
  | 38 => ⟨S128x100000, .i64⟩
  | 39 => ⟨S128x100000, .i64⟩
  | 40 => ⟨S_, .i64⟩
  | 41 => ⟨S128x100000, .i64⟩
  | 42 => ⟨S128x100000, .i64⟩
  | 43 => ⟨S128x100000, .i32⟩
  | 44 => ⟨S128x100000, .i32⟩
  | 45 => ⟨S_, .i32⟩
  | 46 => ⟨S_, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x64, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S128x100000, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x64, .f32⟩

abbrev hbmTy0_2 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .f32⟩
  | 19 => ⟨S_, .f32⟩
  | 20 => ⟨S128x100000, .f32⟩
  | 21 => ⟨S128x100000, .f32⟩
  | 22 => ⟨S1x1, .f32⟩
  | 23 => ⟨S128x100000, .f32⟩
  | 24 => ⟨S128x100000, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S128x100000, .f32⟩
  | 31 => ⟨S128x100000, .f32⟩
  | 32 => ⟨S128x100000, .f32⟩
  | 33 => ⟨S128x100000, .f32⟩
  | 34 => ⟨S128x100000, .i32⟩
  | 35 => ⟨S_, .f32⟩
  | 36 => ⟨S_, .i32⟩
  | 37 => ⟨S128, .f32⟩
  | 38 => ⟨S128, .i32⟩
  | 39 => ⟨S_, .f32⟩
  | 40 => ⟨S128, .f32⟩
  | 41 => ⟨S_, .f32⟩
  | 42 => ⟨S128, .f32⟩
  | 43 => ⟨S128, .f32⟩
  | _ => ⟨S128x64, .f32⟩

abbrev hbmTy (i : Nat) : BufTy := match i / 128 with
  | 0 => hbmTy0_0 i
  | 1 => hbmTy0_1 i
  | 2 => hbmTy0_2 i
  | _ => ⟨S128x64, .f32⟩

abbrev bufTy : (tb : Table) → Fin (tcTables nBuf tb) → BufTy
  | .hbm, ⟨i, _⟩ => hbmTy i
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_cst_0 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_c : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_c_0 : Ref sig .tc := ⟨.hbm, 36, rfl⟩
abbrev main_call0_call0_v11 : Ref sig .tc := ⟨.hbm, 37, rfl⟩
abbrev main_call0_call0_v12 : Ref sig .tc := ⟨.hbm, 38, rfl⟩
abbrev main_call0_call0_v13 : Ref sig .tc := ⟨.hbm, 39, rfl⟩
abbrev main_call0_call0_c_1 : Ref sig .tc := ⟨.hbm, 40, rfl⟩
abbrev main_call0_call0_v14 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_v17 : Ref sig .tc := ⟨.hbm, 44, rfl⟩
abbrev main_call0_call0_call0_v0 : Ref sig .tc := ⟨.hbm, 45, rfl⟩
abbrev main_call0_call0_call0_c : Ref sig .tc := ⟨.hbm, 46, rfl⟩
abbrev main_call0_call0_call0_v1 : Ref sig .tc := ⟨.hbm, 47, rfl⟩
abbrev main_call0_call0_call0_v2 : Ref sig .tc := ⟨.hbm, 48, rfl⟩
abbrev main_call0_call0_call0_v3 : Ref sig .tc := ⟨.hbm, 49, rfl⟩
abbrev main_call0_call0_call0_v4 : Ref sig .tc := ⟨.hbm, 50, rfl⟩
abbrev main_call0_call0_call0_v5 : Ref sig .tc := ⟨.hbm, 51, rfl⟩
abbrev main_call0_call0_call0_v6 : Ref sig .tc := ⟨.hbm, 52, rfl⟩
abbrev main_call0_call0_call0_c_0 : Ref sig .tc := ⟨.hbm, 53, rfl⟩
abbrev main_call0_call0_call0_v7 : Ref sig .tc := ⟨.hbm, 54, rfl⟩
abbrev main_call0_call0_call0_v8 : Ref sig .tc := ⟨.hbm, 55, rfl⟩
abbrev main_call0_call0_call0_c_1 : Ref sig .tc := ⟨.hbm, 56, rfl⟩
abbrev main_call0_call0_call0_v9 : Ref sig .tc := ⟨.hbm, 57, rfl⟩
abbrev main_call0_call0_call0_v10 : Ref sig .tc := ⟨.hbm, 58, rfl⟩
abbrev main_call0_call0_call0_v11 : Ref sig .tc := ⟨.hbm, 59, rfl⟩
abbrev main_call0_call0_call0_v12 : Ref sig .tc := ⟨.hbm, 60, rfl⟩
abbrev main_call0_call0_call0_v13 : Ref sig .tc := ⟨.hbm, 61, rfl⟩
abbrev main_call0_call0_call0_c_2 : Ref sig .tc := ⟨.hbm, 62, rfl⟩
abbrev main_call0_call0_call0_v14 : Ref sig .tc := ⟨.hbm, 63, rfl⟩
abbrev main_call0_call0_call0_v15 : Ref sig .tc := ⟨.hbm, 64, rfl⟩
abbrev main_call0_call0_call0_c_3 : Ref sig .tc := ⟨.hbm, 65, rfl⟩
abbrev main_call0_call0_call0_v16 : Ref sig .tc := ⟨.hbm, 66, rfl⟩
abbrev main_call0_call0_call0_v17 : Ref sig .tc := ⟨.hbm, 67, rfl⟩
abbrev main_call0_call0_call0_v18 : Ref sig .tc := ⟨.hbm, 68, rfl⟩
abbrev main_call0_call0_call0_v19 : Ref sig .tc := ⟨.hbm, 69, rfl⟩
abbrev main_call0_call0_call0_v20 : Ref sig .tc := ⟨.hbm, 70, rfl⟩
abbrev main_call0_call0_call0_c_4 : Ref sig .tc := ⟨.hbm, 71, rfl⟩
abbrev main_call0_call0_call0_v21 : Ref sig .tc := ⟨.hbm, 72, rfl⟩
abbrev main_call0_call0_call0_v22 : Ref sig .tc := ⟨.hbm, 73, rfl⟩
abbrev main_call0_call0_call0_c_5 : Ref sig .tc := ⟨.hbm, 74, rfl⟩
abbrev main_call0_call0_call0_v23 : Ref sig .tc := ⟨.hbm, 75, rfl⟩
abbrev main_call0_call0_call0_v24 : Ref sig .tc := ⟨.hbm, 76, rfl⟩
abbrev main_call0_call0_call0_v25 : Ref sig .tc := ⟨.hbm, 77, rfl⟩
abbrev main_call0_call0_call0_v26 : Ref sig .tc := ⟨.hbm, 78, rfl⟩
abbrev main_call0_call0_call0_v27 : Ref sig .tc := ⟨.hbm, 79, rfl⟩
abbrev main_call0_call0_call0_c_6 : Ref sig .tc := ⟨.hbm, 80, rfl⟩
abbrev main_call0_call0_call0_v28 : Ref sig .tc := ⟨.hbm, 81, rfl⟩
abbrev main_call0_call0_call0_v29 : Ref sig .tc := ⟨.hbm, 82, rfl⟩
abbrev main_call0_call0_call0_c_7 : Ref sig .tc := ⟨.hbm, 83, rfl⟩
abbrev main_call0_call0_call0_v30 : Ref sig .tc := ⟨.hbm, 84, rfl⟩
abbrev main_call0_call0_call0_v31 : Ref sig .tc := ⟨.hbm, 85, rfl⟩
abbrev main_call0_call0_call0_v32 : Ref sig .tc := ⟨.hbm, 86, rfl⟩
abbrev main_call0_call0_call0_v33 : Ref sig .tc := ⟨.hbm, 87, rfl⟩
abbrev main_call0_call0_call0_v34 : Ref sig .tc := ⟨.hbm, 88, rfl⟩
abbrev main_call0_call0_call0_v35 : Ref sig .tc := ⟨.hbm, 89, rfl⟩
abbrev main_call0_call0_call0_v36 : Ref sig .tc := ⟨.hbm, 90, rfl⟩
abbrev main_call0_call0_call0_v37 : Ref sig .tc := ⟨.hbm, 91, rfl⟩
abbrev main_call0_call0_call0_c_8 : Ref sig .tc := ⟨.hbm, 92, rfl⟩
abbrev main_call0_call0_call0_v38 : Ref sig .tc := ⟨.hbm, 93, rfl⟩
abbrev main_call0_call0_call0_v39 : Ref sig .tc := ⟨.hbm, 94, rfl⟩
abbrev main_call0_call0_call0_v40 : Ref sig .tc := ⟨.hbm, 95, rfl⟩
abbrev main_call0_call0_call0_c_9 : Ref sig .tc := ⟨.hbm, 96, rfl⟩
abbrev main_call0_call0_call0_v41 : Ref sig .tc := ⟨.hbm, 97, rfl⟩
abbrev main_call0_call0_call0_v42 : Ref sig .tc := ⟨.hbm, 98, rfl⟩
abbrev main_call0_call0_call0_c_10 : Ref sig .tc := ⟨.hbm, 99, rfl⟩
abbrev main_call0_call0_call0_v43 : Ref sig .tc := ⟨.hbm, 100, rfl⟩
abbrev main_call0_call0_call0_v44 : Ref sig .tc := ⟨.hbm, 101, rfl⟩
abbrev main_call0_call0_call0_v45 : Ref sig .tc := ⟨.hbm, 102, rfl⟩
abbrev main_call0_call0_call0_v46 : Ref sig .tc := ⟨.hbm, 103, rfl⟩
abbrev main_call0_call0_call0_v47 : Ref sig .tc := ⟨.hbm, 104, rfl⟩
abbrev main_call0_call0_call0_c_11 : Ref sig .tc := ⟨.hbm, 105, rfl⟩
abbrev main_call0_call0_call0_v48 : Ref sig .tc := ⟨.hbm, 106, rfl⟩
abbrev main_call0_call0_call0_v49 : Ref sig .tc := ⟨.hbm, 107, rfl⟩
abbrev main_call0_call0_call0_c_12 : Ref sig .tc := ⟨.hbm, 108, rfl⟩
abbrev main_call0_call0_call0_v50 : Ref sig .tc := ⟨.hbm, 109, rfl⟩
abbrev main_call0_call0_call0_v51 : Ref sig .tc := ⟨.hbm, 110, rfl⟩
abbrev main_call0_call0_call0_v52 : Ref sig .tc := ⟨.hbm, 111, rfl⟩
abbrev main_call0_call0_call0_v53 : Ref sig .tc := ⟨.hbm, 112, rfl⟩
abbrev main_call0_call0_call0_v54 : Ref sig .tc := ⟨.hbm, 113, rfl⟩
abbrev main_call0_call0_call0_c_13 : Ref sig .tc := ⟨.hbm, 114, rfl⟩
abbrev main_call0_call0_call0_v55 : Ref sig .tc := ⟨.hbm, 115, rfl⟩
abbrev main_call0_call0_call0_v56 : Ref sig .tc := ⟨.hbm, 116, rfl⟩
abbrev main_call0_call0_call0_c_14 : Ref sig .tc := ⟨.hbm, 117, rfl⟩
abbrev main_call0_call0_call0_v57 : Ref sig .tc := ⟨.hbm, 118, rfl⟩
abbrev main_call0_call0_call0_v58 : Ref sig .tc := ⟨.hbm, 119, rfl⟩
abbrev main_call0_call0_call0_v59 : Ref sig .tc := ⟨.hbm, 120, rfl⟩
abbrev main_call0_call0_call0_v60 : Ref sig .tc := ⟨.hbm, 121, rfl⟩
abbrev main_call0_call0_call0_v61 : Ref sig .tc := ⟨.hbm, 122, rfl⟩
abbrev main_call0_call0_call0_c_15 : Ref sig .tc := ⟨.hbm, 123, rfl⟩
abbrev main_call0_call0_call0_v62 : Ref sig .tc := ⟨.hbm, 124, rfl⟩
abbrev main_call0_call0_call0_v63 : Ref sig .tc := ⟨.hbm, 125, rfl⟩
abbrev main_call0_call0_call0_c_16 : Ref sig .tc := ⟨.hbm, 126, rfl⟩
abbrev main_call0_call0_call0_v64 : Ref sig .tc := ⟨.hbm, 127, rfl⟩
abbrev main_call0_call0_call0_v65 : Ref sig .tc := ⟨.hbm, 128, rfl⟩
abbrev main_call0_call0_call0_v66 : Ref sig .tc := ⟨.hbm, 129, rfl⟩
abbrev main_call0_call0_call0_v67 : Ref sig .tc := ⟨.hbm, 130, rfl⟩
abbrev main_call0_call0_call0_v68 : Ref sig .tc := ⟨.hbm, 131, rfl⟩
abbrev main_call0_call0_call0_v69 : Ref sig .tc := ⟨.hbm, 132, rfl⟩
abbrev main_call0_call0_call0_v70 : Ref sig .tc := ⟨.hbm, 133, rfl⟩
abbrev main_call0_call0_call0_v71 : Ref sig .tc := ⟨.hbm, 134, rfl⟩
abbrev main_call0_call0_call0_c_17 : Ref sig .tc := ⟨.hbm, 135, rfl⟩
abbrev main_call0_call0_call0_v72 : Ref sig .tc := ⟨.hbm, 136, rfl⟩
abbrev main_call0_call0_call0_v73 : Ref sig .tc := ⟨.hbm, 137, rfl⟩
abbrev main_call0_call0_call0_v74 : Ref sig .tc := ⟨.hbm, 138, rfl⟩
abbrev main_call0_call0_call0_c_18 : Ref sig .tc := ⟨.hbm, 139, rfl⟩
abbrev main_call0_call0_call0_v75 : Ref sig .tc := ⟨.hbm, 140, rfl⟩
abbrev main_call0_call0_call0_v76 : Ref sig .tc := ⟨.hbm, 141, rfl⟩
abbrev main_call0_call0_call0_c_19 : Ref sig .tc := ⟨.hbm, 142, rfl⟩
abbrev main_call0_call0_call0_v77 : Ref sig .tc := ⟨.hbm, 143, rfl⟩
abbrev main_call0_call0_call0_v78 : Ref sig .tc := ⟨.hbm, 144, rfl⟩
abbrev main_call0_call0_call0_v79 : Ref sig .tc := ⟨.hbm, 145, rfl⟩
abbrev main_call0_call0_call0_v80 : Ref sig .tc := ⟨.hbm, 146, rfl⟩
abbrev main_call0_call0_call0_v81 : Ref sig .tc := ⟨.hbm, 147, rfl⟩
abbrev main_call0_call0_call0_c_20 : Ref sig .tc := ⟨.hbm, 148, rfl⟩
abbrev main_call0_call0_call0_v82 : Ref sig .tc := ⟨.hbm, 149, rfl⟩
abbrev main_call0_call0_call0_v83 : Ref sig .tc := ⟨.hbm, 150, rfl⟩
abbrev main_call0_call0_call0_c_21 : Ref sig .tc := ⟨.hbm, 151, rfl⟩
abbrev main_call0_call0_call0_v84 : Ref sig .tc := ⟨.hbm, 152, rfl⟩
abbrev main_call0_call0_call0_v85 : Ref sig .tc := ⟨.hbm, 153, rfl⟩
abbrev main_call0_call0_call0_v86 : Ref sig .tc := ⟨.hbm, 154, rfl⟩
abbrev main_call0_call0_call0_v87 : Ref sig .tc := ⟨.hbm, 155, rfl⟩
abbrev main_call0_call0_call0_v88 : Ref sig .tc := ⟨.hbm, 156, rfl⟩
abbrev main_call0_call0_call0_c_22 : Ref sig .tc := ⟨.hbm, 157, rfl⟩
abbrev main_call0_call0_call0_v89 : Ref sig .tc := ⟨.hbm, 158, rfl⟩
abbrev main_call0_call0_call0_v90 : Ref sig .tc := ⟨.hbm, 159, rfl⟩
abbrev main_call0_call0_call0_c_23 : Ref sig .tc := ⟨.hbm, 160, rfl⟩
abbrev main_call0_call0_call0_v91 : Ref sig .tc := ⟨.hbm, 161, rfl⟩
abbrev main_call0_call0_call0_v92 : Ref sig .tc := ⟨.hbm, 162, rfl⟩
abbrev main_call0_call0_call0_v93 : Ref sig .tc := ⟨.hbm, 163, rfl⟩
abbrev main_call0_call0_call0_v94 : Ref sig .tc := ⟨.hbm, 164, rfl⟩
abbrev main_call0_call0_call0_v95 : Ref sig .tc := ⟨.hbm, 165, rfl⟩
abbrev main_call0_call0_call0_c_24 : Ref sig .tc := ⟨.hbm, 166, rfl⟩
abbrev main_call0_call0_call0_v96 : Ref sig .tc := ⟨.hbm, 167, rfl⟩
abbrev main_call0_call0_call0_v97 : Ref sig .tc := ⟨.hbm, 168, rfl⟩
abbrev main_call0_call0_call0_c_25 : Ref sig .tc := ⟨.hbm, 169, rfl⟩
abbrev main_call0_call0_call0_v98 : Ref sig .tc := ⟨.hbm, 170, rfl⟩
abbrev main_call0_call0_call0_v99 : Ref sig .tc := ⟨.hbm, 171, rfl⟩
abbrev main_call0_call0_call0_v100 : Ref sig .tc := ⟨.hbm, 172, rfl⟩
abbrev main_call0_call0_call0_v101 : Ref sig .tc := ⟨.hbm, 173, rfl⟩
abbrev main_call0_call0_call0_v102 : Ref sig .tc := ⟨.hbm, 174, rfl⟩
abbrev main_call0_call0_call0_v103 : Ref sig .tc := ⟨.hbm, 175, rfl⟩
abbrev main_call0_call0_call0_v104 : Ref sig .tc := ⟨.hbm, 176, rfl⟩
abbrev main_call0_call0_call0_v105 : Ref sig .tc := ⟨.hbm, 177, rfl⟩
abbrev main_call0_call0_call0_c_26 : Ref sig .tc := ⟨.hbm, 178, rfl⟩
abbrev main_call0_call0_call0_v106 : Ref sig .tc := ⟨.hbm, 179, rfl⟩
abbrev main_call0_call0_call0_v107 : Ref sig .tc := ⟨.hbm, 180, rfl⟩
abbrev main_call0_call0_call0_v108 : Ref sig .tc := ⟨.hbm, 181, rfl⟩
abbrev main_call0_call0_call0_c_27 : Ref sig .tc := ⟨.hbm, 182, rfl⟩
abbrev main_call0_call0_call0_v109 : Ref sig .tc := ⟨.hbm, 183, rfl⟩
abbrev main_call0_call0_call0_v110 : Ref sig .tc := ⟨.hbm, 184, rfl⟩
abbrev main_call0_call0_call0_c_28 : Ref sig .tc := ⟨.hbm, 185, rfl⟩
abbrev main_call0_call0_call0_v111 : Ref sig .tc := ⟨.hbm, 186, rfl⟩
abbrev main_call0_call0_call0_v112 : Ref sig .tc := ⟨.hbm, 187, rfl⟩
abbrev main_call0_call0_call0_v113 : Ref sig .tc := ⟨.hbm, 188, rfl⟩
abbrev main_call0_call0_call0_v114 : Ref sig .tc := ⟨.hbm, 189, rfl⟩
abbrev main_call0_call0_call0_v115 : Ref sig .tc := ⟨.hbm, 190, rfl⟩
abbrev main_call0_call0_call0_c_29 : Ref sig .tc := ⟨.hbm, 191, rfl⟩
abbrev main_call0_call0_call0_v116 : Ref sig .tc := ⟨.hbm, 192, rfl⟩
abbrev main_call0_call0_call0_v117 : Ref sig .tc := ⟨.hbm, 193, rfl⟩
abbrev main_call0_call0_call0_c_30 : Ref sig .tc := ⟨.hbm, 194, rfl⟩
abbrev main_call0_call0_call0_v118 : Ref sig .tc := ⟨.hbm, 195, rfl⟩
abbrev main_call0_call0_call0_v119 : Ref sig .tc := ⟨.hbm, 196, rfl⟩
abbrev main_call0_call0_call0_v120 : Ref sig .tc := ⟨.hbm, 197, rfl⟩
abbrev main_call0_call0_call0_v121 : Ref sig .tc := ⟨.hbm, 198, rfl⟩
abbrev main_call0_call0_call0_v122 : Ref sig .tc := ⟨.hbm, 199, rfl⟩
abbrev main_call0_call0_call0_c_31 : Ref sig .tc := ⟨.hbm, 200, rfl⟩
abbrev main_call0_call0_call0_v123 : Ref sig .tc := ⟨.hbm, 201, rfl⟩
abbrev main_call0_call0_call0_v124 : Ref sig .tc := ⟨.hbm, 202, rfl⟩
abbrev main_call0_call0_call0_c_32 : Ref sig .tc := ⟨.hbm, 203, rfl⟩
abbrev main_call0_call0_call0_v125 : Ref sig .tc := ⟨.hbm, 204, rfl⟩
abbrev main_call0_call0_call0_v126 : Ref sig .tc := ⟨.hbm, 205, rfl⟩
abbrev main_call0_call0_call0_v127 : Ref sig .tc := ⟨.hbm, 206, rfl⟩
abbrev main_call0_call0_call0_v128 : Ref sig .tc := ⟨.hbm, 207, rfl⟩
abbrev main_call0_call0_call0_v129 : Ref sig .tc := ⟨.hbm, 208, rfl⟩
abbrev main_call0_call0_call0_c_33 : Ref sig .tc := ⟨.hbm, 209, rfl⟩
abbrev main_call0_call0_call0_v130 : Ref sig .tc := ⟨.hbm, 210, rfl⟩
abbrev main_call0_call0_call0_v131 : Ref sig .tc := ⟨.hbm, 211, rfl⟩
abbrev main_call0_call0_call0_c_34 : Ref sig .tc := ⟨.hbm, 212, rfl⟩
abbrev main_call0_call0_call0_v132 : Ref sig .tc := ⟨.hbm, 213, rfl⟩
abbrev main_call0_call0_call0_v133 : Ref sig .tc := ⟨.hbm, 214, rfl⟩
abbrev main_call0_call0_call0_v134 : Ref sig .tc := ⟨.hbm, 215, rfl⟩
abbrev main_call0_call0_call0_v135 : Ref sig .tc := ⟨.hbm, 216, rfl⟩
abbrev main_call0_call0_call0_v136 : Ref sig .tc := ⟨.hbm, 217, rfl⟩
abbrev main_call0_call0_call0_v137 : Ref sig .tc := ⟨.hbm, 218, rfl⟩
abbrev main_call0_call0_call0_v138 : Ref sig .tc := ⟨.hbm, 219, rfl⟩
abbrev main_call0_call0_call0_v139 : Ref sig .tc := ⟨.hbm, 220, rfl⟩
abbrev main_call0_call0_call0_c_35 : Ref sig .tc := ⟨.hbm, 221, rfl⟩
abbrev main_call0_call0_call0_v140 : Ref sig .tc := ⟨.hbm, 222, rfl⟩
abbrev main_call0_call0_call0_v141 : Ref sig .tc := ⟨.hbm, 223, rfl⟩
abbrev main_call0_call0_call0_v142 : Ref sig .tc := ⟨.hbm, 224, rfl⟩
abbrev main_call0_call0_call0_c_36 : Ref sig .tc := ⟨.hbm, 225, rfl⟩
abbrev main_call0_call0_call0_v143 : Ref sig .tc := ⟨.hbm, 226, rfl⟩
abbrev main_call0_call0_call0_v144 : Ref sig .tc := ⟨.hbm, 227, rfl⟩
abbrev main_call0_call0_call0_c_37 : Ref sig .tc := ⟨.hbm, 228, rfl⟩
abbrev main_call0_call0_call0_v145 : Ref sig .tc := ⟨.hbm, 229, rfl⟩
abbrev main_call0_call0_call0_v146 : Ref sig .tc := ⟨.hbm, 230, rfl⟩
abbrev main_call0_call0_call0_v147 : Ref sig .tc := ⟨.hbm, 231, rfl⟩
abbrev main_call0_call0_call0_v148 : Ref sig .tc := ⟨.hbm, 232, rfl⟩
abbrev main_call0_call0_call0_v149 : Ref sig .tc := ⟨.hbm, 233, rfl⟩
abbrev main_call0_call0_call0_c_38 : Ref sig .tc := ⟨.hbm, 234, rfl⟩
abbrev main_call0_call0_call0_v150 : Ref sig .tc := ⟨.hbm, 235, rfl⟩
abbrev main_call0_call0_call0_v151 : Ref sig .tc := ⟨.hbm, 236, rfl⟩
abbrev main_call0_call0_call0_c_39 : Ref sig .tc := ⟨.hbm, 237, rfl⟩
abbrev main_call0_call0_call0_v152 : Ref sig .tc := ⟨.hbm, 238, rfl⟩
abbrev main_call0_call0_call0_v153 : Ref sig .tc := ⟨.hbm, 239, rfl⟩
abbrev main_call0_call0_call0_v154 : Ref sig .tc := ⟨.hbm, 240, rfl⟩
abbrev main_call0_call0_call0_v155 : Ref sig .tc := ⟨.hbm, 241, rfl⟩
abbrev main_call0_call0_call0_v156 : Ref sig .tc := ⟨.hbm, 242, rfl⟩
abbrev main_call0_call0_call0_c_40 : Ref sig .tc := ⟨.hbm, 243, rfl⟩
abbrev main_call0_call0_call0_v157 : Ref sig .tc := ⟨.hbm, 244, rfl⟩
abbrev main_call0_call0_call0_v158 : Ref sig .tc := ⟨.hbm, 245, rfl⟩
abbrev main_call0_call0_call0_c_41 : Ref sig .tc := ⟨.hbm, 246, rfl⟩
abbrev main_call0_call0_call0_v159 : Ref sig .tc := ⟨.hbm, 247, rfl⟩
abbrev main_call0_call0_call0_v160 : Ref sig .tc := ⟨.hbm, 248, rfl⟩
abbrev main_call0_call0_call0_v161 : Ref sig .tc := ⟨.hbm, 249, rfl⟩
abbrev main_call0_call0_call0_v162 : Ref sig .tc := ⟨.hbm, 250, rfl⟩
abbrev main_call0_call0_call0_v163 : Ref sig .tc := ⟨.hbm, 251, rfl⟩
abbrev main_call0_call0_call0_c_42 : Ref sig .tc := ⟨.hbm, 252, rfl⟩
abbrev main_call0_call0_call0_v164 : Ref sig .tc := ⟨.hbm, 253, rfl⟩
abbrev main_call0_call0_call0_v165 : Ref sig .tc := ⟨.hbm, 254, rfl⟩
abbrev main_call0_call0_call0_c_43 : Ref sig .tc := ⟨.hbm, 255, rfl⟩
abbrev main_call0_call0_call0_v166 : Ref sig .tc := ⟨.hbm, 256, rfl⟩
abbrev main_call0_call0_call0_v167 : Ref sig .tc := ⟨.hbm, 257, rfl⟩
abbrev main_call0_call0_call0_v168 : Ref sig .tc := ⟨.hbm, 258, rfl⟩
abbrev main_call0_call0_call0_v169 : Ref sig .tc := ⟨.hbm, 259, rfl⟩
abbrev main_call0_call0_call0_v170 : Ref sig .tc := ⟨.hbm, 260, rfl⟩
abbrev main_call0_call0_v18_0 : Ref sig .tc := ⟨.hbm, 261, rfl⟩
abbrev main_call0_call0_call0_v172 : Ref sig .tc := ⟨.hbm, 262, rfl⟩
abbrev main_call0_call0_call0_v173 : Ref sig .tc := ⟨.hbm, 263, rfl⟩
abbrev main_call0_call0_call0_c_44 : Ref sig .tc := ⟨.hbm, 264, rfl⟩
abbrev main_call0_call0_call0_v174 : Ref sig .tc := ⟨.hbm, 265, rfl⟩
abbrev main_call0_call0_v18_1 : Ref sig .tc := ⟨.hbm, 266, rfl⟩
abbrev main_call0_call0_v19 : Ref sig .tc := ⟨.hbm, 267, rfl⟩
abbrev main_call0_call0_c_2 : Ref sig .tc := ⟨.hbm, 268, rfl⟩
abbrev main_call0_call0_v20 : Ref sig .tc := ⟨.hbm, 269, rfl⟩
abbrev main_call0_call0_v21 : Ref sig .tc := ⟨.hbm, 270, rfl⟩
abbrev main_call0_call0_c_3 : Ref sig .tc := ⟨.hbm, 271, rfl⟩
abbrev main_call0_call0_v22 : Ref sig .tc := ⟨.hbm, 272, rfl⟩
abbrev main_call0_call0_v23 : Ref sig .tc := ⟨.hbm, 273, rfl⟩
abbrev main_call0_call0_v24 : Ref sig .tc := ⟨.hbm, 274, rfl⟩
abbrev main_call0_call0_cst : Ref sig .tc := ⟨.hbm, 275, rfl⟩
abbrev main_call0_call0_v25 : Ref sig .tc := ⟨.hbm, 276, rfl⟩
abbrev main_call0_call0_v26 : Ref sig .tc := ⟨.hbm, 277, rfl⟩
abbrev main_call0_call0_v27 : Ref sig .tc := ⟨.hbm, 278, rfl⟩
abbrev main_call0_call0_v28 : Ref sig .tc := ⟨.hbm, 279, rfl⟩
abbrev main_call0_call0_v29 : Ref sig .tc := ⟨.hbm, 280, rfl⟩
abbrev main_call0_call0_v30 : Ref sig .tc := ⟨.hbm, 281, rfl⟩
abbrev main_call0_call0_v31 : Ref sig .tc := ⟨.hbm, 282, rfl⟩
abbrev main_call0_call0_v32 : Ref sig .tc := ⟨.hbm, 283, rfl⟩
abbrev main_call0_v0 : Ref sig .tc := ⟨.hbm, 284, rfl⟩
abbrev main_call0_v1 : Ref sig .tc := ⟨.hbm, 285, rfl⟩
abbrev main_call0_v2 : Ref sig .tc := ⟨.hbm, 286, rfl⟩
abbrev main_call0_v3 : Ref sig .tc := ⟨.hbm, 287, rfl⟩
abbrev main_v11 : Ref sig .tc := ⟨.hbm, 288, rfl⟩
abbrev main_v12 : Ref sig .tc := ⟨.hbm, 289, rfl⟩
abbrev main_call1_v0 : Ref sig .tc := ⟨.hbm, 290, rfl⟩
abbrev main_call1_cst : Ref sig .tc := ⟨.hbm, 291, rfl⟩
abbrev main_call1_c : Ref sig .tc := ⟨.hbm, 292, rfl⟩
abbrev main_call1_v1_0 : Ref sig .tc := ⟨.hbm, 293, rfl⟩
abbrev main_v13 : Ref sig .tc := ⟨.hbm, 294, rfl⟩
abbrev main_cst : Ref sig .tc := ⟨.hbm, 295, rfl⟩
abbrev main_v14 : Ref sig .tc := ⟨.hbm, 296, rfl⟩
abbrev main_cst_2 : Ref sig .tc := ⟨.hbm, 297, rfl⟩
abbrev main_v15 : Ref sig .tc := ⟨.hbm, 298, rfl⟩
abbrev main_v16 : Ref sig .tc := ⟨.hbm, 299, rfl⟩

abbrev nD : Nat := 1
abbrev τ : Topo := Topo.v7x

variable {F : FTy → Type} [FloatOps F]
-- ==== Proof.Base.lean ====
/-
  Loads and stores of a whole memref: a load of the whole box reads the contents, a store of the whole box leaves its
  payload, and a load after such a store reads the payload.
-/
module

public import proofs.«01_k».proof.Proof.Gen.KernelIdeal.Skeleton
public import Idealize.ShloMosaic.Lib.Tactic
public import Idealize.ShloMosaic.Lib.Pipeline.Kit
public import Idealize.ShloMosaic.Lib.Pipeline.Frame
public import Idealize.ShloMosaic.Lib.WholeRead

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's once per pipeline (the second pipeline's parts wait beside the
    program until @main's conditional runs it). -/
abbrev UU (nD : Nat) (τ : Topo) : Type := UR sig nD τ × UR sig nD τ

section

variable {κ : Kind} {sp : Space} {sh : Shape} {e : EltTy} {M : Memref sig κ sp sh e}

omit [FloatOps F] in
/-- A load of the whole box at offsets zero reads the contents. -/
theorem readAt_box (h : M.IsWhole) (X : sh.Idx → Elt F e) (o : Fin sh.rank → ℕ) (ho : ∀ a, o a = 0)
    (inb : ∀ a, o a + sh.size a ≤ sh.size a) :
    M.view.readAt (Elt F) (Rect.unit (s := sh) o sh.size inb).toLoadRect (h.unread X) = X := by
  funext y
  rw [h.readAt_unread]
  refine congrArg X (funext fun a => Fin.ext ?_)
  show o a + 1 * (y a : Nat) = y a
  rw [ho a]; omega

omit [FloatOps F] in
/-- The whole box at offsets zero is the whole rectangle. -/
theorem box_eq (o : Fin sh.rank → ℕ) (ho : ∀ a, o a = 0) (inb : ∀ a, o a + sh.size a ≤ sh.size a) :
    Rect.unit (s := sh) o sh.size inb = Rect.whole sh := by
  obtain rfl : o = fun _ => 0 := funext ho
  rfl

omit [FloatOps F] in
/-- A store of the whole box leaves its payload. -/
theorem read_box (f : M.view.ty.Contents (Elt F)) (o : Fin sh.rank → ℕ) (ho : ∀ a, o a = 0)
    (inb : ∀ a, o a + sh.size a ≤ sh.size a) (X : sh.Idx → Elt F e) :
    M.view.read (Elt F) (M.view.writes (Elt F) f [⟨Rect.unit (s := sh) o sh.size inb, X⟩]) = X := by
  obtain rfl : o = fun _ => 0 := funext ho
  exact View.read_writes_whole M.view f X

/-- A load of the whole box after a store of it reads the payload. -/
theorem readCov_box (o : Fin sh.rank → ℕ) (ho : ∀ a, o a = 0)
    (inb inb' : ∀ a, o a + sh.size a ≤ sh.size a) (X : sh.Idx → Elt F e) :
    M.view.readCov (Val := Elt F) [⟨Rect.unit (s := sh) o sh.size inb, X⟩] (Rect.unit (s := sh) o sh.size inb').toLoadRect = X := by
  funext y
  unfold View.readCov
  rw [View.readAt_apply, read_box _ o ho inb X]
  refine congrArg X (funext fun a => Fin.ext ?_)
  show o a + 1 * (y a : Nat) = y a
  rw [ho a]; omega

end

/-- Two zeros are zero, -/
theorem zero2 : ∀ a, (![0, 0] : Fin 2 → ℕ) a = 0 := by decide
/-- and three. -/
theorem zero3 : ∀ a, (![0, 0, 0] : Fin 3 → ℕ) a = 0 := by decide

end Cert.KernelIdeal.Own

end
-- ==== Proof.FastBody.lean ====
/-
  The body of the fast call, run once at symbolic operands: from its thirteen memrefs held whole, the three scratch
  buffers are handed back at the running best score, its column and the running maximum of the logits (at the
  first grid point, at the tile's own), and, at the last grid point, the three results' buffers at those.
-/
module

public import proofs.«01_k».proof.Proof.Gen.KernelIdeal.Skeleton
public import Idealize.ShloMosaic.Lib.Tactic
public import Idealize.ShloMosaic.Lib.Pipeline.Kit
public import Idealize.ShloMosaic.Lib.Pipeline.Frame
public import Idealize.ShloMosaic.Lib.WholeRead
public import proofs.«01_k».proof.Proof.Base

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A tile's logits, zero where the tile's mask is not set. -/
def fZ (x : Vec F S128x64 .f32) (w : Vec F S64x20480 .f32) (b : Vec F S1x20480 .f32) (m : Vec F S1x128x640 .i32) : FVec F S128x20480 .f32 :=
  k0_pay41 (k0_pay11 x w b) (k0_pay13 m) (k0_pay14 m) (k0_pay15 m) (k0_pay16 m) (k0_pay17 m)
    (k0_pay19 (k0_pay13 m) k0_pay18) (k0_pay20 (k0_pay13 m)) (k0_pay21 (k0_pay13 m)) (k0_pay22 (k0_pay13 m)) (k0_pay23 (k0_pay13 m)) (k0_pay24 (k0_pay13 m)) (k0_pay25 (k0_pay13 m)) (k0_pay26 (k0_pay13 m)) (k0_pay27 (k0_pay13 m)) (k0_pay28 (k0_pay13 m))
    (k0_pay30 (k0_pay13 m) k0_pay29) (k0_pay31 (k0_pay13 m)) (k0_pay32 (k0_pay13 m)) (k0_pay33 (k0_pay13 m)) (k0_pay34 (k0_pay13 m)) (k0_pay35 (k0_pay13 m)) (k0_pay36 (k0_pay13 m)) (k0_pay37 (k0_pay13 m)) (k0_pay38 (k0_pay13 m)) (k0_pay39 (k0_pay13 m)) k0_pay40
/-- The row number, at every column. -/
def fRow : IVec S128x20480 32 := iota .tc S128x20480 32 [0] iota_S128x20480_d0_w32

set_option maxHeartbeats 4000000 in
/-- At the first grid point the scratch takes the tile's own values. -/
theorem fast_first (c : Dev nD) (E : Set ℕ) (i : grid0.Coords) (arg1 : Memref sig .tc .vmem S128x64 .f32) (harg1 : arg1.IsWhole) (arg2 : Memref sig .tc .vmem S64x20480 .f32) (harg2 : arg2.IsWhole) (arg3 : Memref sig .tc .vmem S1x20480 .f32) (harg3 : arg3.IsWhole) (arg4 : Memref sig .tc .vmem S1x128x640 .i32) (harg4 : arg4.IsWhole) (arg5 : Memref sig .tc .vmem S1x1x20480 .i32) (harg5 : arg5.IsWhole) (arg6 : Memref sig .tc .vmem S1x128x128 .f32) (harg6 : arg6.IsWhole) (arg7 : Memref sig .tc .vmem S1x128x128 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x1 .i32) (harg12 : arg12.IsWhole) (arg13 : Memref sig .tc .vmem S128x1 .f32) (harg13 : arg13.IsWhole)
    (x : Vec F S128x64 .f32) (w : Vec F S64x20480 .f32) (b : Vec F S1x20480 .f32) (m : Vec F S1x128x640 .i32) (sl : Vec F S1x1x20480 .i32) (g : Vec F S1x128x128 .f32) (ix : Vec F S1x128x128 .i32) (y1 : Vec F S128x1 .f32) (y2 : Vec F S128x1 .i32) (y3 : Vec F S128x1 .f32) (s : Vec F S128x1 .f32) (n : Vec F S128x1 .i32) (l : Vec F S128x1 .f32) (K : PUnit → sProp 𝕄)
    (h1 : (Scalar.cmpi .ne (Scalar.extui (Scalar.cmpi .eq (BitVec.ofNat 32 (i 0).val) 0#32) : BitVec 32) 0#32 = 1#1)) (h2 : ¬ (Scalar.cmpi .ne (Scalar.extui (Scalar.cmpi .sgt (BitVec.ofNat 32 (i 0).val) 0#32) : BitVec 32) 0#32 = 1#1)) (h3 : ¬ (k0_cond3 i = 1#1)) :
    iprop(owns (c : Thread nD τ) arg1 fullShare x
      ∗ owns (c : Thread nD τ) arg2 fullShare w
      ∗ owns (c : Thread nD τ) arg3 fullShare b
      ∗ owns (c : Thread nD τ) arg4 fullShare m
      ∗ owns (c : Thread nD τ) arg5 fullShare sl
      ∗ owns (c : Thread nD τ) arg6 fullShare g
      ∗ owns (c : Thread nD τ) arg7 fullShare ix
      ∗ owns (c : Thread nD τ) arg8 fullShare y1
      ∗ owns (c : Thread nD τ) arg9 fullShare y2
      ∗ owns (c : Thread nD τ) arg10 fullShare y3
      ∗ owns (c : Thread nD τ) arg11 fullShare s
      ∗ owns (c : Thread nD τ) arg12 fullShare n
      ∗ owns (c : Thread nD τ) arg13 fullShare l
      ∗ (iprop(owns (c : Thread nD τ) arg1 fullShare x
      ∗ owns (c : Thread nD τ) arg2 fullShare w
      ∗ owns (c : Thread nD τ) arg3 fullShare b
      ∗ owns (c : Thread nD τ) arg4 fullShare m
      ∗ owns (c : Thread nD τ) arg5 fullShare sl
      ∗ owns (c : Thread nD τ) arg6 fullShare g
      ∗ owns (c : Thread nD τ) arg7 fullShare ix
      ∗ owns (c : Thread nD τ) arg8 fullShare y1
      ∗ owns (c : Thread nD τ) arg9 fullShare y2
      ∗ owns (c : Thread nD τ) arg10 fullShare y3
      ∗ owns (c : Thread nD τ) arg11 fullShare (k0_pay4 (fZ x w b m) fRow (k0_pay42 sl) g)
      ∗ owns (c : Thread nD τ) arg12 fullShare (k0_pay5 (fZ x w b m) fRow (k0_pay42 sl) g ix)
      ∗ owns (c : Thread nD τ) arg13 fullShare (k0_pay6 (k0_pay12 i x w b))) -∗ K ⟨⟩))
    ⊢ wp frame (wpE (defs₀ (F := F)) Variants.none c none) E (cc0__fast_body i arg1 harg1 arg2 harg2 arg3 harg3 arg4 harg4 arg5 harg5 arg6 harg6 arg7 harg7 arg8 harg8 arg9 harg9 arg10 harg10 arg11 harg11 arg12 harg12 arg13 harg13) K := by
  simp only [cc0__fast_body_eq_skeleton]; unfold cc0__fast_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  have e1 := readAt_box harg1 x ![0, 0] zero2 inb_S128x64_S128x64_0_0
  have e2 := readAt_box harg2 w ![0, 0] zero2 inb_S64x20480_S64x20480_0_0
  have e3 := readAt_box harg3 b ![0, 0] zero2 inb_S1x20480_S1x20480_0_0
  have e4 := readAt_box harg4 m ![0, 0, 0] zero3 inb_S1x128x640_S1x128x640_0_0_0
  have e5 := readAt_box harg5 sl ![0, 0, 0] zero3 inb_S1x1x20480_S1x1x20480_0_0_0
  have e6 := readAt_box harg6 g ![0, 0, 0] zero3 inb_S1x128x128_S1x128x128_0_0_0
  have e7 := readAt_box harg7 ix ![0, 0, 0] zero3 inb_S1x128x128_S1x128x128_0_0_0
  have e8 := readAt_box harg8 y1 ![0, 0] zero2 inb_S128x1_S128x1_0_0
  have e9 := readAt_box harg9 y2 ![0, 0] zero2 inb_S128x1_S128x1_0_0
  have e10 := readAt_box harg10 y3 ![0, 0] zero2 inb_S128x1_S128x1_0_0
  have e11 := readAt_box harg11 s ![0, 0] zero2 inb_S128x1_S128x1_0_0
  have e12 := readAt_box harg12 n ![0, 0] zero2 inb_S128x1_S128x1_0_0
  have e13 := readAt_box harg13 l ![0, 0] zero2 inb_S128x1_S128x1_0_0
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; refine (read_box _ _ zero2 _ _).trans ?_
    rfl
  isplitl [H12]
  · iexists _; isplitr; swap; · iexact H12
    ipureintro; refine (read_box _ _ zero2 _ _).trans ?_
    rfl
  · iexists _; isplitr; swap; · iexact H13
    ipureintro; refine (read_box _ _ zero2 _ _).trans ?_
    rfl

set_option maxHeartbeats 4000000 in
/-- At a later point the scratch is merged with the tile's values. -/
theorem fast_mid (c : Dev nD) (E : Set ℕ) (i : grid0.Coords) (arg1 : Memref sig .tc .vmem S128x64 .f32) (harg1 : arg1.IsWhole) (arg2 : Memref sig .tc .vmem S64x20480 .f32) (harg2 : arg2.IsWhole) (arg3 : Memref sig .tc .vmem S1x20480 .f32) (harg3 : arg3.IsWhole) (arg4 : Memref sig .tc .vmem S1x128x640 .i32) (harg4 : arg4.IsWhole) (arg5 : Memref sig .tc .vmem S1x1x20480 .i32) (harg5 : arg5.IsWhole) (arg6 : Memref sig .tc .vmem S1x128x128 .f32) (harg6 : arg6.IsWhole) (arg7 : Memref sig .tc .vmem S1x128x128 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x1 .i32) (harg12 : arg12.IsWhole) (arg13 : Memref sig .tc .vmem S128x1 .f32) (harg13 : arg13.IsWhole)
    (x : Vec F S128x64 .f32) (w : Vec F S64x20480 .f32) (b : Vec F S1x20480 .f32) (m : Vec F S1x128x640 .i32) (sl : Vec F S1x1x20480 .i32) (g : Vec F S1x128x128 .f32) (ix : Vec F S1x128x128 .i32) (y1 : Vec F S128x1 .f32) (y2 : Vec F S128x1 .i32) (y3 : Vec F S128x1 .f32) (s : Vec F S128x1 .f32) (n : Vec F S128x1 .i32) (l : Vec F S128x1 .f32) (K : PUnit → sProp 𝕄)
    (h1 : ¬ (Scalar.cmpi .ne (Scalar.extui (Scalar.cmpi .eq (BitVec.ofNat 32 (i 0).val) 0#32) : BitVec 32) 0#32 = 1#1)) (h2 : (Scalar.cmpi .ne (Scalar.extui (Scalar.cmpi .sgt (BitVec.ofNat 32 (i 0).val) 0#32) : BitVec 32) 0#32 = 1#1)) (h3 : ¬ (k0_cond3 i = 1#1)) :
    iprop(owns (c : Thread nD τ) arg1 fullShare x
      ∗ owns (c : Thread nD τ) arg2 fullShare w
      ∗ owns (c : Thread nD τ) arg3 fullShare b
      ∗ owns (c : Thread nD τ) arg4 fullShare m
      ∗ owns (c : Thread nD τ) arg5 fullShare sl
      ∗ owns (c : Thread nD τ) arg6 fullShare g
      ∗ owns (c : Thread nD τ) arg7 fullShare ix
      ∗ owns (c : Thread nD τ) arg8 fullShare y1
      ∗ owns (c : Thread nD τ) arg9 fullShare y2
      ∗ owns (c : Thread nD τ) arg10 fullShare y3
      ∗ owns (c : Thread nD τ) arg11 fullShare s
      ∗ owns (c : Thread nD τ) arg12 fullShare n
      ∗ owns (c : Thread nD τ) arg13 fullShare l
      ∗ (iprop(owns (c : Thread nD τ) arg1 fullShare x
      ∗ owns (c : Thread nD τ) arg2 fullShare w
      ∗ owns (c : Thread nD τ) arg3 fullShare b
      ∗ owns (c : Thread nD τ) arg4 fullShare m
      ∗ owns (c : Thread nD τ) arg5 fullShare sl
      ∗ owns (c : Thread nD τ) arg6 fullShare g
      ∗ owns (c : Thread nD τ) arg7 fullShare ix
      ∗ owns (c : Thread nD τ) arg8 fullShare y1
      ∗ owns (c : Thread nD τ) arg9 fullShare y2
      ∗ owns (c : Thread nD τ) arg10 fullShare y3
      ∗ owns (c : Thread nD τ) arg11 fullShare (k0_pay8 (fZ x w b m) fRow (k0_pay42 sl) g s s)
      ∗ owns (c : Thread nD τ) arg12 fullShare (k0_pay9 (fZ x w b m) fRow (k0_pay42 sl) g ix s n)
      ∗ owns (c : Thread nD τ) arg13 fullShare (k0_pay10 (k0_pay12 i x w b) l)) -∗ K ⟨⟩))
    ⊢ wp frame (wpE (defs₀ (F := F)) Variants.none c none) E (cc0__fast_body i arg1 harg1 arg2 harg2 arg3 harg3 arg4 harg4 arg5 harg5 arg6 harg6 arg7 harg7 arg8 harg8 arg9 harg9 arg10 harg10 arg11 harg11 arg12 harg12 arg13 harg13) K := by
  simp only [cc0__fast_body_eq_skeleton]; unfold cc0__fast_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  have e1 := readAt_box harg1 x ![0, 0] zero2 inb_S128x64_S128x64_0_0
  have e2 := readAt_box harg2 w ![0, 0] zero2 inb_S64x20480_S64x20480_0_0
  have e3 := readAt_box harg3 b ![0, 0] zero2 inb_S1x20480_S1x20480_0_0
  have e4 := readAt_box harg4 m ![0, 0, 0] zero3 inb_S1x128x640_S1x128x640_0_0_0
  have e5 := readAt_box harg5 sl ![0, 0, 0] zero3 inb_S1x1x20480_S1x1x20480_0_0_0
  have e6 := readAt_box harg6 g ![0, 0, 0] zero3 inb_S1x128x128_S1x128x128_0_0_0
  have e7 := readAt_box harg7 ix ![0, 0, 0] zero3 inb_S1x128x128_S1x128x128_0_0_0
  have e8 := readAt_box harg8 y1 ![0, 0] zero2 inb_S128x1_S128x1_0_0
  have e9 := readAt_box harg9 y2 ![0, 0] zero2 inb_S128x1_S128x1_0_0
  have e10 := readAt_box harg10 y3 ![0, 0] zero2 inb_S128x1_S128x1_0_0
  have e11 := readAt_box harg11 s ![0, 0] zero2 inb_S128x1_S128x1_0_0
  have e12 := readAt_box harg12 n ![0, 0] zero2 inb_S128x1_S128x1_0_0
  have e13 := readAt_box harg13 l ![0, 0] zero2 inb_S128x1_S128x1_0_0
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; refine (read_box _ _ zero2 _ _).trans ?_
    rfl
  isplitl [H12]
  · iexists _; isplitr; swap; · iexact H12
    ipureintro; refine (read_box _ _ zero2 _ _).trans ?_
    rfl
  · iexists _; isplitr; swap; · iexact H13
    ipureintro; refine (read_box _ _ zero2 _ _).trans ?_
    rfl

set_option maxHeartbeats 4000000 in
/-- At the last point the scratch is merged and stored to the results. -/
theorem fast_last (c : Dev nD) (E : Set ℕ) (i : grid0.Coords) (arg1 : Memref sig .tc .vmem S128x64 .f32) (harg1 : arg1.IsWhole) (arg2 : Memref sig .tc .vmem S64x20480 .f32) (harg2 : arg2.IsWhole) (arg3 : Memref sig .tc .vmem S1x20480 .f32) (harg3 : arg3.IsWhole) (arg4 : Memref sig .tc .vmem S1x128x640 .i32) (harg4 : arg4.IsWhole) (arg5 : Memref sig .tc .vmem S1x1x20480 .i32) (harg5 : arg5.IsWhole) (arg6 : Memref sig .tc .vmem S1x128x128 .f32) (harg6 : arg6.IsWhole) (arg7 : Memref sig .tc .vmem S1x128x128 .i32) (harg7 : arg7.IsWhole) (arg8 : Memref sig .tc .vmem S128x1 .f32) (harg8 : arg8.IsWhole) (arg9 : Memref sig .tc .vmem S128x1 .i32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x1 .i32) (harg12 : arg12.IsWhole) (arg13 : Memref sig .tc .vmem S128x1 .f32) (harg13 : arg13.IsWhole)
    (x : Vec F S128x64 .f32) (w : Vec F S64x20480 .f32) (b : Vec F S1x20480 .f32) (m : Vec F S1x128x640 .i32) (sl : Vec F S1x1x20480 .i32) (g : Vec F S1x128x128 .f32) (ix : Vec F S1x128x128 .i32) (y1 : Vec F S128x1 .f32) (y2 : Vec F S128x1 .i32) (y3 : Vec F S128x1 .f32) (s : Vec F S128x1 .f32) (n : Vec F S128x1 .i32) (l : Vec F S128x1 .f32) (K : PUnit → sProp 𝕄)
    (h1 : ¬ (Scalar.cmpi .ne (Scalar.extui (Scalar.cmpi .eq (BitVec.ofNat 32 (i 0).val) 0#32) : BitVec 32) 0#32 = 1#1)) (h2 : (Scalar.cmpi .ne (Scalar.extui (Scalar.cmpi .sgt (BitVec.ofNat 32 (i 0).val) 0#32) : BitVec 32) 0#32 = 1#1)) (h3 : (k0_cond3 i = 1#1)) :
    iprop(owns (c : Thread nD τ) arg1 fullShare x
      ∗ owns (c : Thread nD τ) arg2 fullShare w
      ∗ owns (c : Thread nD τ) arg3 fullShare b
      ∗ owns (c : Thread nD τ) arg4 fullShare m
      ∗ owns (c : Thread nD τ) arg5 fullShare sl
      ∗ owns (c : Thread nD τ) arg6 fullShare g
      ∗ owns (c : Thread nD τ) arg7 fullShare ix
      ∗ owns (c : Thread nD τ) arg8 fullShare y1
      ∗ owns (c : Thread nD τ) arg9 fullShare y2
      ∗ owns (c : Thread nD τ) arg10 fullShare y3
      ∗ owns (c : Thread nD τ) arg11 fullShare s
      ∗ owns (c : Thread nD τ) arg12 fullShare n
      ∗ owns (c : Thread nD τ) arg13 fullShare l
      ∗ (iprop(owns (c : Thread nD τ) arg1 fullShare x
      ∗ owns (c : Thread nD τ) arg2 fullShare w
      ∗ owns (c : Thread nD τ) arg3 fullShare b
      ∗ owns (c : Thread nD τ) arg4 fullShare m
      ∗ owns (c : Thread nD τ) arg5 fullShare sl
      ∗ owns (c : Thread nD τ) arg6 fullShare g
      ∗ owns (c : Thread nD τ) arg7 fullShare ix
      ∗ owns (c : Thread nD τ) arg8 fullShare (k0_pay8 (fZ x w b m) fRow (k0_pay42 sl) g s s)
      ∗ owns (c : Thread nD τ) arg9 fullShare (k0_pay9 (fZ x w b m) fRow (k0_pay42 sl) g ix s n)
      ∗ owns (c : Thread nD τ) arg10 fullShare (k0_pay10 (k0_pay12 i x w b) l)
      ∗ owns (c : Thread nD τ) arg11 fullShare (k0_pay8 (fZ x w b m) fRow (k0_pay42 sl) g s s)
      ∗ owns (c : Thread nD τ) arg12 fullShare (k0_pay9 (fZ x w b m) fRow (k0_pay42 sl) g ix s n)
      ∗ owns (c : Thread nD τ) arg13 fullShare (k0_pay10 (k0_pay12 i x w b) l)) -∗ K ⟨⟩))
    ⊢ wp frame (wpE (defs₀ (F := F)) Variants.none c none) E (cc0__fast_body i arg1 harg1 arg2 harg2 arg3 harg3 arg4 harg4 arg5 harg5 arg6 harg6 arg7 harg7 arg8 harg8 arg9 harg9 arg10 harg10 arg11 harg11 arg12 harg12 arg13 harg13) K := by
  simp only [cc0__fast_body_eq_skeleton]; unfold cc0__fast_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  have e1 := readAt_box harg1 x ![0, 0] zero2 inb_S128x64_S128x64_0_0
  have e2 := readAt_box harg2 w ![0, 0] zero2 inb_S64x20480_S64x20480_0_0
  have e3 := readAt_box harg3 b ![0, 0] zero2 inb_S1x20480_S1x20480_0_0
  have e4 := readAt_box harg4 m ![0, 0, 0] zero3 inb_S1x128x640_S1x128x640_0_0_0
  have e5 := readAt_box harg5 sl ![0, 0, 0] zero3 inb_S1x1x20480_S1x1x20480_0_0_0
  have e6 := readAt_box harg6 g ![0, 0, 0] zero3 inb_S1x128x128_S1x128x128_0_0_0
  have e7 := readAt_box harg7 ix ![0, 0, 0] zero3 inb_S1x128x128_S1x128x128_0_0_0
  have e8 := readAt_box harg8 y1 ![0, 0] zero2 inb_S128x1_S128x1_0_0
  have e9 := readAt_box harg9 y2 ![0, 0] zero2 inb_S128x1_S128x1_0_0
  have e10 := readAt_box harg10 y3 ![0, 0] zero2 inb_S128x1_S128x1_0_0
  have e11 := readAt_box harg11 s ![0, 0] zero2 inb_S128x1_S128x1_0_0
  have e12 := readAt_box harg12 n ![0, 0] zero2 inb_S128x1_S128x1_0_0
  have e13 := readAt_box harg13 l ![0, 0] zero2 inb_S128x1_S128x1_0_0
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; refine (read_box _ _ zero2 _ _).trans ?_
    exact readCov_box _ zero2 _ _ _
  isplitl [H9]
  · iexists _; isplitr; swap; · iexact H9
    ipureintro; refine (read_box _ _ zero2 _ _).trans ?_
    exact readCov_box _ zero2 _ _ _
  isplitl [H10]
  · iexists _; isplitr; swap; · iexact H10
    ipureintro; refine (read_box _ _ zero2 _ _).trans ?_
    exact readCov_box _ zero2 _ _ _
  isplitl [H11]
  · iexists _; isplitr; swap; · iexact H11
    ipureintro; refine (read_box _ _ zero2 _ _).trans ?_
    rfl
  isplitl [H12]
  · iexists _; isplitr; swap; · iexact H12
    ipureintro; refine (read_box _ _ zero2 _ _).trans ?_
    rfl
  · iexists _; isplitr; swap; · iexact H13
    ipureintro; refine (read_box _ _ zero2 _ _).trans ?_
    rfl

end Cert.KernelIdeal.Own

end
-- ==== Proof.FastData.lean ====
/-
  The proof data of the fast call's pipeline: which contents its scratch buffers may hold before each grid point,
  stated as a relation, since the part of a tile past the last column holds anything; and the body obligation.
-/
module

public import proofs.«01_k».proof.Proof.Gen.KernelIdeal.Points
public import proofs.«01_k».proof.Proof.Gen.KernelIdeal.Launch
public import Idealize.ShloMosaic.Lib.Pipeline.FrameBody
public import proofs.«01_k».proof.Proof.FastBody

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat)

variable {F : FTy → Type} [FloatOps F]

local notation "𝕄" => MT nD τ sig Unit (Elt F) ℕ (UU nD τ) ℕ

/-- At the first point, and there only, the coordinate is zero. -/
theorem cond0_zero : ∀ t : Fin grid0.N, t.val = 0 →
    (Scalar.cmpi .ne (Scalar.extui (Scalar.cmpi .eq (BitVec.ofNat 32 (grid0.coords t 0).val) 0#32) : BitVec 32) 0#32 = 1#1)
      ∧ ¬ (Scalar.cmpi .ne (Scalar.extui (Scalar.cmpi .sgt (BitVec.ofNat 32 (grid0.coords t 0).val) 0#32) : BitVec 32) 0#32 = 1#1) := by decide
theorem cond0_pos : ∀ t : Fin grid0.N, t.val ≠ 0 →
    ¬ (Scalar.cmpi .ne (Scalar.extui (Scalar.cmpi .eq (BitVec.ofNat 32 (grid0.coords t 0).val) 0#32) : BitVec 32) 0#32 = 1#1)
      ∧ (Scalar.cmpi .ne (Scalar.extui (Scalar.cmpi .sgt (BitVec.ofNat 32 (grid0.coords t 0).val) 0#32) : BitVec 32) 0#32 = 1#1) := by decide
/-- The last point is the one that writes the result. -/
theorem cond0_last : ∀ t : Fin grid0.N, (k0_cond3 (grid0.coords t) = 1#1) ↔ t.val = 4 := by decide

/-- The data the relation below is stated with: the arrays at their entry contents, every buffer left as found. -/
def arr0 (V : Dev nD → Valuation τ sig (Elt F)) (c : Dev nD) : RDat τ (Elt F) Unit ℕ (UU nD τ) ℕ cfg0 c where
  A w := V c (Proc.devRef .tc (Pipeline.arrRef spec0 w))
  after _ _ Y X := X = Y
  Φ _ := iprop(emp)
  q _ := fullShare
  owed _ := 0

/-- One grid point: from the scratch contents before it to those after it, for input blocks as they may be fetched. -/
def Step0 (V : Dev nD → Valuation τ sig (Elt F)) (c : Dev nD) (t : Fin cfg0.N) (s : Vec F S128x1 .f32) (n : Vec F S128x1 .i32) (l : Vec F S128x1 .f32) (s' : Vec F S128x1 .f32) (n' : Vec F S128x1 .i32) (l' : Vec F S128x1 .f32) : Prop :=
  ∃ (x : Vec F S128x64 .f32) (w : Vec F S64x20480 .f32) (b : Vec F S1x20480 .f32) (m : Vec F S1x128x640 .i32) (sl : Vec F S1x1x20480 .i32) (g : Vec F S1x128x128 .f32) (ix : Vec F S1x128x128 .i32),
    (∃ d, x = (arr0 V c).fetched 0 t d) ∧ (∃ d, w = (arr0 V c).fetched 1 t d) ∧ (∃ d, b = (arr0 V c).fetched 2 t d) ∧ (∃ d, m = (arr0 V c).fetched 3 t d) ∧ (∃ d, sl = (arr0 V c).fetched 4 t d) ∧ (∃ d, g = (arr0 V c).fetched 5 t d) ∧ (∃ d, ix = (arr0 V c).fetched 6 t d)
    ∧ (t.val = 0 → s' = k0_pay4 (fZ x w b m) fRow (k0_pay42 sl) g ∧ n' = k0_pay5 (fZ x w b m) fRow (k0_pay42 sl) g ix ∧ l' = k0_pay6 (k0_pay12 (grid0.coords t) x w b))
    ∧ (t.val ≠ 0 → s' = k0_pay8 (fZ x w b m) fRow (k0_pay42 sl) g s s ∧ n' = k0_pay9 (fZ x w b m) fRow (k0_pay42 sl) g ix s n ∧ l' = k0_pay10 (k0_pay12 (grid0.coords t) x w b) l)

/-- The scratch contents that may stand before grid point `k`. -/
def Reach0 (V : Dev nD → Valuation τ sig (Elt F)) (c : Dev nD) : ℕ → Vec F S128x1 .f32 → Vec F S128x1 .i32 → Vec F S128x1 .f32 → Prop
  | 0, _, _, _ => True
  | k + 1, s', n', l' => ∃ (h : k < cfg0.N) (s : Vec F S128x1 .f32) (n : Vec F S128x1 .i32) (l : Vec F S128x1 .f32), Reach0 V c k s n l ∧ Step0 V c ⟨k, h⟩ s n l s' n' l'

/-- The invariant: the scratch at contents that may stand there, the other call's buffers at anything. -/
def inv0 (V : Dev nD → Valuation τ sig (Elt F)) (c : Dev nD) (k : ℕ) : sProp 𝕄 :=
  iprop((∃ (s : Vec F S128x1 .f32) (n : Vec F S128x1 .i32) (l : Vec F S128x1 .f32), ⌜Reach0 V c k s n l⌝
    ∗ owns (c : Thread nD τ) (Memref.whole cc0_scratch0) fullShare s ∗ owns (c : Thread nD τ) (Memref.whole cc0_scratch1) fullShare n ∗ owns (c : Thread nD τ) (Memref.whole cc0_scratch2) fullShare l)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The pipeline's proof data: an input buffer is left as found, a result's buffer at the last point holds what the
    scratch may hold at the end. -/
def rd0 (V : Dev nD → Valuation τ sig (Elt F)) (c : Dev nD) : RDat τ (Elt F) Unit ℕ (UU nD τ) ℕ cfg0 c where
  A w := V c (Proc.devRef .tc (Pipeline.arrRef spec0 w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => (t.val = 4 → ∃ n l, Reach0 V c 5 X n l)
    | ⟨8, _⟩ => fun _ X => (t.val = 4 → ∃ s l, Reach0 V c 5 s X l)
    | ⟨9, _⟩ => fun _ X => (t.val = 4 → ∃ s n, Reach0 V c 5 s n X)
    | ⟨_ + 10, h⟩ => absurd h (Nat.not_lt.2 (Nat.le_add_left _ _))
  Φ t := inv0 V c t.val
  q _ := fullShare
  owed _ := 0

theorem found0_0 (V : Dev nD → Valuation τ sig (Elt F)) (c : Dev nD) (t : Fin cfg0.N) (Y : (cfg0.win 0).block.Idx → Elt F (cfg0.win 0).elt)
    (h : (rd0 V c).Finds 0 t Y) : ∃ d, Y = (arr0 V c).fetched 0 t d :=
  (rd0 V c).finds_in_eq_fetched 0 rfl (fun _ _ _ => rfl) (fun _ _ _ h => h) t Y h
theorem found0_1 (V : Dev nD → Valuation τ sig (Elt F)) (c : Dev nD) (t : Fin cfg0.N) (Y : (cfg0.win 1).block.Idx → Elt F (cfg0.win 1).elt)
    (h : (rd0 V c).Finds 1 t Y) : ∃ d, Y = (arr0 V c).fetched 1 t d :=
  ((rd0 V c).finds_of_fetch (fetch0_1 t) Y).mp h
theorem found0_2 (V : Dev nD → Valuation τ sig (Elt F)) (c : Dev nD) (t : Fin cfg0.N) (Y : (cfg0.win 2).block.Idx → Elt F (cfg0.win 2).elt)
    (h : (rd0 V c).Finds 2 t Y) : ∃ d, Y = (arr0 V c).fetched 2 t d :=
  ((rd0 V c).finds_of_fetch (fetch0_2 t) Y).mp h
theorem found0_3 (V : Dev nD → Valuation τ sig (Elt F)) (c : Dev nD) (t : Fin cfg0.N) (Y : (cfg0.win 3).block.Idx → Elt F (cfg0.win 3).elt)
    (h : (rd0 V c).Finds 3 t Y) : ∃ d, Y = (arr0 V c).fetched 3 t d :=
  ((rd0 V c).finds_of_fetch (fetch0_3 t) Y).mp h
theorem found0_4 (V : Dev nD → Valuation τ sig (Elt F)) (c : Dev nD) (t : Fin cfg0.N) (Y : (cfg0.win 4).block.Idx → Elt F (cfg0.win 4).elt)
    (h : (rd0 V c).Finds 4 t Y) : ∃ d, Y = (arr0 V c).fetched 4 t d :=
  ((rd0 V c).finds_of_fetch (fetch0_4 t) Y).mp h
theorem found0_5 (V : Dev nD → Valuation τ sig (Elt F)) (c : Dev nD) (t : Fin cfg0.N) (Y : (cfg0.win 5).block.Idx → Elt F (cfg0.win 5).elt)
    (h : (rd0 V c).Finds 5 t Y) : ∃ d, Y = (arr0 V c).fetched 5 t d :=
  ((rd0 V c).finds_of_fetch (fetch0_5 t) Y).mp h
theorem found0_6 (V : Dev nD → Valuation τ sig (Elt F)) (c : Dev nD) (t : Fin cfg0.N) (Y : (cfg0.win 6).block.Idx → Elt F (cfg0.win 6).elt)
    (h : (rd0 V c).Finds 6 t Y) : ∃ d, Y = (arr0 V c).fetched 6 t d :=
  ((rd0 V c).finds_of_fetch (fetch0_6 t) Y).mp h
/-- One more point, from what the body finds and leaves. -/
theorem reach0_succ (V : Dev nD → Valuation τ sig (Elt F)) (c : Dev nD) (t : Fin cfg0.N)
    (Y : (w : Fin cfg0.W) → (cfg0.win w).block.Idx → Elt F (cfg0.win w).elt) (hY : ∀ w, (rd0 V c).Finds w t (Y w))
    {s n l} {s' n' l'} (hr : Reach0 V c t.val s n l)
    (hz : t.val = 0 → s' = k0_pay4 (fZ (Y 0) (Y 1) (Y 2) (Y 3)) fRow (k0_pay42 (Y 4)) (Y 5) ∧ n' = k0_pay5 (fZ (Y 0) (Y 1) (Y 2) (Y 3)) fRow (k0_pay42 (Y 4)) (Y 5) (Y 6) ∧ l' = k0_pay6 (k0_pay12 (grid0.coords t) (Y 0) (Y 1) (Y 2)))
    (hp : t.val ≠ 0 → s' = k0_pay8 (fZ (Y 0) (Y 1) (Y 2) (Y 3)) fRow (k0_pay42 (Y 4)) (Y 5) s s ∧ n' = k0_pay9 (fZ (Y 0) (Y 1) (Y 2) (Y 3)) fRow (k0_pay42 (Y 4)) (Y 5) (Y 6) s n ∧ l' = k0_pay10 (k0_pay12 (grid0.coords t) (Y 0) (Y 1) (Y 2)) l) :
    Reach0 V c (t.val + 1) s' n' l' :=
  ⟨t.isLt, s, n, l, hr, Y 0, Y 1, Y 2, Y 3, Y 4, Y 5, Y 6, found0_0 V c t _ (hY 0), found0_1 V c t _ (hY 1), found0_2 V c t _ (hY 2), found0_3 V c t _ (hY 3), found0_4 V c t _ (hY 4), found0_5 V c t _ (hY 5), found0_6 V c t _ (hY 6), hz, hp⟩

set_option maxRecDepth 8192 in
set_option maxHeartbeats 2000000 in
set_option backward.isDefEq.respectTransparency.types false in
/-- The body obligation at every point. -/
theorem body_obligation0 (V : Dev nD → Valuation τ sig (Elt F)) (c : Dev nD) :
    (rd0 V c).BodyObligation (defs₀ (F := F)) Variants.none () Set.univ := by
  intro t Y hY
  rw [bigSep_W0]
  simp only [bigSep_W0]
  rw [show (rd0 V c).Φ t.castSucc = inv0 V c t.val from rfl, show (rd0 V c).Φ t.succ = inv0 V c (t.val + 1) from rfl]
  unfold inv0 RDat.owesAt Pipeline.owesWithin
  iintro ⟨⟨⟨%s, %n, %l, %hr, S0, S1, S2⟩, HR⟩, ⟨%W, %hW, HO⟩, H0, H1, H2, H3, H4, H5, H6, H7, H8, H9⟩
  rw [show (defs₀ (F := F) .tc cfg0.body (cfg0.bodyArgs t (cfg0.slots t))) = bodyAt0 t from rfl]
  by_cases h0 : t.val = 0
  · iapply (fast_first c Set.univ (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) ((cfg0.win 9).stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Y 0) (Y 1) (Y 2) (Y 3) (Y 4) (Y 5) (Y 6) (Y 7) (Y 8) (Y 9) s n l _ (cond0_zero t h0).1 (cond0_zero t h0).2 (fun h => by have := (cond0_last t).mp h; omega))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR]
    · isplitr [HR]; swap; · iexact HR
      iexists _; iexists _; iexists _
      isplitr
      · ipureintro; exact reach0_succ V c t Y hY hr (fun _ => ⟨rfl, rfl, rfl⟩) (fun h => absurd h0 h)
      isplitl [S0]; · iexact S0
      isplitl [S1]; · iexact S1
      iexact S2
    isplitl [HO]
    · iexists W
      isplitr
      · ipureintro; exact hW
      iexact HO
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    isplitl [H3]
    · iexists _; isplitr; swap
      · iexact H3
      ipureintro; exact rfl
    isplitl [H4]
    · iexists _; isplitr; swap
      · iexact H4
      ipureintro; exact rfl
    isplitl [H5]
    · iexists _; isplitr; swap
      · iexact H5
      ipureintro; exact rfl
    isplitl [H6]
    · iexists _; isplitr; swap
      · iexact H6
      ipureintro; exact rfl
    isplitl [H7]
    · iexists _; isplitr; swap
      · iexact H7
      ipureintro; exact (by intro h; omega)
    isplitl [H8]
    · iexists _; isplitr; swap
      · iexact H8
      ipureintro; exact (by intro h; omega)
    iexists _; isplitr; swap
    · iexact H9
    ipureintro; exact (by intro h; omega)
  by_cases h4 : t.val = 4
  · have h4r : t.val + 1 = 5 := by omega
    iapply (fast_last c Set.univ (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) ((cfg0.win 9).stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Y 0) (Y 1) (Y 2) (Y 3) (Y 4) (Y 5) (Y 6) (Y 7) (Y 8) (Y 9) s n l _ (cond0_pos t h0).1 (cond0_pos t h0).2 ((cond0_last t).mpr h4))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR]
    · isplitr [HR]; swap; · iexact HR
      iexists _; iexists _; iexists _
      isplitr
      · ipureintro; exact reach0_succ V c t Y hY hr (fun h => absurd h h0) (fun _ => ⟨rfl, rfl, rfl⟩)
      isplitl [S0]; · iexact S0
      isplitl [S1]; · iexact S1
      iexact S2
    isplitl [HO]
    · iexists W
      isplitr
      · ipureintro; exact hW
      iexact HO
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    isplitl [H3]
    · iexists _; isplitr; swap
      · iexact H3
      ipureintro; exact rfl
    isplitl [H4]
    · iexists _; isplitr; swap
      · iexact H4
      ipureintro; exact rfl
    isplitl [H5]
    · iexists _; isplitr; swap
      · iexact H5
      ipureintro; exact rfl
    isplitl [H6]
    · iexists _; isplitr; swap
      · iexact H6
      ipureintro; exact rfl
    isplitl [H7]
    · iexists _; isplitr; swap
      · iexact H7
      ipureintro; exact (fun _ => ⟨_, _, h4r ▸ reach0_succ V c t Y hY hr (fun h => absurd h h0) (fun _ => ⟨rfl, rfl, rfl⟩)⟩)
    isplitl [H8]
    · iexists _; isplitr; swap
      · iexact H8
      ipureintro; exact (fun _ => ⟨_, _, h4r ▸ reach0_succ V c t Y hY hr (fun h => absurd h h0) (fun _ => ⟨rfl, rfl, rfl⟩)⟩)
    iexists _; isplitr; swap
    · iexact H9
    ipureintro; exact (fun _ => ⟨_, _, h4r ▸ reach0_succ V c t Y hY hr (fun h => absurd h h0) (fun _ => ⟨rfl, rfl, rfl⟩)⟩)
  · iapply (fast_mid c Set.univ (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) ((cfg0.win 9).stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Y 0) (Y 1) (Y 2) (Y 3) (Y 4) (Y 5) (Y 6) (Y 7) (Y 8) (Y 9) s n l _ (cond0_pos t h0).1 (cond0_pos t h0).2 (fun h => h4 ((cond0_last t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR]
    · isplitr [HR]; swap; · iexact HR
      iexists _; iexists _; iexists _
      isplitr
      · ipureintro; exact reach0_succ V c t Y hY hr (fun h => absurd h h0) (fun _ => ⟨rfl, rfl, rfl⟩)
      isplitl [S0]; · iexact S0
      isplitl [S1]; · iexact S1
      iexact S2
    isplitl [HO]
    · iexists W
      isplitr
      · ipureintro; exact hW
      iexact HO
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    isplitl [H3]
    · iexists _; isplitr; swap
      · iexact H3
      ipureintro; exact rfl
    isplitl [H4]
    · iexists _; isplitr; swap
      · iexact H4
      ipureintro; exact rfl
    isplitl [H5]
    · iexists _; isplitr; swap
      · iexact H5
      ipureintro; exact rfl
    isplitl [H6]
    · iexists _; isplitr; swap
      · iexact H6
      ipureintro; exact rfl
    isplitl [H7]
    · iexists _; isplitr; swap
      · iexact H7
      ipureintro; exact (fun h => absurd h h4)
    isplitl [H8]
    · iexists _; isplitr; swap
      · iexact H8
      ipureintro; exact (fun h => absurd h h4)
    iexists _; isplitr; swap
    · iexact H9
    ipureintro; exact (fun h => absurd h h4)

end Cert.KernelIdeal.Own

end
-- ==== Proof.DenseBody.lean ====
/-
  The body of the dense call, run once at symbolic operands: from its six memrefs held whole, the two scratch
  buffers are handed back at the merged running maximum and its column (or, at the first grid point, at the
  tile's own), and, at the last grid point, the result's buffer at the column.
-/
module

public import proofs.«01_k».proof.Proof.Gen.KernelIdeal.Skeleton
public import Idealize.ShloMosaic.Lib.Tactic
public import Idealize.ShloMosaic.Lib.Pipeline.Kit
public import Idealize.ShloMosaic.Lib.Pipeline.Frame
public import Idealize.ShloMosaic.Lib.WholeRead
public import proofs.«01_k».proof.Proof.Base

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A tile's noise plus logits, minus infinity past the last column. -/
def dScore (i : grid1.Coords) (x : Vec F S128x64 .f32) (w : Vec F S64x20480 .f32) (b : Vec F S1x20480 .f32) : FVec F S128x20480 .f32 :=
  k1_pay54 (k1_pay7 x w b) (k1_pay8 i)
    (k1_pay51 (k1_pay37 (k1_pay26 (k1_pay15 i) (k1_pay16 i) k1_pay17) (k1_pay27 (k1_pay15 i) (k1_pay16 i) k1_pay17)) (k1_pay38 (k1_pay26 (k1_pay15 i) (k1_pay16 i) k1_pay17) (k1_pay27 (k1_pay15 i) (k1_pay16 i) k1_pay17)) (k1_pay39 (k1_pay26 (k1_pay15 i) (k1_pay16 i) k1_pay17) (k1_pay27 (k1_pay15 i) (k1_pay16 i) k1_pay17)) k1_pay40)
    (k1_pay52 (k1_pay37 (k1_pay26 (k1_pay15 i) (k1_pay16 i) k1_pay17) (k1_pay27 (k1_pay15 i) (k1_pay16 i) k1_pay17)) (k1_pay38 (k1_pay26 (k1_pay15 i) (k1_pay16 i) k1_pay17) (k1_pay27 (k1_pay15 i) (k1_pay16 i) k1_pay17)) (k1_pay39 (k1_pay26 (k1_pay15 i) (k1_pay16 i) k1_pay17) (k1_pay27 (k1_pay15 i) (k1_pay16 i) k1_pay17)) k1_pay40)
    k1_pay53
/-- The tile's row maximum. -/
def dMax (i : grid1.Coords) (x : Vec F S128x64 .f32) (w : Vec F S64x20480 .f32) (b : Vec F S1x20480 .f32) : FVec F S128x1 .f32 :=
  k1_pay55 (k1_pay7 x w b) (k1_pay8 i)
    (k1_pay51 (k1_pay37 (k1_pay26 (k1_pay15 i) (k1_pay16 i) k1_pay17) (k1_pay27 (k1_pay15 i) (k1_pay16 i) k1_pay17)) (k1_pay38 (k1_pay26 (k1_pay15 i) (k1_pay16 i) k1_pay17) (k1_pay27 (k1_pay15 i) (k1_pay16 i) k1_pay17)) (k1_pay39 (k1_pay26 (k1_pay15 i) (k1_pay16 i) k1_pay17) (k1_pay27 (k1_pay15 i) (k1_pay16 i) k1_pay17)) k1_pay40)
    (k1_pay52 (k1_pay37 (k1_pay26 (k1_pay15 i) (k1_pay16 i) k1_pay17) (k1_pay27 (k1_pay15 i) (k1_pay16 i) k1_pay17)) (k1_pay38 (k1_pay26 (k1_pay15 i) (k1_pay16 i) k1_pay17) (k1_pay27 (k1_pay15 i) (k1_pay16 i) k1_pay17)) (k1_pay39 (k1_pay26 (k1_pay15 i) (k1_pay16 i) k1_pay17) (k1_pay27 (k1_pay15 i) (k1_pay16 i) k1_pay17)) k1_pay40)
    k1_pay53
/-- Per row, each column that attains the maximum, and the largest integer elsewhere. -/
def dIdx (i : grid1.Coords) (x : Vec F S128x64 .f32) (w : Vec F S64x20480 .f32) (b : Vec F S1x20480 .f32) : IVec S128x20480 32 :=
  k1_pay56 (k1_pay7 x w b) (k1_pay8 i)
    (k1_pay51 (k1_pay37 (k1_pay26 (k1_pay15 i) (k1_pay16 i) k1_pay17) (k1_pay27 (k1_pay15 i) (k1_pay16 i) k1_pay17)) (k1_pay38 (k1_pay26 (k1_pay15 i) (k1_pay16 i) k1_pay17) (k1_pay27 (k1_pay15 i) (k1_pay16 i) k1_pay17)) (k1_pay39 (k1_pay26 (k1_pay15 i) (k1_pay16 i) k1_pay17) (k1_pay27 (k1_pay15 i) (k1_pay16 i) k1_pay17)) k1_pay40)
    (k1_pay52 (k1_pay37 (k1_pay26 (k1_pay15 i) (k1_pay16 i) k1_pay17) (k1_pay27 (k1_pay15 i) (k1_pay16 i) k1_pay17)) (k1_pay38 (k1_pay26 (k1_pay15 i) (k1_pay16 i) k1_pay17) (k1_pay27 (k1_pay15 i) (k1_pay16 i) k1_pay17)) (k1_pay39 (k1_pay26 (k1_pay15 i) (k1_pay16 i) k1_pay17) (k1_pay27 (k1_pay15 i) (k1_pay16 i) k1_pay17)) k1_pay40)
    k1_pay53

set_option maxHeartbeats 4000000 in
/-- At the first grid point the scratch takes the tile's own values. -/
theorem dense_first (c : Dev nD) (E : Set ℕ) (i : grid1.Coords) (arg1 : Memref sig .tc .vmem S128x64 .f32) (harg1 : arg1.IsWhole) (arg2 : Memref sig .tc .vmem S64x20480 .f32) (harg2 : arg2.IsWhole) (arg3 : Memref sig .tc .vmem S1x20480 .f32) (harg3 : arg3.IsWhole) (arg4 : Memref sig .tc .vmem S128x1 .i32) (harg4 : arg4.IsWhole) (arg5 : Memref sig .tc .vmem S128x1 .f32) (harg5 : arg5.IsWhole) (arg6 : Memref sig .tc .vmem S128x1 .i32) (harg6 : arg6.IsWhole)
    (x : Vec F S128x64 .f32) (w : Vec F S64x20480 .f32) (b : Vec F S1x20480 .f32) (y : Vec F S128x1 .i32) (s : Vec F S128x1 .f32) (n : Vec F S128x1 .i32) (K : PUnit → sProp 𝕄)
    (h1 : (Scalar.cmpi .ne (Scalar.extui (Scalar.cmpi .eq (BitVec.ofNat 32 (i 0).val) 0#32) : BitVec 32) 0#32 = 1#1)) (h2 : ¬ (Scalar.cmpi .ne (Scalar.extui (Scalar.cmpi .sgt (BitVec.ofNat 32 (i 0).val) 0#32) : BitVec 32) 0#32 = 1#1)) (h3 : ¬ (k1_cond3 i = 1#1)) :
    iprop(owns (c : Thread nD τ) arg1 fullShare x
      ∗ owns (c : Thread nD τ) arg2 fullShare w
      ∗ owns (c : Thread nD τ) arg3 fullShare b
      ∗ owns (c : Thread nD τ) arg4 fullShare y
      ∗ owns (c : Thread nD τ) arg5 fullShare s
      ∗ owns (c : Thread nD τ) arg6 fullShare n
      ∗ (iprop(owns (c : Thread nD τ) arg1 fullShare x
      ∗ owns (c : Thread nD τ) arg2 fullShare w
      ∗ owns (c : Thread nD τ) arg3 fullShare b
      ∗ owns (c : Thread nD τ) arg4 fullShare y
      ∗ owns (c : Thread nD τ) arg5 fullShare (k1_pay2 (dMax i x w b))
      ∗ owns (c : Thread nD τ) arg6 fullShare (k1_pay3 (dIdx i x w b))) -∗ K ⟨⟩))
    ⊢ wp frame (wpE (defs₀ (F := F)) Variants.none c none) E (cc1__dense_body i arg1 harg1 arg2 harg2 arg3 harg3 arg4 harg4 arg5 harg5 arg6 harg6) K := by
  simp only [cc1__dense_body_eq_skeleton]; unfold cc1__dense_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  have e1 := readAt_box harg1 x ![0, 0] zero2 inb_S128x64_S128x64_0_0
  have e2 := readAt_box harg2 w ![0, 0] zero2 inb_S64x20480_S64x20480_0_0
  have e3 := readAt_box harg3 b ![0, 0] zero2 inb_S1x20480_S1x20480_0_0
  have e4 := readAt_box harg4 y ![0, 0] zero2 inb_S128x1_S128x1_0_0
  have e5 := readAt_box harg5 s ![0, 0] zero2 inb_S128x1_S128x1_0_0
  have e6 := readAt_box harg6 n ![0, 0] zero2 inb_S128x1_S128x1_0_0
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; refine (read_box _ _ zero2 _ _).trans ?_
    rfl
  · iexists _; isplitr; swap; · iexact H6
    ipureintro; refine (read_box _ _ zero2 _ _).trans ?_
    rfl

set_option maxHeartbeats 4000000 in
/-- At a later point the scratch is merged with the tile's values. -/
theorem dense_mid (c : Dev nD) (E : Set ℕ) (i : grid1.Coords) (arg1 : Memref sig .tc .vmem S128x64 .f32) (harg1 : arg1.IsWhole) (arg2 : Memref sig .tc .vmem S64x20480 .f32) (harg2 : arg2.IsWhole) (arg3 : Memref sig .tc .vmem S1x20480 .f32) (harg3 : arg3.IsWhole) (arg4 : Memref sig .tc .vmem S128x1 .i32) (harg4 : arg4.IsWhole) (arg5 : Memref sig .tc .vmem S128x1 .f32) (harg5 : arg5.IsWhole) (arg6 : Memref sig .tc .vmem S128x1 .i32) (harg6 : arg6.IsWhole)
    (x : Vec F S128x64 .f32) (w : Vec F S64x20480 .f32) (b : Vec F S1x20480 .f32) (y : Vec F S128x1 .i32) (s : Vec F S128x1 .f32) (n : Vec F S128x1 .i32) (K : PUnit → sProp 𝕄)
    (h1 : ¬ (Scalar.cmpi .ne (Scalar.extui (Scalar.cmpi .eq (BitVec.ofNat 32 (i 0).val) 0#32) : BitVec 32) 0#32 = 1#1)) (h2 : (Scalar.cmpi .ne (Scalar.extui (Scalar.cmpi .sgt (BitVec.ofNat 32 (i 0).val) 0#32) : BitVec 32) 0#32 = 1#1)) (h3 : ¬ (k1_cond3 i = 1#1)) :
    iprop(owns (c : Thread nD τ) arg1 fullShare x
      ∗ owns (c : Thread nD τ) arg2 fullShare w
      ∗ owns (c : Thread nD τ) arg3 fullShare b
      ∗ owns (c : Thread nD τ) arg4 fullShare y
      ∗ owns (c : Thread nD τ) arg5 fullShare s
      ∗ owns (c : Thread nD τ) arg6 fullShare n
      ∗ (iprop(owns (c : Thread nD τ) arg1 fullShare x
      ∗ owns (c : Thread nD τ) arg2 fullShare w
      ∗ owns (c : Thread nD τ) arg3 fullShare b
      ∗ owns (c : Thread nD τ) arg4 fullShare y
      ∗ owns (c : Thread nD τ) arg5 fullShare (k1_pay5 (dMax i x w b) s s)
      ∗ owns (c : Thread nD τ) arg6 fullShare (k1_pay6 (dMax i x w b) (dIdx i x w b) s n)) -∗ K ⟨⟩))
    ⊢ wp frame (wpE (defs₀ (F := F)) Variants.none c none) E (cc1__dense_body i arg1 harg1 arg2 harg2 arg3 harg3 arg4 harg4 arg5 harg5 arg6 harg6) K := by
  simp only [cc1__dense_body_eq_skeleton]; unfold cc1__dense_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  have e1 := readAt_box harg1 x ![0, 0] zero2 inb_S128x64_S128x64_0_0
  have e2 := readAt_box harg2 w ![0, 0] zero2 inb_S64x20480_S64x20480_0_0
  have e3 := readAt_box harg3 b ![0, 0] zero2 inb_S1x20480_S1x20480_0_0
  have e4 := readAt_box harg4 y ![0, 0] zero2 inb_S128x1_S128x1_0_0
  have e5 := readAt_box harg5 s ![0, 0] zero2 inb_S128x1_S128x1_0_0
  have e6 := readAt_box harg6 n ![0, 0] zero2 inb_S128x1_S128x1_0_0
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; refine (read_box _ _ zero2 _ _).trans ?_
    rfl
  · iexists _; isplitr; swap; · iexact H6
    ipureintro; refine (read_box _ _ zero2 _ _).trans ?_
    rfl

set_option maxHeartbeats 4000000 in
/-- At the last point the scratch is merged and stored to the results. -/
theorem dense_last (c : Dev nD) (E : Set ℕ) (i : grid1.Coords) (arg1 : Memref sig .tc .vmem S128x64 .f32) (harg1 : arg1.IsWhole) (arg2 : Memref sig .tc .vmem S64x20480 .f32) (harg2 : arg2.IsWhole) (arg3 : Memref sig .tc .vmem S1x20480 .f32) (harg3 : arg3.IsWhole) (arg4 : Memref sig .tc .vmem S128x1 .i32) (harg4 : arg4.IsWhole) (arg5 : Memref sig .tc .vmem S128x1 .f32) (harg5 : arg5.IsWhole) (arg6 : Memref sig .tc .vmem S128x1 .i32) (harg6 : arg6.IsWhole)
    (x : Vec F S128x64 .f32) (w : Vec F S64x20480 .f32) (b : Vec F S1x20480 .f32) (y : Vec F S128x1 .i32) (s : Vec F S128x1 .f32) (n : Vec F S128x1 .i32) (K : PUnit → sProp 𝕄)
    (h1 : ¬ (Scalar.cmpi .ne (Scalar.extui (Scalar.cmpi .eq (BitVec.ofNat 32 (i 0).val) 0#32) : BitVec 32) 0#32 = 1#1)) (h2 : (Scalar.cmpi .ne (Scalar.extui (Scalar.cmpi .sgt (BitVec.ofNat 32 (i 0).val) 0#32) : BitVec 32) 0#32 = 1#1)) (h3 : (k1_cond3 i = 1#1)) :
    iprop(owns (c : Thread nD τ) arg1 fullShare x
      ∗ owns (c : Thread nD τ) arg2 fullShare w
      ∗ owns (c : Thread nD τ) arg3 fullShare b
      ∗ owns (c : Thread nD τ) arg4 fullShare y
      ∗ owns (c : Thread nD τ) arg5 fullShare s
      ∗ owns (c : Thread nD τ) arg6 fullShare n
      ∗ (iprop(owns (c : Thread nD τ) arg1 fullShare x
      ∗ owns (c : Thread nD τ) arg2 fullShare w
      ∗ owns (c : Thread nD τ) arg3 fullShare b
      ∗ owns (c : Thread nD τ) arg4 fullShare (k1_pay6 (dMax i x w b) (dIdx i x w b) s n)
      ∗ owns (c : Thread nD τ) arg5 fullShare (k1_pay5 (dMax i x w b) s s)
      ∗ owns (c : Thread nD τ) arg6 fullShare (k1_pay6 (dMax i x w b) (dIdx i x w b) s n)) -∗ K ⟨⟩))
    ⊢ wp frame (wpE (defs₀ (F := F)) Variants.none c none) E (cc1__dense_body i arg1 harg1 arg2 harg2 arg3 harg3 arg4 harg4 arg5 harg5 arg6 harg6) K := by
  simp only [cc1__dense_body_eq_skeleton]; unfold cc1__dense_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  have e1 := readAt_box harg1 x ![0, 0] zero2 inb_S128x64_S128x64_0_0
  have e2 := readAt_box harg2 w ![0, 0] zero2 inb_S64x20480_S64x20480_0_0
  have e3 := readAt_box harg3 b ![0, 0] zero2 inb_S1x20480_S1x20480_0_0
  have e4 := readAt_box harg4 y ![0, 0] zero2 inb_S128x1_S128x1_0_0
  have e5 := readAt_box harg5 s ![0, 0] zero2 inb_S128x1_S128x1_0_0
  have e6 := readAt_box harg6 n ![0, 0] zero2 inb_S128x1_S128x1_0_0
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; refine (read_box _ _ zero2 _ _).trans ?_
    exact readCov_box _ zero2 _ _ _
  isplitl [H5]
  · iexists _; isplitr; swap; · iexact H5
    ipureintro; refine (read_box _ _ zero2 _ _).trans ?_
    rfl
  · iexists _; isplitr; swap; · iexact H6
    ipureintro; refine (read_box _ _ zero2 _ _).trans ?_
    rfl

end Cert.KernelIdeal.Own

end
-- ==== Proof.DenseData.lean ====
/-
  The proof data of the dense call's pipeline: which contents its scratch buffers may hold before each grid point,
  stated as a relation, since the part of a tile past the last column holds anything; and the body obligation.
-/
module

public import proofs.«01_k».proof.Proof.Gen.KernelIdeal.Points
public import proofs.«01_k».proof.Proof.Gen.KernelIdeal.Launch
public import Idealize.ShloMosaic.Lib.Pipeline.FrameBody
public import proofs.«01_k».proof.Proof.DenseBody

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat)

variable {F : FTy → Type} [FloatOps F]

local notation "𝕄" => MT nD τ sig Unit (Elt F) ℕ (UU nD τ) ℕ

/-- At the first point, and there only, the coordinate is zero. -/
theorem cond1_zero : ∀ t : Fin grid1.N, t.val = 0 →
    (Scalar.cmpi .ne (Scalar.extui (Scalar.cmpi .eq (BitVec.ofNat 32 (grid1.coords t 0).val) 0#32) : BitVec 32) 0#32 = 1#1)
      ∧ ¬ (Scalar.cmpi .ne (Scalar.extui (Scalar.cmpi .sgt (BitVec.ofNat 32 (grid1.coords t 0).val) 0#32) : BitVec 32) 0#32 = 1#1) := by decide
theorem cond1_pos : ∀ t : Fin grid1.N, t.val ≠ 0 →
    ¬ (Scalar.cmpi .ne (Scalar.extui (Scalar.cmpi .eq (BitVec.ofNat 32 (grid1.coords t 0).val) 0#32) : BitVec 32) 0#32 = 1#1)
      ∧ (Scalar.cmpi .ne (Scalar.extui (Scalar.cmpi .sgt (BitVec.ofNat 32 (grid1.coords t 0).val) 0#32) : BitVec 32) 0#32 = 1#1) := by decide
/-- The last point is the one that writes the result. -/
theorem cond1_last : ∀ t : Fin grid1.N, (k1_cond3 (grid1.coords t) = 1#1) ↔ t.val = 4 := by decide

/-- The data the relation below is stated with: the arrays at their entry contents, every buffer left as found. -/
def arr1 (V : Dev nD → Valuation τ sig (Elt F)) (c : Dev nD) : RDat τ (Elt F) Unit ℕ (UU nD τ) ℕ cfg1 c where
  A w := V c (Proc.devRef .tc (Pipeline.arrRef spec1 w))
  after _ _ Y X := X = Y
  Φ _ := iprop(emp)
  q _ := fullShare
  owed _ := 0

/-- One grid point: from the scratch contents before it to those after it, for input blocks as they may be fetched. -/
def Step1 (V : Dev nD → Valuation τ sig (Elt F)) (c : Dev nD) (t : Fin cfg1.N) (s : Vec F S128x1 .f32) (n : Vec F S128x1 .i32) (s' : Vec F S128x1 .f32) (n' : Vec F S128x1 .i32) : Prop :=
  ∃ (x : Vec F S128x64 .f32) (w : Vec F S64x20480 .f32) (b : Vec F S1x20480 .f32),
    (∃ d, x = (arr1 V c).fetched 0 t d) ∧ (∃ d, w = (arr1 V c).fetched 1 t d) ∧ (∃ d, b = (arr1 V c).fetched 2 t d)
    ∧ (t.val = 0 → s' = k1_pay2 (dMax (grid1.coords t) x w b) ∧ n' = k1_pay3 (dIdx (grid1.coords t) x w b))
    ∧ (t.val ≠ 0 → s' = k1_pay5 (dMax (grid1.coords t) x w b) s s ∧ n' = k1_pay6 (dMax (grid1.coords t) x w b) (dIdx (grid1.coords t) x w b) s n)

/-- The scratch contents that may stand before grid point `k`. -/
def Reach1 (V : Dev nD → Valuation τ sig (Elt F)) (c : Dev nD) : ℕ → Vec F S128x1 .f32 → Vec F S128x1 .i32 → Prop
  | 0, _, _ => True
  | k + 1, s', n' => ∃ (h : k < cfg1.N) (s : Vec F S128x1 .f32) (n : Vec F S128x1 .i32), Reach1 V c k s n ∧ Step1 V c ⟨k, h⟩ s n s' n'

/-- The invariant: the scratch at contents that may stand there, the other call's buffers at anything. -/
def inv1 (V : Dev nD → Valuation τ sig (Elt F)) (c : Dev nD) (k : ℕ) : sProp 𝕄 :=
  iprop((∃ (s : Vec F S128x1 .f32) (n : Vec F S128x1 .i32), ⌜Reach1 V c k s n⌝
    ∗ owns (c : Thread nD τ) (Memref.whole cc1_scratch0) fullShare s ∗ owns (c : Thread nD τ) (Memref.whole cc1_scratch1) fullShare n)
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The pipeline's proof data: an input buffer is left as found, a result's buffer at the last point holds what the
    scratch may hold at the end. -/
def rd1 (V : Dev nD → Valuation τ sig (Elt F)) (c : Dev nD) : RDat τ (Elt F) Unit ℕ (UU nD τ) ℕ cfg1 c where
  A w := V c (Proc.devRef .tc (Pipeline.arrRef spec1 w))
  after w t := match w with
    | ⟨0, _⟩ => fun Y X => X = Y
    | ⟨1, _⟩ => fun Y X => X = Y
    | ⟨2, _⟩ => fun Y X => X = Y
    | ⟨3, _⟩ => fun _ X => (t.val = 4 → ∃ s, Reach1 V c 5 s X)
    | ⟨_ + 4, h⟩ => absurd h (Nat.not_lt.2 (Nat.le_add_left _ _))
  Φ t := inv1 V c t.val
  q _ := fullShare
  owed _ := 0

theorem found1_0 (V : Dev nD → Valuation τ sig (Elt F)) (c : Dev nD) (t : Fin cfg1.N) (Y : (cfg1.win 0).block.Idx → Elt F (cfg1.win 0).elt)
    (h : (rd1 V c).Finds 0 t Y) : ∃ d, Y = (arr1 V c).fetched 0 t d :=
  (rd1 V c).finds_in_eq_fetched 0 rfl (fun _ _ _ => rfl) (fun _ _ _ h => h) t Y h
theorem found1_1 (V : Dev nD → Valuation τ sig (Elt F)) (c : Dev nD) (t : Fin cfg1.N) (Y : (cfg1.win 1).block.Idx → Elt F (cfg1.win 1).elt)
    (h : (rd1 V c).Finds 1 t Y) : ∃ d, Y = (arr1 V c).fetched 1 t d :=
  ((rd1 V c).finds_of_fetch (fetch1_1 t) Y).mp h
theorem found1_2 (V : Dev nD → Valuation τ sig (Elt F)) (c : Dev nD) (t : Fin cfg1.N) (Y : (cfg1.win 2).block.Idx → Elt F (cfg1.win 2).elt)
    (h : (rd1 V c).Finds 2 t Y) : ∃ d, Y = (arr1 V c).fetched 2 t d :=
  ((rd1 V c).finds_of_fetch (fetch1_2 t) Y).mp h
/-- One more point, from what the body finds and leaves. -/
theorem reach1_succ (V : Dev nD → Valuation τ sig (Elt F)) (c : Dev nD) (t : Fin cfg1.N)
    (Y : (w : Fin cfg1.W) → (cfg1.win w).block.Idx → Elt F (cfg1.win w).elt) (hY : ∀ w, (rd1 V c).Finds w t (Y w))
    {s n} {s' n'} (hr : Reach1 V c t.val s n)
    (hz : t.val = 0 → s' = k1_pay2 (dMax (grid1.coords t) (Y 0) (Y 1) (Y 2)) ∧ n' = k1_pay3 (dIdx (grid1.coords t) (Y 0) (Y 1) (Y 2)))
    (hp : t.val ≠ 0 → s' = k1_pay5 (dMax (grid1.coords t) (Y 0) (Y 1) (Y 2)) s s ∧ n' = k1_pay6 (dMax (grid1.coords t) (Y 0) (Y 1) (Y 2)) (dIdx (grid1.coords t) (Y 0) (Y 1) (Y 2)) s n) :
    Reach1 V c (t.val + 1) s' n' :=
  ⟨t.isLt, s, n, hr, Y 0, Y 1, Y 2, found1_0 V c t _ (hY 0), found1_1 V c t _ (hY 1), found1_2 V c t _ (hY 2), hz, hp⟩

set_option maxRecDepth 8192 in
set_option maxHeartbeats 2000000 in
set_option backward.isDefEq.respectTransparency.types false in
/-- The body obligation at every point. -/
theorem body_obligation1 (V : Dev nD → Valuation τ sig (Elt F)) (c : Dev nD) :
    (rd1 V c).BodyObligation (defs₀ (F := F)) Variants.none () Set.univ := by
  intro t Y hY
  rw [bigSep_W1]
  simp only [bigSep_W1]
  rw [show (rd1 V c).Φ t.castSucc = inv1 V c t.val from rfl, show (rd1 V c).Φ t.succ = inv1 V c (t.val + 1) from rfl]
  unfold inv1 RDat.owesAt Pipeline.owesWithin
  iintro ⟨⟨⟨%s, %n, %hr, S0, S1⟩, HR⟩, ⟨%W, %hW, HO⟩, H0, H1, H2, H3⟩
  rw [show (defs₀ (F := F) .tc cfg1.body (cfg1.bodyArgs t (cfg1.slots t))) = bodyAt1 t from rfl]
  by_cases h0 : t.val = 0
  · iapply (dense_first c Set.univ (grid1.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) (Memref.whole cc1_scratch0) (Memref.isWhole_whole _) (Memref.whole cc1_scratch1) (Memref.isWhole_whole _) (Y 0) (Y 1) (Y 2) (Y 3) s n _ (cond1_zero t h0).1 (cond1_zero t h0).2 (fun h => by have := (cond1_last t).mp h; omega))
    isplitl [H0]; · iexact H0
    isplitl [H1]; · iexact H1
    isplitl [H2]; · iexact H2
    isplitl [H3]; · iexact H3
    isplitl [S0]; · iexact S0
    isplitl [S1]; · iexact S1
    iintro ⟨H0, H1, H2, H3, S0, S1⟩
    isplitl [S0 S1 HR]
    · isplitr [HR]; swap; · iexact HR
      iexists _; iexists _
      isplitr
      · ipureintro; exact reach1_succ V c t Y hY hr (fun _ => ⟨rfl, rfl⟩) (fun h => absurd h0 h)
      isplitl [S0]; · iexact S0
      iexact S1
    isplitl [HO]
    · iexists W
      isplitr
      · ipureintro; exact hW
      iexact HO
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    iexists _; isplitr; swap
    · iexact H3
    ipureintro; exact (by intro h; omega)
  by_cases h4 : t.val = 4
  · have h4r : t.val + 1 = 5 := by omega
    iapply (dense_last c Set.univ (grid1.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) (Memref.whole cc1_scratch0) (Memref.isWhole_whole _) (Memref.whole cc1_scratch1) (Memref.isWhole_whole _) (Y 0) (Y 1) (Y 2) (Y 3) s n _ (cond1_pos t h0).1 (cond1_pos t h0).2 ((cond1_last t).mpr h4))
    isplitl [H0]; · iexact H0
    isplitl [H1]; · iexact H1
    isplitl [H2]; · iexact H2
    isplitl [H3]; · iexact H3
    isplitl [S0]; · iexact S0
    isplitl [S1]; · iexact S1
    iintro ⟨H0, H1, H2, H3, S0, S1⟩
    isplitl [S0 S1 HR]
    · isplitr [HR]; swap; · iexact HR
      iexists _; iexists _
      isplitr
      · ipureintro; exact reach1_succ V c t Y hY hr (fun h => absurd h h0) (fun _ => ⟨rfl, rfl⟩)
      isplitl [S0]; · iexact S0
      iexact S1
    isplitl [HO]
    · iexists W
      isplitr
      · ipureintro; exact hW
      iexact HO
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    iexists _; isplitr; swap
    · iexact H3
    ipureintro; exact (fun _ => ⟨_, h4r ▸ reach1_succ V c t Y hY hr (fun h => absurd h h0) (fun _ => ⟨rfl, rfl⟩)⟩)
  · iapply (dense_mid c Set.univ (grid1.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) (Memref.whole cc1_scratch0) (Memref.isWhole_whole _) (Memref.whole cc1_scratch1) (Memref.isWhole_whole _) (Y 0) (Y 1) (Y 2) (Y 3) s n _ (cond1_pos t h0).1 (cond1_pos t h0).2 (fun h => h4 ((cond1_last t).mp h)))
    isplitl [H0]; · iexact H0
    isplitl [H1]; · iexact H1
    isplitl [H2]; · iexact H2
    isplitl [H3]; · iexact H3
    isplitl [S0]; · iexact S0
    isplitl [S1]; · iexact S1
    iintro ⟨H0, H1, H2, H3, S0, S1⟩
    isplitl [S0 S1 HR]
    · isplitr [HR]; swap; · iexact HR
      iexists _; iexists _
      isplitr
      · ipureintro; exact reach1_succ V c t Y hY hr (fun h => absurd h h0) (fun _ => ⟨rfl, rfl⟩)
      isplitl [S0]; · iexact S0
      iexact S1
    isplitl [HO]
    · iexists W
      isplitr
      · ipureintro; exact hW
      iexact HO
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    iexists _; isplitr; swap
    · iexact H3
    ipureintro; exact (fun h => absurd h h4)

end Cert.KernelIdeal.Own

end
-- ==== Proof.Run.lean ====
/-
  The run of @main: the two pipelines as regions, the host operations between them, the conditional that enters the
  second pipeline, and the launch. A thread's state is the contents of every unscoped buffer, known as a relation.
-/
module

public import proofs.«01_k».proof.Proof.FastData
public import proofs.«01_k».proof.Proof.DenseData
public import Idealize.ShloMosaic.Lib.Pipeline.Regions
public import Idealize.ShloMosaic.Lib.Pipeline.RegionsCase
public import Idealize.ShloMosaic.Lib.StableHlo.RunHlo

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Cfg Window RDat)

variable {F : FTy → Type} [FloatOps F]

local notation "𝕄" => MT nD τ sig Unit (Elt F) ℕ (UU nD τ) ℕ

/-- The two pipelines' algebras: one component for each. -/
abbrev EP : Emb (UR sig nD τ) (MT nD τ sig Unit (Elt F) ℕ (UU nD τ) ℕ) := embL
abbrev EQ : Emb (UR sig nD τ) (MT nD τ sig Unit (Elt F) ℕ (UU nD τ) ℕ) := embR

/-- No core owes another anything. -/
abbrev L : GSem nD τ sig → Finset Unit := fun _ => ∅
abbrev lv : GSem nD τ sig → Unit → ℕ := fun _ _ => 0
abbrev adm : (p : Fin 2) → (pcfgs (F := F) p).Adm := fun p => (cfgs p).toPCfg_adm
abbrev 𝒱₀ : Variants := Variants.none

/-- The unscoped buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- What a core owes: nothing. -/
abbrev Rw (c : Dev nD) : sProp 𝕄 := iprop(∃ W, owes (c : Thread nD τ) (0 : CellTallies nD τ sig Unit) W)

/-- The second pipeline's ghost state, which waits until the conditional enters it. -/
abbrev Gh (c : Dev nD) : sProp 𝕄 :=
  iprop(Pipeline.cellsGhost (Pipeline.pin (pcfgs (F := F)) adm) EQ 1 c ∗ Pipeline.toksInit (Pipeline.pin (pcfgs (F := F)) adm) EQ 1 c)

/-- A state of knowledge about the unscoped buffers, as an assertion: they are held at some contents it allows. -/
abbrev St (S : Dev nD → Valuation τ sig (Elt F) → Prop) (X : Dev nD → sProp 𝕄) (c : Dev nD) : sProp 𝕄 :=
  iprop(∃ V, ⌜S c V⌝ ∗ held (c : Thread nD τ) ucRefs V ∗ Rw c ∗ X c)

/-- What is known after a list of operations. -/
abbrev Ops (ops : List (HloOp τ sig (Elt F))) (S : Dev nD → Valuation τ sig (Elt F) → Prop) (c : Dev nD) (V : Valuation τ sig (Elt F)) : Prop :=
  ∃ V', S c V' ∧ V = after ops V'

set_option backward.isDefEq.respectTransparency.types false in
/-- A list of operations as a segment. -/
def opsSeg (ops : List (HloOp τ sig (Elt F))) (hS : ∀ op ∈ ops, op.bufs ⊆ ucRefs) (hf : ∀ op ∈ ops, op.fresh = ∅)
    (S : Dev nD → Valuation τ sig (Elt F) → Prop) (X : Dev nD → sProp 𝕄) :
    Pipeline.HostSeg (Name := ℕ) (U := UU nD τ) (pcfgs (F := F)) defs₀ 𝒱₀ L lv where
  prog := StableHlo.seq ops
  pre := St S X
  post := St (Ops ops S) X
  run c {β} k K := by
    iintro ⟨Hk, Hbd, ⟨%V, %hV, Hh, HR, HX⟩, -⟩
    iapply (StableHlo.wp_seq (defs := Pipeline.defs (pcfgs (F := F)) defs₀) (Variants.lift 𝒱₀) none Set.univ c ucRefs k (K := K) ops hS hf V) $$ [Hbd Hh]
    · isplitl [Hbd] <;> iassumption
    iintro ⟨Hbd, Hh⟩
    iapply Hk
    isplitl [Hbd]; · iexact Hbd
    iexists (after ops V)
    isplitr
    · ipureintro; exact ⟨V, hV, rfl⟩
    isplitl [Hh]; · iexact Hh
    isplitl [HR] <;> iassumption

section Put

variable {K : Type} {D : Type} {B : D → Type} (r : K → D) (hr : Function.Injective r) (G : (w : K) → B (r w)) (V : (d : D) → B d)

include hr in
/-- A family of contents put over another at distinct places. -/
theorem exists_put : ∃ V' : (d : D) → B d, (∀ w, V' (r w) = G w) ∧ ∀ d, (∀ w, r w ≠ d) → V' d = V d := by
  classical
  refine ⟨fun d => if h : ∃ w, r w = d then h.choose_spec ▸ G h.choose else V d, fun w => ?_, fun d h => dif_neg fun ⟨w, hw⟩ => h w hw⟩
  have key : ∀ w' (e : r w' = r w), (e ▸ G w' : B (r w)) = G w := by
    intro w' e
    obtain rfl := hr e
    rfl
  dsimp only
  rw [dif_pos ⟨w, rfl⟩]
  exact key _ _

end Put

/-- A pipeline's arrays, as device buffers. -/
abbrev arr (p : Fin 2) (w : Fin (cfgs p).W) : DevRef τ sig := Proc.devRef .tc (Pipeline.arrRef (cfgs p).spec w)

theorem arr_inj (p : Fin 2) : Function.Injective (arr p) := fun w w' h =>
  (match p with
    | 0 => launch0.win.arr_inj
    | 1 => launch1.win.arr_inj : Function.Injective (Pipeline.arrRef (cfgs p).spec)) (Proc.devRef_injective _ h)

/-- The proof data of both, at the contents `V`. -/
abbrev rdats (V : Dev nD → Valuation τ sig (Elt F)) : (p : Fin 2) → (c : Dev nD) → RDat τ (Elt F) Unit ℕ (UU nD τ) ℕ (Pipeline.pin (pcfgs (F := F)) adm p) c
  | 0 => rd0 V
  | 1 => rd1 V

/-- What is known after a region: its arrays are at contents the pipeline may leave, everything else is as before. -/
abbrev Left (V : Dev nD → Valuation τ sig (Elt F)) (p : Fin 2) (S : Dev nD → Valuation τ sig (Elt F) → Prop) (c : Dev nD) (V' : Valuation τ sig (Elt F)) : Prop :=
  ∃ V₁, S c V₁ ∧ (∀ d, (∀ w, arr p w ≠ d) → V' d = V₁ d) ∧ ∀ w, (rdats V p c).ArrAt w (cfgs p).N (V' (arr p w))

set_option backward.isDefEq.respectTransparency.types false in
/-- A region's entry: its arrays out of the unscoped buffers. -/
theorem enter (V : Dev nD → Valuation τ sig (Elt F)) (p : Fin 2) (hp : Pipeline.LaunchFacts (nD := nD) (τ := τ) cfgs p) (c : Dev nD)
    (hq : ∀ w, (rdats V p c).share w = fullShare) (V' : Valuation τ sig (Elt F)) (h : ∀ w, (rdats V p c).A w = V' (arr p w)) :
    (held (c : Thread nD τ) ucRefs V' : sProp 𝕄)
      ⊢ iprop((rdats V p c).arrays (rdats V p c).A ∗ Pipeline.unscopedRest (cfgs p).spec c (fun b => V' b)) := by
  rw [← unscopedBufs_held c V']
  exact Pipeline.RDat.arrays_of_unscopedBufs (pcfgs (F := F)) adm (rdats V) hp.win hp.arr_whole c hq (fun b => V' b) h

set_option backward.isDefEq.respectTransparency.types false in
/-- A region's exit: its arrays, at what they may hold, back among the unscoped buffers. -/
theorem leave (V : Dev nD → Valuation τ sig (Elt F)) (p : Fin 2) (hp : Pipeline.LaunchFacts (nD := nD) (τ := τ) cfgs p) (c : Dev nD)
    (hq : ∀ w, (rdats V p c).share w = fullShare) (V' : Valuation τ sig (Elt F)) :
    iprop((rdats V p c).arraysAt (cfgs p).N ∗ Pipeline.unscopedRest (cfgs p).spec c (fun b => V' b))
      ⊢ (iprop(∃ W, ⌜(∀ d, (∀ w, arr p w ≠ d) → W d = V' d) ∧ ∀ w, (rdats V p c).ArrAt w (cfgs p).N (W (arr p w))⌝
          ∗ held (c : Thread nD τ) ucRefs W) : sProp 𝕄) := by
  classical
  rw [Pipeline.RDat.arraysAt_eq (pcfgs (F := F)) adm (rdats V) p c hp.arr_whole hq]
  iintro ⟨Ha, Hr⟩
  ihave Ha' := (BI.bigSep_exists_pi Finset.univ (fun (w : Fin (cfgs p).W) G => iprop(⌜(rdats V p c).ArrAt w (cfgs p).N G⌝
      ∗ ((c.tc : Thread nD τ).loc (Pipeline.arrRef (cfgs p).spec w)) ↦{fullShare} G))) $$ Ha
  icases Ha' with ⟨%G, Ha⟩
  ihave Ha2 := (BI.bigSep_pure_sep Finset.univ (fun w => (rdats V p c).ArrAt w (cfgs p).N (G w))
      (fun w => ((c.tc : Thread nD τ).loc (Pipeline.arrRef (cfgs p).spec w)) ↦{fullShare} G w)) $$ Ha
  icases Ha2 with ⟨%hG, Ha⟩
  obtain ⟨W, hW, hW'⟩ := exists_put (B := fun d : DevRef τ sig => d.ty.Contents (Elt F)) (arr p) (arr_inj p) G V'
  iexists W
  isplitr
  · ipureintro
    exact ⟨hW', fun w => by rw [hW w]; exact hG w (Finset.mem_univ w)⟩
  rw [← unscopedBufs_held c W, Pipeline.unscopedBufs_split (Pipeline.pin (pcfgs (F := F)) adm) p hp.win.arr_unscoped hp.win.arr_inj c (fun b => W b)]
  isplitl [Ha]
  · iapply (Entails.of_eq (bigSep_congr (fun w _ => by rw [show W (Proc.devRef .tc (Pipeline.arrRef (cfgs p).spec w)) = G w from hW w]) :
      (bigSep Finset.univ fun w => ((c.tc : Thread nD τ).loc (Pipeline.arrRef (cfgs p).spec w)) ↦{fullShare} G w : sProp 𝕄)
        = bigSep Finset.univ fun w => ((c.tc : Thread nD τ).loc (Pipeline.arrRef (cfgs p).spec w)) ↦{fullShare} W (Proc.devRef .tc (Pipeline.arrRef (cfgs p).spec w))))
    iexact Ha
  · unfold Pipeline.unscopedRest
    iapply (Entails.of_eq (bigSep_congr fun b hb =>
      congrArg (fun f => (((c.tc : Thread nD τ).loc b) ↦{fullShare} f : sProp 𝕄))
        (hW' (Proc.devRef .tc b) fun w hw => (Finset.mem_sdiff.mp hb).2 (Finset.mem_image.mpr ⟨w, Finset.mem_univ w, Proc.devRef_injective _ hw⟩)).symm))
    iexact Hr

/-- No semaphore is a kernel's own. -/
abbrev osem : Fin 0 → SemLoc sig := fun i => i.elim0
theorem ownFacts0 : Pipeline.OwnSemFacts spec0 osem := by decide
theorem ownFacts1 : Pipeline.OwnSemFacts spec1 osem := by decide

set_option maxRecDepth 8192 in
set_option backward.isDefEq.respectTransparency.types false in
/-- The first region. -/
def reg0 (V : Dev nD → Valuation τ sig (Elt F)) (S : Dev nD → Valuation τ sig (Elt F) → Prop)
    (hS : ∀ c V', S c V' → ∀ w : Fin (cfgs 0).W, V c (arr 0 w) = V' (arr 0 w)) (X : Dev nD → sProp 𝕄) :
    Pipeline.RDat.RegionSeg (pcfgs (F := F)) adm (rdats V) () defs₀ 𝒱₀ L lv 0 where
  win := launch0.win.to₀
  block_pos := launch0.block_pos
  stage_whole := launch0.stage_whole
  K := Fin 0
  osem := osem
  ho := ownFacts0
  hbody c := body_obligation0 V c
  hwaits := Pipeline.RDat.hwaits_of_owed_zero _ _ _ _ L lv 0 fun _ _ => rfl
  pre := St S X
  post := St (Left V 0 S) X
  X c := iprop(emp)
  Y c := iprop(emp)
  Z c := iprop(∃ V', ⌜S c V'⌝ ∗ Pipeline.unscopedRest (cfgs 0).spec c (fun b => V' b) ∗ X c)
  hentry c := by
    iintro ⟨⟨%V', %hV', Hh, HO, HX⟩, -, -⟩
    ihave H := (enter V 0 launch0 c ((rd0 V c).share_full fun _ => rfl) V' (hS c V' hV')) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexists V'
    isplitr; · ipureintro; exact hV'
    isplitl [Hr] <;> iassumption
  hin c := by
    rw [show (rdats V 0 c).Φ 0 = inv0 V c 0 from rfl]
    iintro ⟨-, -, Hr⟩
    ihave Hr' := (Entails.of_eq (scopedRest0_eq c)) $$ Hr
    icases Hr' with ⟨⟨%s, H0⟩, ⟨%n, H1⟩, ⟨%l, H2⟩, Hr⟩
    unfold inv0
    isplitr [Hr]; swap; · iexact Hr
    iexists s; iexists n; iexists l
    isplitr; · ipureintro; trivial
    rw [owns_whole, owns_whole, owns_whole]
    isplitl [H0]; · iexact H0
    isplitl [H1]; · iexact H1
    iexact H2
  hout c := by
    rw [show (rdats V 0 c).Φ (Fin.last _) = inv0 V c 5 from rfl]
    unfold inv0
    simp only [owns_whole]
    iintro ⟨⟨%s, %n, %l, -, H0, H1, H2⟩, Hr⟩
    isplitr; · iempintro
    isplitr; · unfold Pipeline.ownSems0; rw [show (Finset.univ : Finset (Fin 0)) = ∅ from rfl, BI.bigSep_empty]; iempintro
    iapply (Entails.of_eq (scopedRest0_eq c).symm)
    isplitl [H0]; · iexists _; iexact H0
    isplitl [H1]; · iexists _; iexact H1
    isplitl [H2]; · iexists _; iexact H2
    iexact Hr
  hexit c := by
    iintro ⟨Ha, HO, -, ⟨%V', %hV', Hr, HX⟩⟩
    ihave H := (leave V 0 launch0 c ((rd0 V c).share_full fun _ => rfl) V') $$ [Ha Hr]
    · isplitl [Ha] <;> iassumption
    icases H with ⟨%W, %hW, Hh⟩
    imodintro
    iexists W
    isplitr; · ipureintro; exact ⟨V', hV', hW.1, hW.2⟩
    isplitl [Hh]; · iexact Hh
    isplitl [HO]
    · unfold Pipeline.RDat.owesAt Pipeline.owesWithin
      icases HO with ⟨%W, -, HO⟩; iexists W; iexact HO
    iexact HX

set_option maxRecDepth 8192 in
set_option backward.isDefEq.respectTransparency.types false in
/-- The second region. -/
def reg1 (V : Dev nD → Valuation τ sig (Elt F)) (S : Dev nD → Valuation τ sig (Elt F) → Prop)
    (hS : ∀ c V', S c V' → ∀ w : Fin (cfgs 1).W, V c (arr 1 w) = V' (arr 1 w)) (X : Dev nD → sProp 𝕄) :
    Pipeline.RDat.RegionSeg (pcfgs (F := F)) adm (rdats V) () defs₀ 𝒱₀ L lv 1 where
  win := launch1.win.to₀
  block_pos := launch1.block_pos
  stage_whole := launch1.stage_whole
  K := Fin 0
  osem := osem
  ho := ownFacts1
  hbody c := body_obligation1 V c
  hwaits := Pipeline.RDat.hwaits_of_owed_zero _ _ _ _ L lv 1 fun _ _ => rfl
  pre := St S X
  post := St (Left V 1 S) X
  X c := iprop(emp)
  Y c := iprop(emp)
  Z c := iprop(∃ V', ⌜S c V'⌝ ∗ Pipeline.unscopedRest (cfgs 1).spec c (fun b => V' b) ∗ X c)
  hentry c := by
    iintro ⟨⟨%V', %hV', Hh, HO, HX⟩, -, -⟩
    ihave H := (enter V 1 launch1 c ((rd1 V c).share_full fun _ => rfl) V' (hS c V' hV')) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexists V'
    isplitr; · ipureintro; exact hV'
    isplitl [Hr] <;> iassumption
  hin c := by
    rw [show (rdats V 1 c).Φ 0 = inv1 V c 0 from rfl]
    iintro ⟨-, -, Hr⟩
    ihave Hr' := (Entails.of_eq (scopedRest1_eq c)) $$ Hr
    icases Hr' with ⟨A0, A1, A2, A3, A4, A5, A6, A7, A8, A9, A10, A11, A12, A13, A14, A15, A16, A17, A18, ⟨%s, H0⟩, ⟨%n, H1⟩⟩
    unfold inv1
    isplitl [H0 H1]
    · iexists s; iexists n
      isplitr; · ipureintro; trivial
      rw [owns_whole, owns_whole]
      isplitl [H0]; · iexact H0
      iexact H1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    iexact A18
  hout c := by
    rw [show (rdats V 1 c).Φ (Fin.last _) = inv1 V c 5 from rfl]
    unfold inv1
    simp only [owns_whole]
    iintro ⟨⟨%s, %n, -, H0, H1⟩, A0, A1, A2, A3, A4, A5, A6, A7, A8, A9, A10, A11, A12, A13, A14, A15, A16, A17, A18⟩
    isplitr; · iempintro
    isplitr; · unfold Pipeline.ownSems0; rw [show (Finset.univ : Finset (Fin 0)) = ∅ from rfl, BI.bigSep_empty]; iempintro
    iapply (Entails.of_eq (scopedRest1_eq c).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [H0]; · iexists _; iexact H0
    iexists _; iexact H1
  hexit c := by
    iintro ⟨Ha, HO, -, ⟨%V', %hV', Hr, HX⟩⟩
    ihave H := (leave V 1 launch1 c ((rd1 V c).share_full fun _ => rfl) V') $$ [Ha Hr]
    · isplitl [Ha] <;> iassumption
    icases H with ⟨%W, %hW, Hh⟩
    imodintro
    iexists W
    isplitr; · ipureintro; exact ⟨V', hV', hW.1, hW.2⟩
    isplitl [Hh]; · iexact Hh
    isplitl [HO]
    · unfold Pipeline.RDat.owesAt Pipeline.owesWithin
      icases HO with ⟨%W, -, HO⟩; iexists W; iexact HO
    iexact HX

/-! ## The conditional -/

/-- The read of the word that chooses the arm. -/
abbrev rdOp : HloOp τ sig (Elt F) :=
  StableHlo.unary main_v4 main_v6 ((extui 32 · natLt_1_32) : (⟨S_, .i1⟩ : BufTy).Contents (Elt F) → (⟨S_, .i32⟩ : BufTy).Contents (Elt F))

/-- The operations of the two arms, after the region in the first. -/
abbrev armOps : Fin 2 → List (HloOp τ sig (Elt F))
  | 0 => [StableHlo.reshape main_case0b0_v9 main_case0b0_v10 (rfl : (.i32 : EltTy) = .i32) shapeCasts_S128x1_S128, StableHlo.unary main_case0b0_v10 main_v7 id]
  | 1 => [StableHlo.unary main_v5 main_v7 id]

theorem armOps_sub (b : Fin 2) : ∀ op ∈ (armOps (F := F) b), op.bufs ⊆ ucRefs := by
  intro op h
  fin_cases b
  · fin_cases h
    · exact sub_ucRefs _ (StableHlo.reshape_bufs_sub ..)
    · exact sub_ucRefs _ (StableHlo.unary_bufs_sub ..)
  · fin_cases h
    exact sub_ucRefs _ (StableHlo.unary_bufs_sub ..)
theorem armOps_fresh (b : Fin 2) : ∀ op ∈ (armOps (F := F) b), op.fresh = ∅ := by
  intro op h; fin_cases b <;> fin_cases h <;> rfl

/-- What is known inside arm `b`: the word has been read and names it. -/
abbrev Arm (b : Fin 2) (S : Dev nD → Valuation τ sig (Elt F) → Prop) (c : Dev nD) (V : Valuation τ sig (Elt F)) : Prop :=
  Ops [rdOp] S c V ∧ HostLoop.branch (V main_v6 HostLoop.idx0) 1 = b

/-- What is known after the conditional. -/
abbrev Cond (V : Dev nD → Valuation τ sig (Elt F)) (S : Dev nD → Valuation τ sig (Elt F) → Prop) (c : Dev nD) (V' : Valuation τ sig (Elt F)) : Prop :=
  Ops (armOps 0) (Left V 1 (Arm 0 S)) c V' ∨ Ops (armOps 1) (Arm 1 S) c V'

/-- The conditional as printed. -/
abbrev condProg : Prog (TpuEff nD τ sig (Elt F) (Pipeline.Sig Λ₀ (Fin 2) fun p => (pcfgs (F := F) p).Adm) .tc) PUnit := do
  let x_v6 ← hlo rfl (rdOp (F := F)) (HostLoop.elt main_v6)
  HostLoop.case 2 x_v6 fun
    | 0 => do
      Prog.lift (.customCall (Pipeline.entry 1) ())
      hlo rfl (StableHlo.reshape main_case0b0_v9 main_case0b0_v10 (rfl : (.i32 : EltTy) = .i32) shapeCasts_S128x1_S128) (fun _ => .ret ⟨⟩)
      hlo rfl (StableHlo.unary main_case0b0_v10 main_v7 id) (fun _ => .ret ⟨⟩)
      pure ⟨⟩
    | 1 => do
      hlo rfl (StableHlo.unary main_v5 main_v7 id) (fun _ => .ret ⟨⟩)
      pure ⟨⟩
    | ⟨_ + 2, h⟩ => absurd h (Nat.not_lt.2 (Nat.le_add_left _ _))

set_option maxRecDepth 8192 in
set_option backward.isDefEq.respectTransparency.types false in
/-- The conditional as a segment: the word is read, and the arm it names is run; the first enters the second region. -/
def condSeg (V : Dev nD → Valuation τ sig (Elt F)) (S : Dev nD → Valuation τ sig (Elt F) → Prop)
    (hS : ∀ c V', Arm 0 S c V' → ∀ w : Fin (cfgs 1).W, V c (arr 1 w) = V' (arr 1 w)) :
    Pipeline.HostSeg (Name := ℕ) (U := UU nD τ) (pcfgs (F := F)) defs₀ 𝒱₀ L lv where
  prog := condProg
  pre := St S Gh
  post := St (Cond V S) fun _ => iprop(emp)
  run c {β} k K := by
    unfold condProg
    rw [bind_assoc, wp_bind]
    iintro ⟨Hk, Hbd, ⟨%V', %hV, Hh, HR, HG⟩, Hlev⟩
    iapply (StableHlo.wp_hlo_within (Variants.lift 𝒱₀) (c : Thread nD τ) none Set.univ (sub_ucRefs _ (StableHlo.unary_bufs_sub ..))) $$ [Hbd Hh]
    · isplitl [Hbd]; · iexact Hbd
      iexact Hh
    iintro ⟨Hbd, Hh⟩
    rw [HostLoop.elt_apply, wp_ret]; imodintro
    rw [HostLoop.case_succ]
    have hA : Ops [rdOp] S c ((rdOp (F := F)).result V') := ⟨V', hV, rfl⟩
    generalize hw : HostLoop.branch _ 1 = b
    have hb : HostLoop.branch ((rdOp (F := F)).result V' main_v6 HostLoop.idx0) 1 = b := hw
    match b with
    | 0 =>
      dsimp only
      rw [bind_assoc]
      iapply (Pipeline.RDat.RegionSeg.wp (pcfgs (F := F)) adm (rdats V) () cellOf_inj EQ defs₀ 𝒱₀ L lv (reg1 V (Arm 0 S) hS fun _ => iprop(emp)) c none (by simp))
      rw [show (reg1 V (Arm 0 S) hS fun _ => iprop(emp)).pre c = St (Arm 0 S) (fun _ => iprop(emp)) c from rfl,
        show (reg1 V (Arm 0 S) hS fun _ => iprop(emp)).post c = St (Left V 1 (Arm 0 S)) (fun _ => iprop(emp)) c from rfl]
      isplitr [Hbd Hh HR HG Hlev]; swap
      · isplitl [Hbd]; · iexact Hbd
        isplitl [Hh HR]
        · iexists ((rdOp (F := F)).result V')
          isplitr; · ipureintro; exact ⟨hA, hb⟩
          isplitl [Hh]; · iexact Hh
          isplitl [HR]; · iexact HR
          iempintro
        isplitl [Hlev]; · iexact Hlev
        iexact HG
      iintro ⟨Hbd, ⟨%V2, %hV2, Hh, HR, HE⟩⟩
      iapply (StableHlo.wp_seq (defs := Pipeline.defs (pcfgs (F := F)) defs₀) (Variants.lift 𝒱₀) none Set.univ c ucRefs k (K := K) (armOps 0) (armOps_sub 0) (armOps_fresh 0) V2) $$ [Hbd Hh]
      · isplitl [Hbd] <;> iassumption
      iintro ⟨Hbd, Hh⟩
      iapply Hk
      isplitl [Hbd]; · iexact Hbd
      iexists (after (armOps 0) V2)
      isplitr; · ipureintro; exact Or.inl ⟨V2, hV2, rfl⟩
      isplitl [Hh]; · iexact Hh
      isplitl [HR] <;> iassumption
    | 1 =>
      iapply (StableHlo.wp_seq (defs := Pipeline.defs (pcfgs (F := F)) defs₀) (Variants.lift 𝒱₀) none Set.univ c ucRefs k (K := K) (armOps 1) (armOps_sub 1) (armOps_fresh 1) ((rdOp (F := F)).result V')) $$ [Hbd Hh]
      · isplitl [Hbd] <;> iassumption
      iintro ⟨Hbd, Hh⟩
      iapply Hk
      isplitl [Hbd]; · iexact Hbd
      iexists (after (armOps 1) ((rdOp (F := F)).result V'))
      isplitr; · ipureintro; exact Or.inr ⟨_, ⟨hA, hb⟩, rfl⟩
      isplitl [Hh]; · iexact Hh
      isplitl [HR]; · iexact HR
      iempintro

/-! ## The launch -/

variable (m : (ℓ : Loc nD τ sig) → Buf (Elt F) ℓ) (ρ : Dev nD → PrngReg)

/-- The buffers' contents at launch, and when the first region is entered. -/
abbrev s₀ : MemSt nD τ sig (Elt F) := ⟨m, fun _ => 0, ρ⟩
abbrev V₀ (c : Dev nD) : Valuation τ sig (Elt F) := fun b => (s₀ m ρ).mem ((c : Dev nD), b)
abbrev V₁ (c : Dev nD) : Valuation τ sig (Elt F) := after hostOps0 (V₀ m ρ c)

/-- What is known after each part of @main. -/
abbrev K0 (c : Dev nD) (V : Valuation τ sig (Elt F)) : Prop := V = V₀ m ρ c
abbrev K1 : Dev nD → Valuation τ sig (Elt F) → Prop := Ops hostOps0 (K0 m ρ)
abbrev K2 : Dev nD → Valuation τ sig (Elt F) → Prop := Left (V₁ m ρ) 0 (K1 m ρ)
abbrev K3 : Dev nD → Valuation τ sig (Elt F) → Prop := Ops hostOps1 (K2 m ρ)
abbrev K4 : Dev nD → Valuation τ sig (Elt F) → Prop := Cond (V₁ m ρ) (K3 m ρ)
abbrev K5 : Dev nD → Valuation τ sig (Elt F) → Prop := Ops hostOps1_1 (K4 m ρ)

theorem enters0 (c : Dev nD) (V' : Valuation τ sig (Elt F)) (h : K1 m ρ c V') (w : Fin (cfgs 0).W) : V₁ m ρ c (arr 0 w) = V' (arr 0 w) := by
  obtain ⟨V'', h', rfl⟩ := h
  rw [h']

/-- The buffers that the operations between the regions and the first region leave alone. -/
theorem ops1_keep (V : Valuation τ sig (Elt F)) (b : Ref sig .tc)
    (hb : b ≠ main_v2 ∧ b ≠ main_v3 ∧ b ≠ main_c ∧ b ≠ main_v4 ∧ b ≠ main_v5) : after hostOps1 V (Proc.devRef .tc b) = V (Proc.devRef .tc b) := by
  obtain ⟨h2, h3, hc, h4, h5⟩ := hb
  refine StableHlo.after_of_forall_not_mem (b := Proc.devRef .tc b) hostOps1 V fun op hop => ?_
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

theorem rdOp_keep (V : Valuation τ sig (Elt F)) (b : Ref sig .tc) (hb : b ≠ main_v6) : after [rdOp] V (Proc.devRef .tc b) = V (Proc.devRef .tc b) := by
  refine StableHlo.after_of_forall_not_mem (b := Proc.devRef .tc b) [rdOp] V fun op hop => ?_
  simp only [List.mem_cons, List.mem_nil_iff, or_false] at hop
  subst hop
  simp only [StableHlo.unary_writes, Finset.mem_singleton]
  exact StableHlo.devRef_ne_of_ne hb

/-- After a region everything but its results is as before. -/
theorem left_keep (V : Dev nD → Valuation τ sig (Elt F)) (p : Fin 2) (S : Dev nD → Valuation τ sig (Elt F) → Prop) (c : Dev nD) (V' : Valuation τ sig (Elt F))
    (hS : ∀ c V', S c V' → ∀ w : Fin (cfgs p).W, V c (arr p w) = V' (arr p w)) (h : Left V p S c V') :
    ∃ V'', S c V'' ∧ (∀ d, (∀ w, ((cfgs p).win w).isOut = true → arr p w ≠ d) → V' d = V'' d)
      ∧ ∀ w, (rdats V p c).ArrAt w (cfgs p).N (V' (arr p w)) := by
  obtain ⟨V'', hV, hr, ha⟩ := h
  refine ⟨V'', hV, fun d hd => ?_, ha⟩
  by_cases hw : ∃ w, arr p w = d
  · obtain ⟨w, rfl⟩ := hw
    have hin : ((cfgs p).win w).isOut = false := by
      by_contra h
      exact hd w (by simpa using h) rfl
    have h2 := ha w
    rw [(rdats V p c).ArrAt_in w hin] at h2
    rw [h2, ← hS c V'' hV w]
    match p with
    | 0 => rfl
    | 1 => rfl
  · exact hr d fun w h => hw ⟨w, h⟩

theorem outs0 (b : Ref sig .tc) (hb : b ≠ main_v1_0 ∧ b ≠ main_v1_1 ∧ b ≠ main_v1_2) :
    ∀ w, ((cfgs 0).win w).isOut = true → arr 0 w ≠ Proc.devRef .tc b := by
  intro w hw h
  have hb' : Pipeline.arrRef (cfgs 0).spec w = b := Proc.devRef_injective _ h
  revert hb hw; subst hb'; revert w; decide
theorem outs1 (b : Ref sig .tc) (hb : b ≠ main_case0b0_v9) :
    ∀ w, ((cfgs 1).win w).isOut = true → arr 1 w ≠ Proc.devRef .tc b := by
  intro w hw h
  have hb' : Pipeline.arrRef (cfgs 1).spec w = b := Proc.devRef_injective _ h
  revert hb hw; subst hb'; revert w; decide

/-- The state before the conditional's read: the first region's results, and the operations after it. -/
theorem K3_facts (c : Dev nD) (V : Valuation τ sig (Elt F)) (h : K3 m ρ c V) :
    ∃ V2, V = after hostOps1 V2 ∧ (∀ b : Ref sig .tc, b ≠ main_v1_0 ∧ b ≠ main_v1_1 ∧ b ≠ main_v1_2 → V2 (Proc.devRef .tc b) = V₁ m ρ c (Proc.devRef .tc b))
      ∧ ∀ w, (rd0 (V₁ m ρ) c).ArrAt w cfg0.N (V2 (arr 0 w)) := by
  obtain ⟨V2, h2, rfl⟩ := h
  obtain ⟨V'', ⟨V0, h0, rfl⟩, hk, ha⟩ := left_keep (V₁ m ρ) 0 (K1 m ρ) c V2 (enters0 m ρ) h2
  refine ⟨V2, rfl, fun b hb => ?_, ha⟩
  rw [hk _ (outs0 b hb), h0]

theorem enters1 (c : Dev nD) (V' : Valuation τ sig (Elt F)) (h : Arm 0 (K3 m ρ) c V') (w : Fin (cfgs 1).W) : V₁ m ρ c (arr 1 w) = V' (arr 1 w) := by
  obtain ⟨⟨V3, h3, rfl⟩, -⟩ := h
  obtain ⟨V2, rfl, hk, -⟩ := K3_facts m ρ c V3 h3
  rw [rdOp_keep _ _ (by revert w; decide), ops1_keep _ _ (by revert w; decide), hk _ (by revert w; decide)]

theorem arm0_keep (V : Valuation τ sig (Elt F)) (b : Ref sig .tc) (hb : b ≠ main_case0b0_v10 ∧ b ≠ main_v7) :
    after (armOps 0) V (Proc.devRef .tc b) = V (Proc.devRef .tc b) := by
  obtain ⟨h1, h2⟩ := hb
  refine StableHlo.after_of_forall_not_mem (b := Proc.devRef .tc b) (armOps 0) V fun op hop => ?_
  simp only [List.mem_cons, List.mem_nil_iff, or_false] at hop
  rcases hop with rfl | rfl <;>
    simp only [StableHlo.unary_writes, StableHlo.reshape_writes, Finset.mem_singleton] <;>
    exact StableHlo.devRef_ne_of_ne ‹_›
theorem arm1_keep (V : Valuation τ sig (Elt F)) (b : Ref sig .tc) (hb : b ≠ main_v7) :
    after (armOps 1) V (Proc.devRef .tc b) = V (Proc.devRef .tc b) := by
  refine StableHlo.after_of_forall_not_mem (b := Proc.devRef .tc b) (armOps 1) V fun op hop => ?_
  simp only [List.mem_cons, List.mem_nil_iff, or_false] at hop
  subst hop
  simp only [StableHlo.unary_writes, Finset.mem_singleton]
  exact StableHlo.devRef_ne_of_ne hb
theorem ops2_keep (V : Valuation τ sig (Elt F)) (b : Ref sig .tc) (hb : b ≠ main_cst ∧ b ≠ main_v8) :
    after hostOps1_1 V (Proc.devRef .tc b) = V (Proc.devRef .tc b) := by
  obtain ⟨h1, h2⟩ := hb
  refine StableHlo.after_of_forall_not_mem (b := Proc.devRef .tc b) hostOps1_1 V fun op hop => ?_
  simp only [List.mem_cons, List.mem_nil_iff, or_false] at hop
  rcases hop with rfl | rfl <;>
    simp only [StableHlo.unary_writes, StableHlo.nullary_writes, Finset.mem_singleton] <;>
    exact StableHlo.devRef_ne_of_ne ‹_›
theorem ops0_keep (V : Valuation τ sig (Elt F)) (b : Ref sig .tc) (hb : b ≠ main_v0) :
    after hostOps0 V (Proc.devRef .tc b) = V (Proc.devRef .tc b) := by
  refine StableHlo.after_of_forall_not_mem (b := Proc.devRef .tc b) hostOps0 V fun op hop => ?_
  simp only [List.mem_cons, List.mem_nil_iff, or_false] at hop
  subst hop
  simp only [StableHlo.reshape_writes, Finset.mem_singleton]
  exact StableHlo.devRef_ne_of_ne hb

/-- What the end of @main is known to hold: the first region's results `V2`, the arm that the word computed from them
    names, and in the first arm the second region's result. -/
def Final (c : Dev nD) (V : Valuation τ sig (Elt F)) : Prop :=
  ∃ V2 V4, (∀ w, (rd0 (V₁ m ρ) c).ArrAt w cfg0.N (V2 (arr 0 w)))
    ∧ (∀ b : Ref sig .tc, b ≠ main_v1_0 ∧ b ≠ main_v1_1 ∧ b ≠ main_v1_2 → V2 (Proc.devRef .tc b) = V₁ m ρ c (Proc.devRef .tc b))
    ∧ V = after hostOps1_1 V4
    ∧ ((HostLoop.branch (after [rdOp] (after hostOps1 V2) main_v6 HostLoop.idx0) 1 = 0
          ∧ ∃ Vd, (rd1 (V₁ m ρ) c).ArrAt 3 cfg1.N (Vd main_case0b0_v9) ∧ (∀ b : Ref sig .tc, b ≠ main_case0b0_v9 → Vd b = after [rdOp] (after hostOps1 V2) b)
            ∧ V4 = after (armOps 0) Vd)
      ∨ (HostLoop.branch (after [rdOp] (after hostOps1 V2) main_v6 HostLoop.idx0) 1 = 1
          ∧ V4 = after (armOps 1) (after [rdOp] (after hostOps1 V2))))

theorem K5_final (c : Dev nD) (V : Valuation τ sig (Elt F)) (h : K5 m ρ c V) : Final m ρ c V := by
  obtain ⟨V4, h4, rfl⟩ := h
  rcases h4 with ⟨Vd, hd, rfl⟩ | ⟨Va, ⟨⟨V3, h3, rfl⟩, hw⟩, rfl⟩
  · obtain ⟨Va, ⟨⟨V3, h3, rfl⟩, hw⟩, hk, ha⟩ := left_keep (V₁ m ρ) 1 (Arm 0 (K3 m ρ)) c Vd (enters1 m ρ) hd
    obtain ⟨V2, rfl, hk2, ha2⟩ := K3_facts m ρ c V3 h3
    exact ⟨V2, _, ha2, hk2, rfl, Or.inl ⟨hw, Vd, ha 3, fun b hb => hk _ (outs1 b hb), rfl⟩⟩
  · obtain ⟨V2, rfl, hk2, ha2⟩ := K3_facts m ρ c V3 h3
    exact ⟨V2, _, ha2, hk2, rfl, Or.inr ⟨hw, rfl⟩⟩

/-- An argument is as launched. -/
theorem final_arg (c : Dev nD) (V : Valuation τ sig (Elt F)) (h : Final m ρ c V) (b : Ref sig .tc)
    (hb : b ∈ [main_arg0, main_arg1, main_arg2, main_arg3, main_arg4, main_arg5, main_arg6, main_arg7]) :
    V (Proc.devRef .tc b) = m ((c : Thread nD τ).loc b) := by
  have hn : (b ≠ main_v1_0 ∧ b ≠ main_v1_1 ∧ b ≠ main_v1_2) ∧ (b ≠ main_v0) ∧ (b ≠ main_v6) ∧ (b ≠ main_v2 ∧ b ≠ main_v3 ∧ b ≠ main_c ∧ b ≠ main_v4 ∧ b ≠ main_v5) ∧ (b ≠ main_cst ∧ b ≠ main_v8) ∧ (b ≠ main_case0b0_v10 ∧ b ≠ main_v7) ∧ (b ≠ main_case0b0_v9) ∧ (b ≠ main_v7) := by
    clear h; revert b; decide
  obtain ⟨n0, n1, n2, n3, n4, n5, n6, n7⟩ := hn
  obtain ⟨V2, V4, -, hk2, rfl, h⟩ := h
  have h2 : V2 (Proc.devRef .tc b) = m ((c : Thread nD τ).loc b) := by
    rw [hk2 b n0, show V₁ m ρ c = after hostOps0 (V₀ m ρ c) from rfl, ops0_keep _ b n1]
  have h3 : after [rdOp] (after hostOps1 V2) (Proc.devRef .tc b) = m ((c : Thread nD τ).loc b) := by
    rw [rdOp_keep _ b n2, ops1_keep _ b n3, h2]
  rw [ops2_keep _ b n4]
  rcases h with ⟨-, Vd, -, hd, rfl⟩ | ⟨-, rfl⟩
  · rw [arm0_keep _ b n5, hd b n6, h3]
  · rw [arm1_keep _ b n7, h3]

/-- @main as its parts. -/
abbrev segs : List (Pipeline.RDat.Seg (pcfgs (F := F)) adm (rdats (V₁ m ρ)) () defs₀ 𝒱₀ L lv) :=
  [.host (opsSeg hostOps0 (fun op h => sub_ucRefs op ((List.forall_iff_forall_mem.mp hostOps0_sub) op h))
      (by intro _ h; (repeat (cases h with | head => rfl | tail _ h => ?_)); exact nomatch h) (K0 m ρ) Gh),
   .region (reg0 (V₁ m ρ) (K1 m ρ) (enters0 m ρ) Gh),
   .host (opsSeg hostOps1 (fun op h => sub_ucRefs op ((List.forall_iff_forall_mem.mp hostOps1_sub) op h))
      (by intro _ h; (repeat (cases h with | head => rfl | tail _ h => ?_)); exact nomatch h) (K2 m ρ) Gh),
   .host (condSeg (V₁ m ρ) (K3 m ρ) (enters1 m ρ)),
   .host (opsSeg hostOps1_1 (fun op h => sub_ucRefs op ((List.forall_iff_forall_mem.mp hostOps1_1_sub) op h))
      (by intro _ h; (repeat (cases h with | head => rfl | tail _ h => ?_)); exact nomatch h) (K4 m ρ) fun _ => iprop(emp))]

omit [FloatOps F] in
/-- The second pipeline's part of a family over both. -/
theorem second (Φ : Fin 2 → Dev nD → sProp 𝕄) :
    (bigSep Finset.univ fun c => bigSep Finset.univ fun p => Φ p c) ⊢ (bigSep Finset.univ fun c => Φ 1 c : sProp 𝕄) := by
  refine bigSep_mono (fun c _ => ?_)
  rw [bigSep_fin_two]
  exact (show iprop(Φ 0 c ∗ Φ 1 c) ⊢ Φ 1 c from by iintro ⟨-, H⟩; iexact H)

/-- The launch element. -/
def u₀ : UU nD τ := (initOf (Pipeline.cells cfgs cellOf_inj) (Pipeline.launchToks cfgs cellOf_inj), initOf (Pipeline.cells cfgs cellOf_inj) (Pipeline.launchToks cfgs cellOf_inj))

set_option maxRecDepth 8192 in
set_option backward.isDefEq.respectTransparency.types false in
/-- Every weakly fair execution of @main terminates without a fault, and its final memory is one that `Final` allows. -/
theorem run_main : θ_run defs (onTc (τ := τ) (main (F := F))) (s₀ m ρ)
    (fun r => (∀ c : Dev nD, ∃ V, Final m ρ c V ∧ ∀ b : Ref sig .tc, b.isScoped = false → r.2.mem ((c : Thread nD τ).loc b) = V (Proc.devRef .tc b)) ∧ r.2.sem = fun _ => 0) :=
  Pipeline.RDat.θ_run_regions_kit_sems (pcfgs (F := F)) adm (rdats (V₁ m ρ)) () cellOf_inj EP defs₀ 𝒱₀ L lv m ρ main (segs m ρ)
    (fun c Q => by rw [Gen.main_chain, Pipeline.RDat.Seg.run_eq_chain]; exact .rfl)
    (by simp only [Pipeline.RDat.Seg.pipes_host, Pipeline.RDat.Seg.pipes_region, Pipeline.RDat.Seg.pipes_nil]; decide) (O₀ := 0) (hL := fun _ _ => rfl) (G := Gh) (u₀ := u₀)
    (hu₀ := by
      unfold u₀
      iintro Hu
      ihave H := (ownU_pair _ _) $$ Hu
      icases H with ⟨HP, HQ⟩
      imod (Pipeline.fund_ghost (Pipeline.pin (pcfgs (F := F)) adm) EQ cellOf_inj) $$ HQ with ⟨Hc, Ht⟩
      imodintro
      isplitl [HP]; · iexact HP
      iapply (show iprop((bigSep Finset.univ fun c => Pipeline.cellsGhost (Pipeline.pin (pcfgs (F := F)) adm) EQ 1 c)
          ∗ (bigSep Finset.univ fun c => Pipeline.toksInit (Pipeline.pin (pcfgs (F := F)) adm) EQ 1 c)) ⊢ bigSep Finset.univ (Gh (F := F)) from
        Entails.of_eq (bigSep_sep Finset.univ _ _).symm)
      isplitl [Hc]
      · iapply (second fun p c => Pipeline.cellsGhost (Pipeline.pin (pcfgs (F := F)) adm) EQ p c)
        iexact Hc
      · iapply (second fun p c => Pipeline.toksInit (Pipeline.pin (pcfgs (F := F)) adm) EQ p c)
        iexact Ht)
    (T₀ := St (K0 m ρ) Gh) (Tₙ := fun c => iprop(∃ V, ⌜K5 m ρ c V⌝ ∗ held (c : Thread nD τ) ucRefs V))
    (hch := ⟨fun _ => .rfl, fun _ => .rfl, fun _ => .rfl, fun _ => .rfl, fun _ => .rfl, fun c => by
      show St (K5 m ρ) (fun _ => iprop(emp)) c ⊢ _
      iintro ⟨%V, %hV, Hh, HR, -⟩
      isplitl [Hh]
      · iexists V
        isplitr; · ipureintro; exact hV
        iexact Hh
      iexact HR⟩)
    (hinit := by
      refine Pipeline.initEach L lv fun c => ?_
      rw [show unscopedBufs c (fun b => m ((c : Thread nD τ).loc b)) = held (c : Thread nD τ) ucRefs (V₀ m ρ c) from unscopedBufs_held c (V₀ m ρ c)]
      iintro ⟨⟨Hh, -, HO, -, -, HG⟩, -⟩
      imodintro
      iexists (V₀ m ρ c)
      isplitr; · ipureintro; rfl
      isplitl [Hh]; · iexact Hh
      isplitl [HO]; · iexists ∅; iexact HO
      iexact HG)
    (QY := fun c s => ∃ V, Final m ρ c V ∧ ∀ b : Ref sig .tc, b.isScoped = false → s.mem ((c : Thread nD τ).loc b) = V (Proc.devRef .tc b))
    (hfin := fun c s' => by
      iintro ⟨⟨%V, %hV, Hh⟩, HSI⟩
      unfold held
      ihave Hr := (pointsTo_read_all' ucRefs (fun b => ((c : Dev nD), b)) V s' fun _ => fullShare) $$ [Hh HSI]
      · isplitl [Hh] <;> iassumption
      icases Hr with ⟨%ha, HSI⟩
      imodintro
      isplitr
      · ipureintro
        refine ⟨V, K5_final m ρ c V hV, fun b hb => ha (Proc.devRef .tc b) (Finset.mem_filter.mpr ⟨?_, ?_⟩)⟩
        · exact Finset.mem_map.mpr ⟨b, Finset.mem_univ b, rfl⟩
        · intro h; exact Bool.false_ne_true (hb.symm.trans h)
      iexact HSI)
    (hQ := fun _ h hz => ⟨h, funext fun g => hz g (.inr (by revert g; decide))⟩)

/-- The arguments end as launched, and every counter reads zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) := by
  refine θ_run_mono (run_main m ρ) fun r hr => ⟨fun c => ?_, hr.2⟩
  obtain ⟨V, hV, hm⟩ := hr.1 c
  have h : ∀ b : Ref sig .tc, b.isScoped = false → b ∈ [main_arg0, main_arg1, main_arg2, main_arg3, main_arg4, main_arg5, main_arg6, main_arg7] →
      r.2.mem ((c : Thread nD τ).loc b) = m ((c : Thread nD τ).loc b) := fun b hs hb => (hm b hs).trans (final_arg m ρ c V hV b hb)
  exact ⟨h _ rfl (by decide), h _ rfl (by decide), h _ rfl (by decide), h _ rfl (by decide), h _ rfl (by decide), h _ rfl (by decide), h _ rfl (by decide), h _ rfl (by decide)⟩

end Cert.KernelIdeal.Own

end
-- ==== Proof.Same.lean ====
/-
  The printed kernel and its ideal copy are one program: no rewrite was applied, so their body tables are equal at
  every reading of the floats. A run of the one is a run of the other.
-/
module

public import proofs.«01_k».proof.Defs
public import proofs.«01_k».proof.Proof.Gen.Kernel
public import proofs.«01_k».proof.Proof.Run

@[expose] public section

namespace Cert.KernelIdeal.Own

open Cert.KernelIdeal.Gen Cert.Kernel.Gen
open Idealize.ShloMosaic Idealize.SL.Sem

set_option maxHeartbeats 2000000

theorem onTc_congr {nD : ℕ} {τ : Topo} {sig : RefSig} {Val : EltTy → Type} {Λ : Labels}
    (D D' : (ℓ : Λ.Label) → Λ.Args ℓ → Prog (TpuEff nD τ sig Val Λ .tc) (Λ.Result ℓ)) (h : ∀ ℓ a, D ℓ a = D' ℓ a) :
    Defs.onTc D = Defs.onTc D' := by rw [show D = D' from funext fun ℓ => funext fun a => h ℓ a]

theorem body0_same : @Cert.Kernel.cc0__fast_body Bits _ _ = @Cert.KernelIdeal.cc0__fast_body Bits _ _ := rfl
theorem body1_same : @Cert.Kernel.cc1__dense_body Bits _ _ = @Cert.KernelIdeal.cc1__dense_body Bits _ _ := rfl

/-- The two calls' bodies. -/
theorem bodies_same : Cert.Kernel.defs₀ (F := Bits) = Cert.KernelIdeal.defs₀ (F := Bits) := by
  unfold Cert.Kernel.defs₀ Cert.KernelIdeal.defs₀
  refine onTc_congr _ _ fun ℓ a => ?_
  obtain ⟨l, hl⟩ := ℓ
  match l, hl, a with
  | 0, _, (t, s) => dsimp only; rw [body0_same]; rfl
  | 1, _, (t, s) => dsimp only; rw [body1_same]; rfl
  | _ + 2, h, _ => exact absurd h (Nat.not_lt.2 (Nat.le_add_left _ _))

theorem defs_same : Cert.Kernel.defs (F := Bits) = Cert.KernelIdeal.defs (F := Bits) := by
  show Pipeline.defs (Cert.KernelIdeal.pcfgs (F := Bits)) (Cert.Kernel.defs₀ (F := Bits)) = Pipeline.defs (Cert.KernelIdeal.pcfgs (F := Bits)) (Cert.KernelIdeal.defs₀ (F := Bits))
  rw [bodies_same]

theorem main_same : Cert.Kernel.main (F := Bits) = Cert.KernelIdeal.main (F := Bits) := rfl

/-- A run of the ideal copy at the words is a run of the kernel. -/
theorem frame_kernel (m : (ℓ : Loc Cert.Kernel.nD Cert.Kernel.τ Cert.Kernel.sig) → Buf (Elt Bits) ℓ) (ρ : Dev Cert.Kernel.nD → PrngReg)
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [← defs_same] at h
  exact h

end Cert.KernelIdeal.Own

end
-- ==== Proof.RefRun.lean ====
/-
  The run of the reference. Its @main is one straight line of operations: it is stated here as a list, cut where the
  random generator begins and ends, and the generator is stated by its rounds.
-/
module

public import proofs.«01_k».proof.Proof.Gen.ReferenceIdeal
public import Idealize.ShloMosaic.Lib.StableHlo.Run
public import Idealize.ShloMosaic.Lib.Quiescent

@[expose] public section

set_option maxRecDepth 8000
set_option maxHeartbeats 1000000

noncomputable section

namespace Cert.ReferenceIdeal.Own

open Cert.ReferenceIdeal Cert.ReferenceIdeal.Gen
open Idealize.ShloMosaic Idealize.SL.Sem
open Idealize.ShloMosaic.StableHlo (TRef after seq tcRefs)

variable {F : FTy → Type} [FloatOps F]

/-- A word and an array of words, as the generator's operands. -/
abbrev Word1 := TRef sig ⟨S_, .i32⟩
abbrev Words := TRef sig ⟨S128x100000, .i32⟩

/-- A word for every element. -/
abbrev spread (x : (⟨S_, .i32⟩ : BufTy).Contents (Elt F)) : (⟨S128x100000, .i32⟩ : BufTy).Contents (Elt F) :=
  broadcastInDim S128x100000 ![] bcast_S_S128x100000 x

/-- One round: the sum of the two words, and the second rotated and mixed with it. -/
def roundOps (x y s : Words) (c1 : Word1) (w1 l : Words) (c2 : Word1) (w2 r o z : Words) (a b : BitVec 32) : List (HloOp τ sig (Elt F)) :=
  [StableHlo.TRef.binary x y s addi, StableHlo.TRef.nullary c1 (constantI S_ 32 a), StableHlo.TRef.unary c1 w1 spread,
   StableHlo.TRef.binary y w1 l Host.shli, StableHlo.TRef.nullary c2 (constantI S_ 32 b), StableHlo.TRef.unary c2 w2 spread,
   StableHlo.TRef.binary y w2 r Host.shrui, StableHlo.TRef.binary l r o ori, StableHlo.TRef.binary s o z xori]

/-- The keys added after four rounds. -/
def keyOps (ka kb : Word1) (x z wa x1 wb z1 : Words) (c : Word1) (wc z2 : Words) (n : BitVec 32) : List (HloOp τ sig (Elt F)) :=
  [StableHlo.TRef.unary ka wa spread, StableHlo.TRef.binary x wa x1 addi, StableHlo.TRef.unary kb wb spread,
   StableHlo.TRef.binary z wb z1 addi, StableHlo.TRef.nullary c (constantI S_ 32 n), StableHlo.TRef.unary c wc spread,
   StableHlo.TRef.binary z1 wc z2 addi]

/-- The generator's start: the third key, and the first two added. -/
def startOps (arg0 arg1 : Word1) (arg2 arg3 : Words) (φ : fn_threefry2x32.Bufs) : List (HloOp τ sig (Elt F)) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 spread,
   StableHlo.TRef.binary arg2 φ.v2 φ.v3 addi,
   StableHlo.TRef.unary arg1 φ.v4 spread,
   StableHlo.TRef.binary arg3 φ.v4 φ.v5 addi]

/-- Four rounds and the keys after them. -/
def turn0 (arg0 arg1 : Word1) (φ : fn_threefry2x32.Bufs) : List (HloOp τ sig (Elt F)) :=
  roundOps φ.v3 φ.v5 φ.v6 φ.c_0 φ.v7 φ.v8 φ.c_1 φ.v9 φ.v10 φ.v11 φ.v12 13#32 19#32
  ++ roundOps φ.v6 φ.v12 φ.v13 φ.c_2 φ.v14 φ.v15 φ.c_3 φ.v16 φ.v17 φ.v18 φ.v19 15#32 17#32
  ++ roundOps φ.v13 φ.v19 φ.v20 φ.c_4 φ.v21 φ.v22 φ.c_5 φ.v23 φ.v24 φ.v25 φ.v26 26#32 6#32
  ++ roundOps φ.v20 φ.v26 φ.v27 φ.c_6 φ.v28 φ.v29 φ.c_7 φ.v30 φ.v31 φ.v32 φ.v33 6#32 26#32
  ++ keyOps arg1 φ.v1 φ.v27 φ.v33 φ.v34 φ.v35 φ.v36 φ.v37 φ.c_8 φ.v38 φ.v39 1#32

/-- Four rounds and the keys after them. -/
def turn1 (arg0 arg1 : Word1) (φ : fn_threefry2x32.Bufs) : List (HloOp τ sig (Elt F)) :=
  roundOps φ.v35 φ.v39 φ.v40 φ.c_9 φ.v41 φ.v42 φ.c_10 φ.v43 φ.v44 φ.v45 φ.v46 17#32 15#32
  ++ roundOps φ.v40 φ.v46 φ.v47 φ.c_11 φ.v48 φ.v49 φ.c_12 φ.v50 φ.v51 φ.v52 φ.v53 29#32 3#32
  ++ roundOps φ.v47 φ.v53 φ.v54 φ.c_13 φ.v55 φ.v56 φ.c_14 φ.v57 φ.v58 φ.v59 φ.v60 16#32 16#32
  ++ roundOps φ.v54 φ.v60 φ.v61 φ.c_15 φ.v62 φ.v63 φ.c_16 φ.v64 φ.v65 φ.v66 φ.v67 24#32 8#32
  ++ keyOps φ.v1 arg0 φ.v61 φ.v67 φ.v68 φ.v69 φ.v70 φ.v71 φ.c_17 φ.v72 φ.v73 2#32

/-- Four rounds and the keys after them. -/
def turn2 (arg0 arg1 : Word1) (φ : fn_threefry2x32.Bufs) : List (HloOp τ sig (Elt F)) :=
  roundOps φ.v69 φ.v73 φ.v74 φ.c_18 φ.v75 φ.v76 φ.c_19 φ.v77 φ.v78 φ.v79 φ.v80 13#32 19#32
  ++ roundOps φ.v74 φ.v80 φ.v81 φ.c_20 φ.v82 φ.v83 φ.c_21 φ.v84 φ.v85 φ.v86 φ.v87 15#32 17#32
  ++ roundOps φ.v81 φ.v87 φ.v88 φ.c_22 φ.v89 φ.v90 φ.c_23 φ.v91 φ.v92 φ.v93 φ.v94 26#32 6#32
  ++ roundOps φ.v88 φ.v94 φ.v95 φ.c_24 φ.v96 φ.v97 φ.c_25 φ.v98 φ.v99 φ.v100 φ.v101 6#32 26#32
  ++ keyOps arg0 arg1 φ.v95 φ.v101 φ.v102 φ.v103 φ.v104 φ.v105 φ.c_26 φ.v106 φ.v107 3#32

/-- Four rounds and the keys after them. -/
def turn3 (arg0 arg1 : Word1) (φ : fn_threefry2x32.Bufs) : List (HloOp τ sig (Elt F)) :=
  roundOps φ.v103 φ.v107 φ.v108 φ.c_27 φ.v109 φ.v110 φ.c_28 φ.v111 φ.v112 φ.v113 φ.v114 17#32 15#32
  ++ roundOps φ.v108 φ.v114 φ.v115 φ.c_29 φ.v116 φ.v117 φ.c_30 φ.v118 φ.v119 φ.v120 φ.v121 29#32 3#32
  ++ roundOps φ.v115 φ.v121 φ.v122 φ.c_31 φ.v123 φ.v124 φ.c_32 φ.v125 φ.v126 φ.v127 φ.v128 16#32 16#32
  ++ roundOps φ.v122 φ.v128 φ.v129 φ.c_33 φ.v130 φ.v131 φ.c_34 φ.v132 φ.v133 φ.v134 φ.v135 24#32 8#32
  ++ keyOps arg1 φ.v1 φ.v129 φ.v135 φ.v136 φ.v137 φ.v138 φ.v139 φ.c_35 φ.v140 φ.v141 4#32

/-- Four rounds and the keys after them. -/
def turn4 (arg0 arg1 : Word1) (φ : fn_threefry2x32.Bufs) : List (HloOp τ sig (Elt F)) :=
  roundOps φ.v137 φ.v141 φ.v142 φ.c_36 φ.v143 φ.v144 φ.c_37 φ.v145 φ.v146 φ.v147 φ.v148 13#32 19#32
  ++ roundOps φ.v142 φ.v148 φ.v149 φ.c_38 φ.v150 φ.v151 φ.c_39 φ.v152 φ.v153 φ.v154 φ.v155 15#32 17#32
  ++ roundOps φ.v149 φ.v155 φ.v156 φ.c_40 φ.v157 φ.v158 φ.c_41 φ.v159 φ.v160 φ.v161 φ.v162 26#32 6#32
  ++ roundOps φ.v156 φ.v162 φ.v163 φ.c_42 φ.v164 φ.v165 φ.c_43 φ.v166 φ.v167 φ.v168 φ.v169 6#32 26#32
  ++ keyOps φ.v1 arg0 φ.v163 φ.v169 φ.v170 φ.v171 φ.v172 φ.v173 φ.c_44 φ.v174 φ.v175 5#32

/-- The generator. -/
def bitsOps (arg0 arg1 : Word1) (arg2 arg3 : Words) (φ : fn_threefry2x32.Bufs) : List (HloOp τ sig (Elt F)) :=
  startOps arg0 arg1 arg2 arg3 φ ++ turn0 arg0 arg1 φ ++ turn1 arg0 arg1 φ ++ turn2 arg0 arg1 φ ++ turn3 arg0 arg1 φ ++ turn4 arg0 arg1 φ

theorem bits_eq (arg0 arg1 : Word1) (arg2 arg3 : Words) (φ : fn_threefry2x32.Bufs) :
    fn_threefry2x32.body (F := F) arg0 arg1 arg2 arg3 φ = seq (bitsOps arg0 arg1 arg2 arg3 φ) := by
  rfl

/-- The element numbers, and the words the generator takes. -/
def numberOps (arg0 : TRef sig ⟨S2, .i32⟩) (arg1 arg2 : TRef sig ⟨S_, .f32⟩) (φ : fn_uniform.Bufs) : List (HloOp τ sig (Elt F)) :=
  [StableHlo.TRef.unary arg1 φ.v0 id,
   StableHlo.TRef.unary arg2 φ.v1 (broadcastInDim S1x1 ![] bcast_S_S1x1),
   StableHlo.TRef.unary φ.v0 φ.v2 (broadcastInDim S1x1 ![] bcast_S_S1x1),
   StableHlo.TRef.unary arg0 φ.v3 (extractStridedSlice S1 ![0] · slices_S2_S1_0),
   StableHlo.TRef.reshape φ.v3 φ.v4 (rfl : (.i32 : EltTy) = .i32) shapeCasts_S1_S_,
   StableHlo.TRef.unary arg0 φ.v5 (extractStridedSlice S1 ![1] · slices_S2_S1_1),
   StableHlo.TRef.reshape φ.v5 φ.v6 (rfl : (.i32 : EltTy) = .i32) shapeCasts_S1_S_,
   StableHlo.TRef.nullary φ.v7 (iotaInDim S128x100000 64 0),
   StableHlo.TRef.nullary φ.v8 (iotaInDim S128x100000 64 1),
   StableHlo.TRef.nullary φ.c (constantI S_ 64 100000#64),
   StableHlo.TRef.unary φ.c φ.v9 (broadcastInDim S128x100000 ![] bcast_S_S128x100000),
   StableHlo.TRef.binary φ.v9 φ.v7 φ.v10 muli,
   StableHlo.TRef.nullary φ.c_0 (constantI S_ 64 1#64),
   StableHlo.TRef.unary φ.c_0 φ.v11 (broadcastInDim S128x100000 ![] bcast_S_S128x100000),
   StableHlo.TRef.binary φ.v11 φ.v8 φ.v12 muli,
   StableHlo.TRef.binary φ.v10 φ.v12 φ.v13 addi,
   StableHlo.TRef.nullary φ.c_1 (constantI S_ 64 32#64),
   StableHlo.TRef.unary φ.c_1 φ.v14 (broadcastInDim S128x100000 ![] bcast_S_S128x100000),
   StableHlo.TRef.binary φ.v13 φ.v14 φ.v15 Host.shrui,
   StableHlo.TRef.unary φ.v13 φ.v16 (trunci 32 · natLt_32_64),
   StableHlo.TRef.unary φ.v15 φ.v17 (trunci 32 · natLt_32_64)]

/-- From the bits to a uniform number. -/
def uniformOps (φ : fn_uniform.Bufs) : List (HloOp τ sig (Elt F)) :=
  [StableHlo.TRef.binary φ.call0.v171 φ.call0.v175 φ.v19 xori,
   StableHlo.TRef.nullary φ.c_2 (constantI S_ 32 9#32),
   StableHlo.TRef.unary φ.c_2 φ.v20 (broadcastInDim S128x100000 ![] bcast_S_S128x100000),
   StableHlo.TRef.binary φ.v19 φ.v20 φ.v21 Host.shrui,
   StableHlo.TRef.nullary φ.c_3 (constantI S_ 32 1065353216#32),
   StableHlo.TRef.unary φ.c_3 φ.v22 (broadcastInDim S128x100000 ![] bcast_S_S128x100000),
   StableHlo.TRef.binary φ.v21 φ.v22 φ.v23 ori,
   StableHlo.TRef.unary φ.v23 φ.v24 (bitcastToFloat .f32),
   StableHlo.TRef.nullary φ.cst (constant S_ .f32 0x3F800000#32),
   StableHlo.TRef.unary φ.cst φ.v25 (broadcastInDim S128x100000 ![] bcast_S_S128x100000),
   StableHlo.TRef.binary φ.v24 φ.v25 φ.v26 subf,
   StableHlo.TRef.binary φ.v2 φ.v1 φ.v27 subf,
   StableHlo.TRef.unary φ.v27 φ.v28 (broadcastInDim S128x100000 ![0, 1] bcast_S1x1_S128x100000_0_1),
   StableHlo.TRef.binary φ.v26 φ.v28 φ.v29 mulf,
   StableHlo.TRef.unary φ.v1 φ.v30 (broadcastInDim S128x100000 ![0, 1] bcast_S1x1_S128x100000_0_1),
   StableHlo.TRef.binary φ.v29 φ.v30 φ.v31 addf,
   StableHlo.TRef.unary φ.v1 φ.v32 (broadcastInDim S128x100000 ![0, 1] bcast_S1x1_S128x100000_0_1),
   StableHlo.TRef.binary φ.v32 φ.v31 φ.v33 maximumf]

def constOps (φ : fn_gumbel.Bufs) : List (HloOp τ sig (Elt F)) :=
  [StableHlo.TRef.nullary φ.cst (constant S_ .f32 0x3F800000#32),
   StableHlo.TRef.nullary φ.cst_0 (constant S_ .f32 0x00800000#32)]

def logOps (φ : fn_gumbel.Bufs) : List (HloOp τ sig (Elt F)) :=
  [StableHlo.TRef.unary φ.call0.v33 φ.v1 Host.log,
   StableHlo.TRef.unary φ.v1 φ.v2 Host.negf,
   StableHlo.TRef.unary φ.v2 φ.v3 Host.log,
   StableHlo.TRef.unary φ.v3 φ.v4 Host.negf]

def argmaxOps (arg0 : TRef sig ⟨S128x100000, .f32⟩) (φ : fn_argmax.Bufs) : List (HloOp τ sig (Elt F)) :=
  [StableHlo.TRef.nullary φ.v0 (iotaInDim S128x100000 32 1),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S128x100000_S128_d1 h_S_ j).1),
   StableHlo.TRef.quaternary arg0 φ.v0 φ.cst φ.c φ.v1_1 (fun x y u v j => (Host.argReduce reducer_argmax_f32_i32 x y u v reducesTo_S128x100000_S128_d1 h_S_ j).2)]

/-- The logits and the key. -/
def logitOps : List (HloOp τ sig (Elt F)) :=
  [StableHlo.binary main_arg0 main_arg1 main_v0 ((fun l r => Host.dotGeneral dot_S128x64_S64x100000_S128x100000_1_0_0_1_n_n none l r) : (⟨S128x64, .f32⟩ : BufTy).Contents (Elt F) → (⟨S64x100000, .f32⟩ : BufTy).Contents (Elt F) → (⟨S128x100000, .f32⟩ : BufTy).Contents (Elt F)),
   StableHlo.unary main_arg2 main_v1 (broadcastInDim S1x100000 ![1] bcast_S100000_S1x100000_1 : (⟨S100000, .f32⟩ : BufTy).Contents (Elt F) → (⟨S1x100000, .f32⟩ : BufTy).Contents (Elt F)),
   StableHlo.unary main_v1 main_v2 (broadcastInDim S128x100000 ![0, 1] bcast_S1x100000_S128x100000_0_1 : (⟨S1x100000, .f32⟩ : BufTy).Contents (Elt F) → (⟨S128x100000, .f32⟩ : BufTy).Contents (Elt F)),
   StableHlo.binary main_v0 main_v2 main_v3 (addf : (⟨S128x100000, .f32⟩ : BufTy).Contents (Elt F) → (⟨S128x100000, .f32⟩ : BufTy).Contents (Elt F) → (⟨S128x100000, .f32⟩ : BufTy).Contents (Elt F)),
   StableHlo.nullary main_c (constantI S_ 32 42#32),
   StableHlo.nullary main_c_0 (constantI S_ 32 32#32),
   StableHlo.binary main_c main_c_0 main_v4 (Host.shrui : (⟨S_, .i32⟩ : BufTy).Contents (Elt F) → (⟨S_, .i32⟩ : BufTy).Contents (Elt F) → (⟨S_, .i32⟩ : BufTy).Contents (Elt F)),
   StableHlo.unary main_v4 main_v5 (id : (⟨S_, .i32⟩ : BufTy).Contents (Elt F) → (⟨S_, .i32⟩ : BufTy).Contents (Elt F)),
   StableHlo.unary main_v5 main_v6 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v7 (andi : (⟨S_, .i32⟩ : BufTy).Contents (Elt F) → (⟨S_, .i32⟩ : BufTy).Contents (Elt F) → (⟨S_, .i32⟩ : BufTy).Contents (Elt F)),
   StableHlo.unary main_v7 main_v8 (id : (⟨S_, .i32⟩ : BufTy).Contents (Elt F) → (⟨S_, .i32⟩ : BufTy).Contents (Elt F)),
   StableHlo.unary main_v8 main_v9 (broadcastInDim S1 ![] bcast_S_S1 : (⟨S_, .i32⟩ : BufTy).Contents (Elt F) → (⟨S1, .i32⟩ : BufTy).Contents (Elt F)),
   StableHlo.binary main_v6 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

def scoreOps : List (HloOp τ sig (Elt F)) :=
  [StableHlo.binary main_v11 main_v3 main_v12 (addf : (⟨S128x100000, .f32⟩ : BufTy).Contents (Elt F) → (⟨S128x100000, .f32⟩ : BufTy).Contents (Elt F) → (⟨S128x100000, .f32⟩ : BufTy).Contents (Elt F))]

def onesOps : List (HloOp τ sig (Elt F)) :=
  [StableHlo.nullary main_cst (constant S_ .f32 0x3F800000#32),
   StableHlo.unary main_cst main_v14 (broadcastInDim S128 ![] bcast_S_S128 : (⟨S_, .f32⟩ : BufTy).Contents (Elt F) → (⟨S128, .f32⟩ : BufTy).Contents (Elt F)),
   StableHlo.nullary main_cst_2 (constant S_ .f32 0x43000000#32),
   StableHlo.unary main_cst_2 main_v15 (broadcastInDim S128 ![] bcast_S_S128 : (⟨S_, .f32⟩ : BufTy).Contents (Elt F) → (⟨S128, .f32⟩ : BufTy).Contents (Elt F)),
   StableHlo.binary main_v14 main_v15 main_v16 (Host.divf : (⟨S128, .f32⟩ : BufTy).Contents (Elt F) → (⟨S128, .f32⟩ : BufTy).Contents (Elt F) → (⟨S128, .f32⟩ : BufTy).Contents (Elt F))]

/-- The generator's call: its keys and counters. -/
abbrev uBits : List (HloOp τ sig (Elt F)) :=
  bitsOps main_call0_call0.v4 main_call0_call0.v6 main_call0_call0.v17 main_call0_call0.v16 main_call0_call0_call0

/-- The noise, from the key. -/
def noiseOps : List (HloOp τ sig (Elt F)) :=
  constOps main_call0 ++ numberOps (.of main_v10) main_call0.cst main_call0.cst_0 main_call0_call0 ++ uBits
    ++ uniformOps main_call0_call0 ++ logOps main_call0

/-- @main's operations. -/
def ops : List (HloOp τ sig (Elt F)) :=
  logitOps ++ noiseOps ++ scoreOps ++ argmaxOps (.of main_v12) main_call1 ++ onesOps

theorem uniform_eq (arg0 : TRef sig ⟨S2, .i32⟩) (arg1 arg2 : TRef sig ⟨S_, .f32⟩) (φ : fn_uniform.Bufs) :
    fn_uniform.body (F := F) arg0 arg1 arg2 φ
      = seq (numberOps arg0 arg1 arg2 φ ++ bitsOps φ.v4 φ.v6 φ.v17 φ.v16 φ.call0 ++ uniformOps φ) := by
  unfold fn_uniform.body
  rw [bits_eq, StableHlo.seq_append, StableHlo.seq_append, bind_assoc]
  rfl

theorem main_eq (c : Dev nD) : main (F := F) c = seq ops := by
  unfold main fn_gumbel.body
  rw [uniform_eq]
  unfold ops noiseOps
  simp only [StableHlo.seq_append, bind_assoc]
  rfl

/-- An operation the launch can take: its buffers are the TensorCore's, and it determines what it writes. -/
def Plain (op : HloOp τ sig (Elt F)) : Prop := op.bufs ⊆ tcRefs τ sig ∧ op.fresh = ∅

omit [FloatOps F] in
theorem plain_append {l l' : List (HloOp τ sig (Elt F))} (h : l.Forall Plain) (h' : l'.Forall Plain) : (l ++ l').Forall Plain :=
  List.forall_append.mpr ⟨h, h'⟩

theorem round_plain (x y s : Words) (c1 : Word1) (w1 l : Words) (c2 : Word1) (w2 r o z : Words) (a b : BitVec 32) :
    (roundOps (F := F) x y s c1 w1 l c2 w2 r o z a b).Forall Plain := by
  simp [roundOps, Plain]; refine ⟨rfl, rfl, rfl, rfl, rfl, rfl, rfl, rfl, rfl⟩

theorem key_plain (ka kb : Word1) (x z wa x1 wb z1 : Words) (c : Word1) (wc z2 : Words) (n : BitVec 32) :
    (keyOps (F := F) ka kb x z wa x1 wb z1 c wc z2 n).Forall Plain := by
  simp [keyOps, Plain]; refine ⟨rfl, rfl, rfl, rfl, rfl, rfl, rfl⟩

theorem bits_plain (arg0 arg1 : Word1) (arg2 arg3 : Words) (φ : fn_threefry2x32.Bufs) :
    (bitsOps (F := F) arg0 arg1 arg2 arg3 φ).Forall Plain := by
  refine plain_append (plain_append (plain_append (plain_append (plain_append ?_ ?_) ?_) ?_) ?_) ?_
  · simp [startOps, Plain]; refine ⟨rfl, rfl, rfl, rfl, rfl, rfl, rfl⟩
  all_goals
    exact plain_append (plain_append (plain_append (plain_append (round_plain ..) (round_plain ..)) (round_plain ..))
      (round_plain ..)) (key_plain ..)

theorem ops_plain : (ops (F := F)).Forall Plain := by
  refine plain_append (plain_append (plain_append (plain_append ?_
    (plain_append (plain_append (plain_append (plain_append ?_ ?_) (bits_plain ..)) ?_) ?_)) ?_) ?_) ?_
  · simp [logitOps, Plain]; repeat' apply And.intro
    all_goals rfl
  · simp [constOps, Plain]; repeat' apply And.intro
    all_goals rfl
  · simp [numberOps, Plain]; repeat' apply And.intro
    all_goals rfl
  · simp [uniformOps, Plain]; repeat' apply And.intro
    all_goals rfl
  · simp [logOps, Plain]; repeat' apply And.intro
    all_goals rfl
  · simp [scoreOps, Plain]; repeat' apply And.intro
    all_goals rfl
  · simp [argmaxOps, Plain]; repeat' apply And.intro
    all_goals rfl
  · simp [onesOps, Plain]; repeat' apply And.intro
    all_goals rfl

/-- The buffer of number `k`. -/
abbrev refAt (k : ℕ) (h : k < 300) : Ref sig .tc := ⟨.hbm, ⟨k, h⟩, rfl⟩

/-- Consecutive buffers. -/
def span (lo n : ℕ) (h : lo + n ≤ 300) : List (Ref sig .tc) :=
  List.ofFn fun k : Fin n => refAt (lo + k) (lt_of_lt_of_le (Nat.add_lt_add_left k.2 lo) h)

omit [FloatOps F] in
/-- Operations that write consecutive buffers leave the others. -/
theorem keep_span {seg : List (HloOp τ sig (Elt F))} {lo n : ℕ} {h : lo + n ≤ 300}
    (hW : seg.map HloOp.writes = (span lo n h).map fun w => {Proc.devRef (τ := τ) .tc w}) (V : Valuation τ sig (Elt F))
    (j : ℕ) (hj : j < 300) (hne : j < lo ∨ lo + n ≤ j) :
    after seg V (Proc.devRef .tc (refAt j hj)) = V (Proc.devRef .tc (refAt j hj)) := by
  refine StableHlo.after_of_writes_sub seg V (StableHlo.forall_writes_sub_of_map hW) fun hm => ?_
  obtain ⟨k, hk⟩ := (List.mem_ofFn' _ _).mp hm
  have : lo + (k : ℕ) = j := by
    have := congrArg (fun r : Ref sig .tc => (r.idx : ℕ)) hk
    exact this
  have := k.2
  omega

theorem ops_writes : (ops (F := F)).map HloOp.writes = (span 8 292 (by decide)).map fun w => {Proc.devRef (τ := τ) .tc w} := rfl

theorem no_scoped_refs : (Finset.univ.filter fun b : Ref sig .tc => b.isScoped) = ∅ := by decide
theorem no_scoped_sems : (Finset.univ.filter fun sm : SemLoc sig => sm.isScoped .tc) = ∅ := by decide

theorem ops_bufs : (ops (F := F)).Forall fun op => op.bufs ⊆ tcRefs τ sig := ops_plain.imp fun _ h => h.1
theorem ops_fresh : ∀ op ∈ ops (F := F), op.fresh = ∅ := fun op h => (List.forall_iff_forall_mem.mp ops_plain op h).2

/-- The run: every buffer ends at the fold of the operations. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (StableHlo.launchContents m d) (Proc.devRef .tc b) :=
  StableHlo.run_seq (Val := Elt F) no_scoped_refs no_scoped_sems (defs (F := F)) (main (F := F)) (fun _ => ops (F := F)) main_eq
    (fun _ => ops_bufs) m ρ (fun _ => ops_fresh)

omit [FloatOps F] in
theorem keep_arg {W : Valuation τ sig (Elt F)} {l : List (HloOp τ sig (Elt F))}
    (hW : l.map HloOp.writes = (span 8 292 (by decide)).map fun w => {Proc.devRef (τ := τ) .tc w}) (j : ℕ) (hj : j < 8) :
    after l W (Proc.devRef .tc (refAt j (by omega))) = W (Proc.devRef .tc (refAt j (by omega))) :=
  keep_span hW W j _ (.inl hj)

/-- The run keeps the arguments and ends with every counter at zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run (defs (F := F)) _ _).mono (fun r h => ⟨fun c =>
    ⟨(h c _).trans (keep_arg ops_writes 0 (by decide)), (h c _).trans (keep_arg ops_writes 1 (by decide)),
     (h c _).trans (keep_arg ops_writes 2 (by decide)), (h c _).trans (keep_arg ops_writes 3 (by decide)),
     (h c _).trans (keep_arg ops_writes 4 (by decide)), (h c _).trans (keep_arg ops_writes 5 (by decide)),
     (h c _).trans (keep_arg ops_writes 6 (by decide)), (h c _).trans (keep_arg ops_writes 7 (by decide))⟩,
    sem_eq_zero_of_no_sems rfl r.2⟩) (run m ρ)

end Cert.ReferenceIdeal.Own

end
-- ==== Proof.Threefry.lean ====
/-
  The random words both programs make, one element at a time: the twenty rounds of the generator on a pair of words,
  stated once, and the round of an array of words read at an element.
-/
module

public import Idealize.ShloMosaic.PureOps
public import Idealize.ShloMosaic.PureOps.Ideal.Laws

@[expose] public section

namespace Cert.Noise

open Idealize.ShloMosaic

/-- A pair of words, the generator's state. -/
abbrev Pair := BitVec 32 × BitVec 32

/-- One round: add, rotate by `a` (`b` is 32 − a), mix. -/
def round (a b : BitVec 32) (p : Pair) : Pair := (p.1 + p.2, (p.2 <<< a ||| p.2 >>> b) ^^^ (p.1 + p.2))

/-- The keys added after four rounds. -/
def key (ka kb g : BitVec 32) (p : Pair) : Pair := (p.1 + ka, p.2 + kb + g)

/-- The four rounds of an even turn. -/
def even (p : Pair) : Pair := round 6#32 26#32 (round 26#32 6#32 (round 15#32 17#32 (round 13#32 19#32 p)))

/-- The four rounds of an odd turn. -/
def odd (p : Pair) : Pair := round 24#32 8#32 (round 16#32 16#32 (round 29#32 3#32 (round 17#32 15#32 p)))

/-- The generator under the keys `k0`, `k1` and the third key `k2`. -/
def words (k0 k1 k2 : BitVec 32) (p : Pair) : Pair :=
  key k2 k0 5#32 (even (key k1 k2 4#32 (odd (key k0 k1 3#32 (even (key k2 k0 2#32 (odd (key k1 k2 1#32 (even p)))))))))

/-- The random word of element number `n` under the key (0, 42). -/
def word (n : BitVec 32) : BitVec 32 :=
  (words 0#32 42#32 466689008#32 (0#32, n + 42#32)).1 ^^^ (words 0#32 42#32 466689008#32 (0#32, n + 42#32)).2

/-- The number in [0, 1) a random word stands for, read from a float's low bits, stretched to [2⁻¹²⁶, 1). -/
noncomputable def uniform (w : BitVec 32) : EReal :=
  max (Ideal.ofBits .f32 0x00800000#32)
    ((Ideal.ofBits .f32 (w >>> 9#32 ||| 1065353216#32) - Ideal.ofBits .f32 0x3F800000#32)
      * (Ideal.ofBits .f32 0x3F800000#32 - Ideal.ofBits .f32 0x00800000#32) + Ideal.ofBits .f32 0x00800000#32)

/-- The noise a random word gives. -/
noncomputable def gumbel (w : BitVec 32) : EReal := -Ideal.log (-Ideal.log (uniform w))

theorem shl_of_lt {u : ArithUnit} (x a : BitVec 32) (h : a.toNat < 32) : IntOp.shli u x a = x <<< a := if_pos h
theorem shr_of_lt {u : ArithUnit} (x a : BitVec 32) (h : a.toNat < 32) : IntOp.shrui u x a = x >>> a := if_pos h

variable {ι : Type}

/-- A pair of arrays holds the state `p` at an element. -/
def Holds (X Y : ι → BitVec 32) (i : ι) (p : Pair) : Prop := X i = p.1 ∧ Y i = p.2

theorem round_at {X Y S Z : ι → BitVec 32} {i : ι} {p : Pair} {u : ArithUnit} (h : Holds X Y i p) (a b : BitVec 32)
    (ha : a.toNat < 32) (hb : b.toNat < 32) (hS : S i = IntOp.addi (X i) (Y i))
    (hZ : Z i = IntOp.xori (IntOp.ori (IntOp.shli u (Y i) a) (IntOp.shrui u (Y i) b)) (S i)) : Holds S Z i (round a b p) := by
  refine ⟨?_, ?_⟩
  · rw [hS, h.1, h.2]; rfl
  · rw [hZ, hS, h.1, h.2, shl_of_lt _ _ ha, shr_of_lt _ _ hb]; rfl

theorem key_at {X Y S Z : ι → BitVec 32} {i : ι} {p : Pair} (h : Holds X Y i p) (ka kb g : BitVec 32)
    (hS : S i = IntOp.addi (X i) ka) (hZ : Z i = IntOp.addi (IntOp.addi (Y i) kb) g) : Holds S Z i (key ka kb g p) := by
  refine ⟨?_, ?_⟩
  · rw [hS, h.1]; rfl
  · rw [hZ, h.2]; rfl

end Cert.Noise

end
-- ==== Proof.PreNoise.lean ====
/-
  The noise the precondition speaks of, read at an element: the generator's parts, one after the other, and the noise
  of the element's number.
-/
module

public import proofs.«01_k».proof.Pre_tables_ok
public import proofs.«01_k».proof.Proof.Threefry
public import Idealize.ShloMosaic.Lib.ValueIdx
public import Idealize.ShloMosaic.Lib.Pipeline.Value

@[expose] public section

set_option maxRecDepth 8000
set_option maxHeartbeats 1000000

noncomputable section

namespace Cert.Pre_tables_ok.Own

open Cert.Pre_tables_ok Cert.Noise
open Idealize.ShloMosaic

variable [Facts]

open Facts

abbrev W := IVec S128x100000 32
abbrev W1 := IVec S_ 32

/-- One word, at every element. -/
abbrev spread (x : W1) : W := broadcastInDim S128x100000 ![] bcast_S_S128x100000 x

/-- The second word of a round. -/
abbrev mix (a b : W1) (X Y : W) : W := xori (addi X Y) (ori (Host.shli Y (spread a)) (Host.shrui Y (spread b)))

variable {e : S128x100000.Idx} {p : Pair}

theorem round_host {X Y : W} (h : Holds X Y e p) (a b : BitVec 32) (ha : a.toNat < 32) (hb : b.toNat < 32) :
    Holds (addi X Y) (mix (constantI S_ 32 a) (constantI S_ 32 b) X Y) e (round a b p) :=
  round_at (u := .host) h a b ha hb rfl (BitVec.xor_comm _ _)

theorem key_host {X Y : W} (h : Holds X Y e p) {ka kb : W1} {k k' : BitVec 32} (hk : spread ka e = k) (hk' : spread kb e = k') (g : BitVec 32) :
    Holds (addi X (spread ka)) (addi (addi Y (spread kb)) (spread (constantI S_ 32 g))) e (key k k' g p) :=
  key_at h k k' g (congrArg (IntOp.addi _) hk) (congrArg (IntOp.addi · g) (congrArg (IntOp.addi _) hk'))

section Parts

variable {a0 a1 a2 : W1} {k0 k1 k2 : BitVec 32} (h0 : spread a0 e = k0) (h1 : spread a1 e = k1) (h2 : spread a2 e = k2)

include h0 h2 in
theorem part9 {X Y : W} (h : Holds X Y e p) : Holds (fn_threefry2x32_part9 (F := Ideal) a0 X Y (spread a2)).1 (fn_threefry2x32_part9 (F := Ideal) a0 X Y (spread a2)).2 e
    (key k2 k0 5#32 p) := key_host h h2 h0 5#32

include h0 h2 in
theorem part8 {X Y : W} (h : Holds X Y e p) :
    Holds (fn_threefry2x32_part8 (F := Ideal) a0 a2 Y (addi X Y) (Host.shli Y (spread (constantI S_ 32 15#32)))).1
      (fn_threefry2x32_part8 (F := Ideal) a0 a2 Y (addi X Y) (Host.shli Y (spread (constantI S_ 32 15#32)))).2 e
      (key k2 k0 5#32 (round 6#32 26#32 (round 26#32 6#32 (round 15#32 17#32 p)))) :=
  part9 h0 h2 (round_host (round_host (round_host h 15#32 17#32 (by decide) (by decide)) 26#32 6#32 (by decide) (by decide)) 6#32 26#32 (by decide) (by decide))

include h0 h1 h2 in
theorem part7 {X Y : W} (h : Holds X Y e p) :
    Holds (fn_threefry2x32_part7 (F := Ideal) a0 a1 a2 Y (addi X Y) (Host.shli Y (spread (constantI S_ 32 24#32))) (constantI S_ 32 8#32)).1
      (fn_threefry2x32_part7 (F := Ideal) a0 a1 a2 Y (addi X Y) (Host.shli Y (spread (constantI S_ 32 24#32))) (constantI S_ 32 8#32)).2 e
      (key k2 k0 5#32 (even (key k1 k2 4#32 (round 24#32 8#32 p)))) :=
  part8 h0 h2 (round_host (key_host (round_host h 24#32 8#32 (by decide) (by decide)) h1 h2 4#32) 13#32 19#32 (by decide) (by decide))

include h0 h1 h2 in
theorem part6 {X Y : W} (h : Holds X Y e p) :
    Holds (fn_threefry2x32_part6 (F := Ideal) a0 a1 a2 (addi X Y) (ori (Host.shli Y (spread (constantI S_ 32 17#32))) (Host.shrui Y (spread (constantI S_ 32 15#32))))).1
      (fn_threefry2x32_part6 (F := Ideal) a0 a1 a2 (addi X Y) (ori (Host.shli Y (spread (constantI S_ 32 17#32))) (Host.shrui Y (spread (constantI S_ 32 15#32))))).2 e
      (key k2 k0 5#32 (even (key k1 k2 4#32 (odd p)))) :=
  part7 h0 h1 h2 (round_host (round_host (round_host h 17#32 15#32 (by decide) (by decide)) 29#32 3#32 (by decide) (by decide)) 16#32 16#32 (by decide) (by decide))

include h0 h1 h2 in
theorem part5 {X Y : W} (h : Holds X Y e p) :
    Holds (fn_threefry2x32_part5 (F := Ideal) a0 a1 a2 X Y).1 (fn_threefry2x32_part5 (F := Ideal) a0 a1 a2 X Y).2 e
      (key k2 k0 5#32 (even (key k1 k2 4#32 (odd (key k0 k1 3#32 (round 6#32 26#32 p)))))) :=
  part6 h0 h1 h2 (key_host (round_host h 6#32 26#32 (by decide) (by decide)) h0 h1 3#32)

include h0 h1 h2 in
theorem part4 {X Y : W} (h : Holds X Y e p) :
    Holds (fn_threefry2x32_part4 (F := Ideal) a0 a1 a2 Y (addi X Y) (spread (constantI S_ 32 13#32))).1
      (fn_threefry2x32_part4 (F := Ideal) a0 a1 a2 Y (addi X Y) (spread (constantI S_ 32 13#32))).2 e
      (key k2 k0 5#32 (even (key k1 k2 4#32 (odd (key k0 k1 3#32 (even p)))))) :=
  part5 h0 h1 h2 (round_host (round_host (round_host h 13#32 19#32 (by decide) (by decide)) 15#32 17#32 (by decide) (by decide)) 26#32 6#32 (by decide) (by decide))

include h0 h1 h2 in
theorem part3 {X Y : W} (h : Holds X Y e p) :
    Holds (fn_threefry2x32_part3 (F := Ideal) a0 a1 a2 Y (addi X Y) (Host.shli Y (spread (constantI S_ 32 16#32)))).1
      (fn_threefry2x32_part3 (F := Ideal) a0 a1 a2 Y (addi X Y) (Host.shli Y (spread (constantI S_ 32 16#32)))).2 e
      (key k2 k0 5#32 (even (key k1 k2 4#32 (odd (key k0 k1 3#32 (even (key k2 k0 2#32 (round 24#32 8#32 (round 16#32 16#32 p))))))))) :=
  part4 h0 h1 h2 (key_host (round_host (round_host h 16#32 16#32 (by decide) (by decide)) 24#32 8#32 (by decide) (by decide)) h2 h0 2#32)

include h0 h1 h2 in
theorem part2 {X Y : W} (h : Holds X Y e p) :
    Holds (fn_threefry2x32_part2 (F := Ideal) a0 a1 a2 (addi X (spread a1)) (addi Y (spread a2)) (constantI S_ 32 1#32)).1
      (fn_threefry2x32_part2 (F := Ideal) a0 a1 a2 (addi X (spread a1)) (addi Y (spread a2)) (constantI S_ 32 1#32)).2 e
      (key k2 k0 5#32 (even (key k1 k2 4#32 (odd (key k0 k1 3#32 (even (key k2 k0 2#32 (odd (key k1 k2 1#32 p))))))))) :=
  part3 h0 h1 h2 (round_host (round_host (key_host h h1 h2 1#32) 17#32 15#32 (by decide) (by decide)) 29#32 3#32 (by decide) (by decide))

include h0 h1 h2 in
theorem part1 {X Y : W} (h : Holds X Y e p) :
    Holds (fn_threefry2x32_part1 (F := Ideal) a0 a1 a2 (addi X Y) (ori (Host.shli Y (spread (constantI S_ 32 15#32))) (Host.shrui Y (spread (constantI S_ 32 17#32))))).1
      (fn_threefry2x32_part1 (F := Ideal) a0 a1 a2 (addi X Y) (ori (Host.shli Y (spread (constantI S_ 32 15#32))) (Host.shrui Y (spread (constantI S_ 32 17#32))))).2 e
      (key k2 k0 5#32 (even (key k1 k2 4#32 (odd (key k0 k1 3#32 (even (key k2 k0 2#32 (odd (key k1 k2 1#32
        (round 6#32 26#32 (round 26#32 6#32 (round 15#32 17#32 p)))))))))))) :=
  part2 h0 h1 h2 (round_host (round_host (round_host h 15#32 17#32 (by decide) (by decide)) 26#32 6#32 (by decide) (by decide)) 6#32 26#32 (by decide) (by decide))

end Parts

theorem spread_apply (x : W1) (e : S128x100000.Idx) : spread x e = x ValueIdx.ix0 := congrArg x (ValueIdx.eq_ix0 _)

/-- The generator. -/
theorem threefry_holds {a0 a1 : W1} (h0 : a0 ValueIdx.ix0 = 0#32) (h1 : a1 ValueIdx.ix0 = 42#32) {hi lo : W} {n : BitVec 32} (hhi : hi e = 0#32) (hlo : lo e = n) :
    Holds (fn_threefry2x32 (F := Ideal) a0 a1 hi lo).1 (fn_threefry2x32 (F := Ideal) a0 a1 hi lo).2 e (words 0#32 42#32 466689008#32 (0#32, n + 42#32)) := by
  have e0 : spread a0 e = 0#32 := (spread_apply a0 e).trans h0
  have e1 : spread a1 e = 42#32 := (spread_apply a1 e).trans h1
  have e2 : spread (xori (xori a0 a1) (constantI S_ 32 466688986#32)) e = 466689008#32 :=
    (spread_apply _ e).trans (congrArg (IntOp.xori · 466688986#32) (congrArg₂ IntOp.xori h0 h1))
  have hs : Holds (addi hi (spread a0)) (addi lo (spread a1)) e (0#32, n + 42#32) :=
    ⟨congrArg₂ IntOp.addi hhi e0, congrArg₂ IntOp.addi hlo e1⟩
  exact part1 e0 e1 e2 (round_host hs 13#32 19#32 (by decide) (by decide))

/-- The element's number. -/
def num (r c : ℕ) : BitVec 32 := BitVec.ofNat 32 (r * 100000 + c)

/-- From the random words to the noise, at an element. -/
theorem noise_at (w : W) (e : S128x100000.Idx) :
    Host.negf (Host.log (Host.negf (Host.log (fn_uniform_part1 (F := Ideal) (broadcastInDim S1x1 ![] bcast_S_S1x1 (constant (F := Ideal) S_ .f32 0x00800000#32))
      (broadcastInDim S1x1 ![] bcast_S_S1x1 (constant (F := Ideal) S_ .f32 0x3F800000#32)) w)))) e = gumbel (w e) := by
  rw [gumbel, Noise.uniform, ← shr_of_lt (u := .host) _ 9#32 (by decide)]
  rfl

/-- The high word of the element's number. -/
theorem number_high (r : Fin 128) (c : Fin 100000) :
    BitVec.setWidth 32 (IntOp.shrui .host (100000#64 * BitVec.ofNat 64 r + 1#64 * BitVec.ofNat 64 c) 32#64) = 0#32 := by
  have hr := r.2
  have hc := c.2
  rw [IntOp.shrui, if_pos (by decide)]
  apply BitVec.eq_of_toNat_eq
  simp only [BitVec.toNat_setWidth, BitVec.ushiftRight_eq', BitVec.toNat_ushiftRight, BitVec.toNat_add, BitVec.toNat_mul, BitVec.toNat_ofNat,
    Nat.shiftRight_eq_div_pow, Nat.reducePow, Nat.reduceMod]
  rw [Nat.mod_eq_of_lt (by omega : (r : ℕ) < 18446744073709551616), Nat.mod_eq_of_lt (by omega : (c : ℕ) < 18446744073709551616),
    Nat.mod_eq_of_lt (by omega : 100000 * (r : ℕ) < 18446744073709551616), Nat.mod_eq_of_lt (by omega : 1 * (c : ℕ) < 18446744073709551616),
    Nat.mod_eq_of_lt (by omega : 100000 * (r : ℕ) + 1 * c < 18446744073709551616), Nat.div_eq_of_lt (by omega)]

/-- The low word of the element's number. -/
theorem number_low (r : Fin 128) (c : Fin 100000) :
    BitVec.setWidth 32 (100000#64 * BitVec.ofNat 64 r + 1#64 * BitVec.ofNat 64 c) = num r c := by
  have hr := r.2
  have hc := c.2
  apply BitVec.eq_of_toNat_eq
  simp only [num, BitVec.toNat_setWidth, BitVec.toNat_add, BitVec.toNat_mul, BitVec.toNat_ofNat]
  omega

/-- The noise of an element, when the key holds (0, 42). -/
theorem gumbel_holds (k : IVec S2 32) (h0 : k (ValueIdx.ix1 0) = 0#32) (h1 : k (ValueIdx.ix1 1) = 42#32) (r : Fin 128) (c : Fin 100000) :
    fn_gumbel (F := Ideal) k (ValueIdx.ix2 r c) = gumbel (word (num r c)) := by
  have i0 : (shapeCast S_ ((extractStridedSlice S1 ![0] · slices_S2_S1_0) k) shapeCasts_S1_S_ : W1) ValueIdx.ix0 = 0#32 := by
    refine Eq.trans (congrArg k (?_ : _ = ValueIdx.ix1 0)) h0
    exact funext fun a => match a with
      | ⟨0, h⟩ => Fin.ext (congrArg (0 + ·) (Nat.lt_one_iff.mp (Fin.isLt (n := 1) _)))
  have i1 : (shapeCast S_ ((extractStridedSlice S1 ![1] · slices_S2_S1_1) k) shapeCasts_S1_S_ : W1) ValueIdx.ix0 = 42#32 := by
    refine Eq.trans (congrArg k (?_ : _ = ValueIdx.ix1 1)) h1
    exact funext fun a => match a with
      | ⟨0, h⟩ => Fin.ext (congrArg (1 + ·) (Nat.lt_one_iff.mp (Fin.isLt (n := 1) _)))
  have hb := threefry_holds (e := ValueIdx.ix2 r c) i0 i1 (hi := (trunci 32 · natLt_32_64) (Host.shrui (addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))) (broadcastInDim S128x100000 ![] bcast_S_S128x100000 (constantI S_ 64 32#64))))
    (lo := (trunci 32 · natLt_32_64) (addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))))
    (number_high r c) (number_low r c)
  unfold fn_gumbel
  unfold fn_uniform
  refine (noise_at (xori _ _) (ValueIdx.ix2 r c)).trans (congrArg gumbel ?_)
  exact congrArg₂ IntOp.xori hb.1 hb.2

end Cert.Pre_tables_ok.Own

end
-- ==== Proof.First.lean ====
module

public import Idealize.ShloMosaic.PureOps.Ideal.Laws
public import Idealize.ShloMosaic.Lib.WordCmp

/-!
The first index of the largest value of a row, and the three ways the programs find it: by a fold over all the pairs, by a maximum
and a minimum over the columns of a tile, and by keeping the better of two tiles.
-/

@[expose] public section

noncomputable section

namespace Cert.First

open Idealize.ShloMosaic

/-- `p` is the first of the indices below `n` where `f` is largest. -/
def IsFirst (n : ℕ) (f : ℕ → EReal) (p : ℕ) : Prop := p < n ∧ (∀ j < n, f j ≤ f p) ∧ ∀ j < p, f j < f p

theorem IsFirst.unique {n : ℕ} {f : ℕ → EReal} {p q : ℕ} (hp : IsFirst n f p) (hq : IsFirst n f q) : p = q := by
  rcases lt_trichotomy p q with h | h | h
  · exact absurd (hp.2.1 q hq.1) (not_le.mpr (hq.2.2 p h))
  · exact h
  · exact absurd (hq.2.1 p hp.1) (not_le.mpr (hp.2.2 q h))

/-- One step of the fold over pairs: the better pair, the smaller index at equal values. -/
def better (a b : EReal × BitVec 32) : EReal × BitVec 32 :=
  if b.1 < a.1 ∨ (a.1 = b.1 ∧ a.2.toInt < b.2.toInt) then a else b

theorem foldl_better (l : List (EReal × BitVec 32)) (a : EReal × BitVec 32) :
    (l.foldl better a = a ∨ l.foldl better a ∈ l) ∧ ∀ q, q = a ∨ q ∈ l →
      q.1 ≤ (l.foldl better a).1 ∧ (q.1 = (l.foldl better a).1 → (l.foldl better a).2.toInt ≤ q.2.toInt) := by
  induction l generalizing a with
  | nil => exact ⟨.inl rfl, fun q hq => by simp only [List.not_mem_nil, or_false] at hq; subst hq; exact ⟨le_rfl, fun _ => le_rfl⟩⟩
  | cons b l ih =>
    obtain ⟨h1, h2⟩ := ih (better a b)
    rw [List.foldl_cons]
    generalize List.foldl better (better a b) l = z at h1 h2
    have key : ∀ q, q = a ∨ q = b → q.1 ≤ (better a b).1 ∧ (q.1 = (better a b).1 → (better a b).2.toInt ≤ q.2.toInt) := by
      intro q hq
      unfold better
      split
      · rename_i hc
        rcases hq with rfl | rfl
        · exact ⟨le_rfl, fun _ => le_rfl⟩
        · rcases hc with hc | hc
          · exact ⟨hc.le, fun e => absurd e hc.ne⟩
          · exact ⟨hc.1.ge, fun _ => hc.2.le⟩
      · rename_i hc
        rcases hq with rfl | rfl
        · refine ⟨not_lt.mp fun h => hc (.inl h), fun e => not_lt.mp fun h => hc (.inr ⟨e, h⟩)⟩
        · exact ⟨le_rfl, fun _ => le_rfl⟩
    have hz := h2 (better a b) (.inl rfl)
    refine ⟨?_, fun q hq => ?_⟩
    · rcases h1 with h | h
      · have : better a b = a ∨ better a b = b := by unfold better; split <;> simp
        rcases this with e | e
        · exact .inl (h.trans e)
        · exact .inr (by rw [h, e]; exact List.mem_cons_self)
      · exact .inr (List.mem_cons_of_mem _ h)
    · rw [List.mem_cons, ← or_assoc] at hq
      rcases hq with hq | hq
      · obtain ⟨k1, k2⟩ := key q hq
        refine ⟨k1.trans hz.1, fun e => ?_⟩
        have e2 : (better a b).1 = z.1 := le_antisymm hz.1 (e ▸ k1)
        exact (hz.2 e2).trans (k2 (e.trans e2.symm))
      · exact h2 q (.inr hq)

/-- Folding all pairs of values and indices, from the least value and index zero, gives the first largest. -/
theorem argmax_fold {n : ℕ} (hn : 0 < n) (hn' : n < 2 ^ 31) (f : ℕ → EReal) (l : List (EReal × BitVec 32))
    (hl : ∀ q, q ∈ l ↔ ∃ j < n, q = (f j, BitVec.ofNat 32 j)) :
    ∃ p, IsFirst n f p ∧ (l.foldl better (⊥, 0#32)).2 = BitVec.ofNat 32 p := by
  obtain ⟨h1, h2⟩ := foldl_better l (⊥, 0#32)
  generalize l.foldl better (⊥, 0#32) = z at h1 h2
  have hint : ∀ j, j < n → (BitVec.ofNat 32 j).toInt = j := fun j hj => by
    rw [BitVec.toInt_ofNat', Int.bmod_eq_of_le] <;> omega
  have hz : ∃ p < n, z = (f p, BitVec.ofNat 32 p) := by
    rcases h1 with h | h
    · refine ⟨0, hn, ?_⟩
      have h0 := (h2 (f 0, BitVec.ofNat 32 0) (.inr ((hl _).mpr ⟨0, hn, rfl⟩))).1
      rw [h] at h0 ⊢
      exact Prod.ext (le_bot_iff.mp h0).symm rfl
    · exact (hl z).mp h
  obtain ⟨p, hp, rfl⟩ := hz
  refine ⟨p, ⟨hp, fun j hj => (h2 (f j, BitVec.ofNat 32 j) (.inr ((hl _).mpr ⟨j, hj, rfl⟩))).1, fun j hj => ?_⟩, rfl⟩
  obtain ⟨k1, k2⟩ := h2 (f j, BitVec.ofNat 32 j) (.inr ((hl _).mpr ⟨j, hj.trans hp, rfl⟩))
  refine lt_of_le_of_ne k1 fun e => ?_
  have := k2 e
  simp only [hint j (hj.trans hp), hint p hp] at this
  omega

/-- The maximum of a finite non-empty family, folded from the least value, is one of its values. -/
theorem fold_max_spec {ι : Type*} [Fintype ι] [Nonempty ι] (y : ι → EReal) :
    (∀ j, y j ≤ Finset.univ.fold max ⊥ y) ∧ ∃ j, y j = Finset.univ.fold max ⊥ y := by
  have h1 : ∀ j, y j ≤ Finset.univ.fold max ⊥ y := fun j =>
    (Finset.le_fold_max _).mpr (.inr ⟨j, Finset.mem_univ j, le_rfl⟩)
  refine ⟨h1, ?_⟩
  obtain ⟨j, -, hj⟩ := Finset.exists_max_image Finset.univ y Finset.univ_nonempty
  exact ⟨j, le_antisymm (h1 j) ((Finset.fold_max_le _).mpr ⟨bot_le, fun x hx => hj x hx⟩)⟩

theorem toInt_minsi (x y : BitVec 32) : (IntOp.minsi x y).toInt = min x.toInt y.toInt := by
  unfold IntOp.minsi
  rw [BitVec.slt_eq_decide]
  rcases lt_or_ge x.toInt y.toInt with h | h
  · rw [decide_eq_true h, if_pos rfl, min_eq_left h.le]
  · rw [decide_eq_false (not_lt.mpr h), if_neg (by decide), min_eq_right h]

/-- The least of the marked words, the others standing at the largest word. -/
theorem fold_minsi_spec {ι : Type*} [Fintype ι] [Std.Commutative (IntOp.minsi (w := 32))] [Std.Associative (IntOp.minsi (w := 32))]
    (P : ι → Prop) (u wd : ι → BitVec 32) (hu : ∀ j, (P j → u j = wd j) ∧ (¬ P j → u j = 2147483647#32))
    (j0 : ι) (h0 : P j0) (hmin : ∀ j, P j → (wd j0).toInt ≤ (wd j).toInt) :
    Finset.univ.fold IntOp.minsi 2147483647#32 u = wd j0 := by
  apply BitVec.eq_of_toInt_eq
  rw [← Finset.fold_hom (op' := (min : ℤ → ℤ → ℤ)) (m := BitVec.toInt) toInt_minsi]
  have hbig : ∀ b : BitVec 32, b.toInt ≤ (2147483647#32).toInt := fun b => by
    have := b.toInt_lt
    have e : (2147483647#32).toInt = 2147483647 := by decide
    rw [e]; omega
  refine le_antisymm ?_ ?_
  · exact (Finset.fold_min_le _).mpr (.inr ⟨j0, Finset.mem_univ _, by rw [(hu j0).1 h0]⟩)
  · refine (Finset.le_fold_min _).mpr ⟨hbig _, fun j _ => ?_⟩
    by_cases h : P j
    · rw [(hu j).1 h]; exact hmin j h
    · rw [(hu j).2 h]; exact hbig _

/-- The best of the first `k` tiles: the value and the index of the first tile whose value is largest. -/
def Best (k : ℕ) (v : ℕ → EReal) (ix : ℕ → BitVec 32) (s : EReal) (n : BitVec 32) : Prop :=
  ∃ T < k, s = v T ∧ n = ix T ∧ (∀ t < k, v t ≤ v T) ∧ ∀ t < T, v t < v T

theorem best_first (v : ℕ → EReal) (ix : ℕ → BitVec 32) : Best 1 v ix (v 0) (ix 0) :=
  ⟨0, Nat.one_pos, rfl, rfl, fun t ht => by rw [Nat.lt_one_iff.mp ht], fun _ h => absurd h (Nat.not_lt_zero _)⟩

theorem best_keep {k : ℕ} {v : ℕ → EReal} {ix : ℕ → BitVec 32} {s : EReal} {n : BitVec 32} (h : Best k v ix s n) (hc : ¬ s < v k) :
    Best (k + 1) v ix s n := by
  obtain ⟨T, hT, rfl, rfl, h1, h2⟩ := h
  refine ⟨T, hT.trans (Nat.lt_succ_self k), rfl, rfl, fun t ht => ?_, h2⟩
  rcases Nat.lt_succ_iff_lt_or_eq.mp ht with h | rfl
  · exact h1 t h
  · exact not_lt.mp hc

theorem best_new {k : ℕ} {v : ℕ → EReal} {ix : ℕ → BitVec 32} {s : EReal} {n : BitVec 32} (h : Best k v ix s n) (hc : s < v k) :
    Best (k + 1) v ix (v k) (ix k) := by
  obtain ⟨T, hT, rfl, rfl, h1, h2⟩ := h
  refine ⟨k, Nat.lt_succ_self k, rfl, rfl, fun t ht => ?_, fun t ht => lt_of_le_of_lt (h1 t ht) hc⟩
  rcases Nat.lt_succ_iff_lt_or_eq.mp ht with h | rfl
  · exact (lt_of_le_of_lt (h1 t h) hc).le
  · exact le_rfl

/-- The two results of the tiles agree on the tile they name, so either is known from the other. -/
theorem Best.unique {k : ℕ} {v : ℕ → EReal} {ix : ℕ → BitVec 32} {s s' : EReal} {n n' : BitVec 32} (h : Best k v ix s n)
    (h' : Best k v ix s' n') : s = s' ∧ n = n' := by
  obtain ⟨T, hT, rfl, rfl, h1, h2⟩ := h
  obtain ⟨T', hT', rfl, rfl, h1', h2'⟩ := h'
  have : T = T' := by
    rcases lt_trichotomy T T' with h | h | h
    · exact absurd (h1 T' hT') (not_le.mpr (h2' T h))
    · exact h
    · exact absurd (h1' T hT) (not_le.mpr (h2 T' h))
  subst this; exact ⟨rfl, rfl⟩

/-- The best tile's index is the first largest of the whole row, where every column is bounded by its tile's value or is beaten
by the best value anyway. -/
theorem merge (f : ℕ → EReal) (Out : ℕ → Prop) (v : ℕ → EReal) (ix : ℕ → BitVec 32) (s : EReal) (n : BitVec 32)
    (hB : Best 5 v ix s n) (hout : ∀ j, Out j → f j < s)
    (hle : ∀ t < 5, ∀ j < 100000, j / 20480 = t → f j ≤ v t ∨ Out j)
    (hix : ∀ t < 5, v t = s → ∃ p, p / 20480 = t ∧ p < 100000 ∧ ix t = BitVec.ofNat 32 p ∧ f p = v t ∧
      ∀ j, j / 20480 = t → j < p → f j < v t ∨ Out j) :
    ∃ P, IsFirst 100000 f P ∧ n = BitVec.ofNat 32 P := by
  obtain ⟨T, hT, rfl, rfl, h1, h2⟩ := hB
  obtain ⟨p, hp, hp', e, hf, hlt⟩ := hix T hT rfl
  refine ⟨p, ⟨hp', fun j hj => ?_, fun j hj => ?_⟩, e⟩
  · rw [hf]
    rcases hle (j / 20480) (by omega) j hj rfl with h | h
    · exact h.trans (h1 _ (by omega))
    · exact (hout j h).le
  · rw [hf]
    rcases Nat.lt_or_ge (j / 20480) T with h | h
    · rcases hle (j / 20480) (by omega) j (by omega) rfl with h' | h'
      · exact lt_of_le_of_lt h' (h2 _ h)
      · exact hout j h'
    · have : j / 20480 = T := by have := Nat.div_le_div_right (c := 20480) hj.le; omega
      rcases hlt j this hj with h' | h'
      · exact h'
      · exact hout j h'

end Cert.First

end
-- ==== Proof.Row.lean ====
/-
  The row of scores both programs look for the largest of: the noise of the element plus its logit.
-/
module

public import proofs.«01_k».proof.Proof.First
public import proofs.«01_k».proof.Proof.Threefry
public import Idealize.ShloMosaic.Lib.ValueIdx

@[expose] public section

noncomputable section

namespace Cert.Noise

open Idealize.ShloMosaic Idealize.ShloMosaic.ValueIdx

/-- A logit: the row of the inputs times the column of the weights, plus the column's bias. -/
def logit (x : (⟨2, ![128, 64]⟩ : Shape).Idx → EReal) (w : (⟨2, ![64, 100000]⟩ : Shape).Idx → EReal)
    (b : (⟨1, ![100000]⟩ : Shape).Idx → EReal) (r : Fin 128) (c : Fin 100000) : EReal :=
  (∑ k : Fin 64, x (ix2 r k) * w (ix2 k c)) + b (ix1 c)

/-- The noise of row `r` and column `c`. -/
def noise (r c : ℕ) : EReal := gumbel (word (BitVec.ofNat 32 (r * 100000 + c)))

/-- The scores of a row, the least value past its end. -/
def scores (l : Fin 100000 → EReal) (r j : ℕ) : EReal := if h : j < 100000 then noise r j + l ⟨j, h⟩ else ⊥

theorem scores_of_lt {l : Fin 100000 → EReal} {r j : ℕ} (h : j < 100000) : scores l r j = noise r j + l ⟨j, h⟩ := dif_pos h

end Cert.Noise

end
-- ==== Proof.Tables.lean ====
/-
  The candidate tables: what a right set of tables holds, and the fast way to a row's first largest score from them.
-/
module

public import proofs.«01_k».proof.Proof.Row

@[expose] public section

noncomputable section

namespace Cert.Noise

open Idealize.ShloMosaic Idealize.ShloMosaic.ValueIdx Cert.First

/-- The bit of column `j` in a row of mask words: 32 planes of 640 columns. -/
def Bit (u : Fin 640 → BitVec 32) (j : Fin 20480) : Prop :=
  (u ⟨j.val % 640, Nat.mod_lt _ (by decide)⟩ >>> BitVec.ofNat 32 (j.val / 640)) &&& 1#32 ≠ 0#32

/-- The kernel's low value. -/
def low : EReal := Ideal.ofBits .f32 0xFF61B1E6#32

/-- A right set of tables. -/
structure TablesOk (m : (⟨3, ![5, 128, 640]⟩ : Shape).Idx → BitVec 32) (sl : (⟨3, ![5, 1, 20480]⟩ : Shape).Idx → BitVec 32)
    (g : (⟨3, ![5, 128, 128]⟩ : Shape).Idx → EReal) (ix : (⟨3, ![5, 128, 128]⟩ : Shape).Idx → BitVec 32)
    (gt : (⟨2, ![128, 1]⟩ : Shape).Idx → EReal) : Prop where
  /-- A marked column exists and has a slot. -/
  slot : ∀ (t : Fin 5) (r : Fin 128) (j : Fin 20480), Bit (fun k => m (ix3 t r k)) j →
    20480 * t.val + j.val < 100000 ∧ ∃ s : Fin 128, sl (ix3 t 0 j) = BitVec.ofNat 32 s.val
  /-- A marked column's slot holds the column and its noise. -/
  cand : ∀ (t : Fin 5) (r : Fin 128) (j : Fin 20480) (s : Fin 128), Bit (fun k => m (ix3 t r k)) j → sl (ix3 t 0 j) = BitVec.ofNat 32 s.val →
    ix (ix3 t r s) = BitVec.ofNat 32 (20480 * t.val + j.val) ∧ g (ix3 t r s) = noise r.val (20480 * t.val + j.val)
  /-- A slot without a marked column holds the low value. -/
  empty : ∀ (t : Fin 5) (r s : Fin 128), (∃ j : Fin 20480, Bit (fun k => m (ix3 t r k)) j ∧ sl (ix3 t 0 j) = BitVec.ofNat 32 s.val) ∨ g (ix3 t r s) = low
  /-- The noise of a column that isn't marked lies below the row's threshold. -/
  out : ∀ (t : Fin 5) (r : Fin 128) (j : Fin 20480), 20480 * t.val + j.val < 100000 →
    Bit (fun k => m (ix3 t r k)) j ∨ noise r.val (20480 * t.val + j.val) ≤ gt (ix2 r 0)
  /-- The thresholds aren't negative. -/
  thresh : ∀ r : Fin 128, 0 ≤ gt (ix2 r 0)

section Row

variable (m : (⟨3, ![5, 128, 640]⟩ : Shape).Idx → BitVec 32) (sl : (⟨3, ![5, 1, 20480]⟩ : Shape).Idx → BitVec 32)
  (g : (⟨3, ![5, 128, 128]⟩ : Shape).Idx → EReal) (ix : (⟨3, ![5, 128, 128]⟩ : Shape).Idx → BitVec 32)
  (gt : (⟨2, ![128, 1]⟩ : Shape).Idx → EReal)
variable (l : Fin 100000 → EReal) (r : Fin 128)

open Classical in
/-- A column's logit where it is marked. -/
def kept (t : Fin 5) (j : Fin 20480) : EReal :=
  if Bit (fun k => m (ix3 t r k)) j then (if h : 20480 * t.val + j.val < 100000 then l ⟨20480 * t.val + j.val, h⟩ else 0) else 0

/-- A slot's score: the logits gathered into it plus its noise. -/
def slotScore (t : Fin 5) (s : Fin 128) : EReal :=
  (∑ j : Fin 20480, kept m l r t j * (if BitVec.ofNat 32 s.val = sl (ix3 t 0 j) then 1 else 0)) + g (ix3 t r s)

/-- A tile's largest slot score. -/
def slotMax (t : Fin 5) : EReal := (Finset.univ : Finset (Fin 128)).fold max ⊥ fun s => slotScore m sl g l r t s

open Classical in
/-- The least column named by a slot that attains it. -/
def slotIdx (t : Fin 5) : BitVec 32 := (Finset.univ : Finset (Fin 128)).fold IKind.minsi.op 2147483647#32 fun s =>
  if slotScore m sl g l r t s = slotMax m sl g l r t then ix (ix3 t r s) else 2147483647#32

/-- A tile's largest logit, the low value past the last column. -/
def tileTop (t : ℕ) : EReal := (Finset.univ : Finset (Fin 20480)).fold max ⊥ fun j =>
  if h : 20480 * t + j.val < 100000 then l ⟨20480 * t + j.val, h⟩ else low

/-- The largest logit of the first tiles. -/
def top : ℕ → EReal
  | 0 => tileTop l 0
  | k + 1 => max (tileTop l (k + 1)) (top k)

theorem tileTop_le (k : ℕ) : ∀ t ≤ k, tileTop l t ≤ top l k := by
  induction k with
  | zero => intro t ht; rw [Nat.le_zero.mp ht]; exact le_rfl
  | succ k ih =>
    intro t ht
    rcases Nat.le_succ_iff.mp ht with h | rfl
    · exact (ih t h).trans (le_max_right _ _)
    · exact le_max_left _ _

theorem logit_le_top (j : ℕ) (h : j < 100000) : l ⟨j, h⟩ ≤ top l 4 := by
  refine le_trans ?_ (tileTop_le l 4 (j / 20480) (by omega))
  have := (fold_max_spec fun i : Fin 20480 => if h : 20480 * (j / 20480) + i.val < 100000 then l ⟨20480 * (j / 20480) + i.val, h⟩ else low).1
    ⟨j % 20480, Nat.mod_lt _ (by decide)⟩
  simp only [Nat.div_add_mod, dif_pos h] at this
  exact this

theorem low_le_top : low ≤ top l 4 := by
  refine le_trans ?_ (tileTop_le l 4 4 le_rfl)
  have := (fold_max_spec fun i : Fin 20480 => if h : 20480 * 4 + i.val < 100000 then l ⟨20480 * 4 + i.val, h⟩ else low).1
    ⟨20479, by decide⟩
  simp only at this
  rw [dif_neg (by decide)] at this
  exact this

variable {m sl g ix gt}

/-- A slot with a marked column has that column's score. -/
theorem slot_filled (ok : TablesOk m sl g ix gt) {t : Fin 5} {j : Fin 20480} {s : Fin 128} (hb : Bit (fun k => m (ix3 t r k)) j)
    (hs : sl (ix3 t 0 j) = BitVec.ofNat 32 s.val) : slotScore m sl g l r t s = scores l r (20480 * t.val + j.val) := by
  have hj := (ok.slot t r j hb).1
  obtain ⟨hi, hg⟩ := ok.cand t r j s hb hs
  rw [slotScore, scores_of_lt hj, hg, add_comm]
  refine congrArg (noise r.val (20480 * t.val + j.val) + ·) ?_
  rw [Finset.sum_eq_single j]
  · rw [if_pos hs.symm, mul_one, kept, if_pos hb, dif_pos hj]
  · intro i _ hij
    by_cases he : BitVec.ofNat 32 s.val = sl (ix3 t 0 i)
    · by_cases hbi : Bit (fun k => m (ix3 t r k)) i
      · exfalso
        have h2 := (ok.cand t r i s hbi he.symm).1
        rw [hi] at h2
        have h3 := congrArg BitVec.toNat h2
        have ht := t.2; have h4 := i.2; have h5 := j.2
        simp only [BitVec.toNat_ofNat] at h3
        exact hij (Fin.ext (by omega))
      · rw [kept, if_neg hbi, zero_mul]
    · rw [if_neg he, mul_zero]
  · exact fun h => absurd (Finset.mem_univ j) h

/-- A slot without a marked column has the low value. -/
theorem slot_empty (ok : TablesOk m sl g ix gt) {t : Fin 5} {s : Fin 128}
    (hn : ¬ ∃ j : Fin 20480, Bit (fun k => m (ix3 t r k)) j ∧ sl (ix3 t 0 j) = BitVec.ofNat 32 s.val) : slotScore m sl g l r t s = low := by
  rw [slotScore, (ok.empty t r s).resolve_left hn, Finset.sum_eq_zero, zero_add]
  intro i _
  by_cases he : BitVec.ofNat 32 s.val = sl (ix3 t 0 i)
  · rw [kept, if_neg fun hb => hn ⟨i, hb, he.symm⟩, zero_mul]
  · rw [if_neg he, mul_zero]

/-- The tiles' values as the merge of the tiles takes them. -/
def vAt (m : (⟨3, ![5, 128, 640]⟩ : Shape).Idx → BitVec 32) (sl : (⟨3, ![5, 1, 20480]⟩ : Shape).Idx → BitVec 32)
    (g : (⟨3, ![5, 128, 128]⟩ : Shape).Idx → EReal) (l : Fin 100000 → EReal) (r : Fin 128) (t : ℕ) : EReal :=
  if h : t < 5 then slotMax m sl g l r ⟨t, h⟩ else ⊥
def iAt (m : (⟨3, ![5, 128, 640]⟩ : Shape).Idx → BitVec 32) (sl : (⟨3, ![5, 1, 20480]⟩ : Shape).Idx → BitVec 32)
    (g : (⟨3, ![5, 128, 128]⟩ : Shape).Idx → EReal) (ix : (⟨3, ![5, 128, 128]⟩ : Shape).Idx → BitVec 32)
    (l : Fin 100000 → EReal) (r : Fin 128) (t : ℕ) : BitVec 32 :=
  if h : t < 5 then slotIdx m sl g ix l r ⟨t, h⟩ else 0

/-- Where the best slot beats the row's bound, it names the row's first largest score. -/
theorem fast_first (ok : TablesOk m sl g ix gt) {s : EReal} {n : BitVec 32}
    (hB : Best 5 (vAt m sl g l r) (iAt m sl g ix l r) s n) (hs : gt (ix2 r 0) + top l 4 < s) :
    ∃ p, IsFirst 100000 (scores l r) p ∧ n = BitVec.ofNat 32 p := by
  have hlow : low < s := lt_of_le_of_lt (by
    calc low = 0 + low := (zero_add _).symm
      _ ≤ _ := add_le_add (ok.thresh r) (low_le_top l)) hs
  -- a column that isn't marked is beaten by the best slot
  have hout : ∀ (t : Fin 5) (j : Fin 20480), ¬ Bit (fun k => m (ix3 t r k)) j → scores l r (20480 * t.val + j.val) < s := by
    intro t j hb
    by_cases hj : 20480 * t.val + j.val < 100000
    · rw [scores_of_lt hj]
      exact lt_of_le_of_lt (add_le_add ((ok.out t r j hj).resolve_left hb) (logit_le_top l _ hj)) hs
    · rw [scores, dif_neg hj]
      exact lt_of_le_of_lt bot_le hs
  have hmax : ∀ (t : Fin 5) (u : Fin 128), slotScore m sl g l r t u ≤ slotMax m sl g l r t := fun t => (fold_max_spec _).1
  have hin : ∀ (t : Fin 5) (j : Fin 20480), Bit (fun k => m (ix3 t r k)) j → scores l r (20480 * t.val + j.val) ≤ slotMax m sl g l r t := by
    intro t j hb
    obtain ⟨-, u, hu⟩ := ok.slot t r j hb
    rw [← slot_filled l r ok hb hu]
    exact hmax t u
  have split : ∀ j, j / 20480 < 5 → ∃ (t : Fin 5) (i : Fin 20480), t.val = j / 20480 ∧ j = 20480 * t.val + i.val := fun j h =>
    ⟨⟨j / 20480, h⟩, ⟨j % 20480, Nat.mod_lt _ (by decide)⟩, rfl, (Nat.div_add_mod j 20480).symm⟩
  refine merge _ (fun j => scores l r j < s) _ _ s n hB (fun _ h => h) (fun t ht j hj e => ?_) fun t ht hv => ?_
  · obtain ⟨t', i, rfl', hji⟩ := split j (by omega)
    have e' : t'.val = t := rfl'.trans e
    subst e'
    rw [vAt, dif_pos ht, hji]
    by_cases hb : Bit (fun k => m (ix3 t' r k)) i
    · exact .inl (hin t' i hb)
    · exact .inr (hout t' i hb)
  · rw [vAt, dif_pos ht] at hv
    rw [vAt, dif_pos ht, iAt, dif_pos ht]
    generalize hT : (⟨t, ht⟩ : Fin 5) = T at hv
    have hTt : T.val = t := by rw [← hT]
    -- a slot that attains the tile's maximum is filled
    have hfill : ∀ u : Fin 128, slotScore m sl g l r T u = slotMax m sl g l r T → ∃ j : Fin 20480, Bit (fun k => m (ix3 T r k)) j
        ∧ sl (ix3 T 0 j) = BitVec.ofNat 32 u.val ∧ scores l r (20480 * T.val + j.val) = slotMax m sl g l r T := by
      intro u hu
      by_contra hn
      have : slotScore m sl g l r T u = low := slot_empty l r ok fun ⟨j, h1, h2⟩ => hn ⟨j, h1, h2, (slot_filled l r ok h1 h2).symm.trans hu⟩
      rw [hu, hv] at this
      exact absurd this hlow.ne'
    have hex : ∃ q, ∃ h : q < 20480, Bit (fun k => m (ix3 T r k)) ⟨q, h⟩ ∧ scores l r (20480 * T.val + q) = slotMax m sl g l r T := by
      obtain ⟨u, hu⟩ := (fold_max_spec fun u => slotScore m sl g l r T u).2
      obtain ⟨j, h1, -, h3⟩ := hfill u hu
      exact ⟨j.val, j.2, h1, h3⟩
    classical
    obtain ⟨hq, hqb, hqe⟩ := Nat.find_spec hex
    have hmin := fun k => Nat.find_min (H := hex) (m := k)
    generalize Nat.find hex = q at hq hqb hqe hmin
    obtain ⟨hlt, u, hu⟩ := ok.slot T r ⟨q, hq⟩ hqb
    have hlt' : 20480 * T.val + q < 100000 := hlt
    refine ⟨20480 * T.val + q, by omega, hlt, ?_, hqe, fun j hj hjq => ?_⟩
    · have hix := (ok.cand T r ⟨q, hq⟩ u hqb hu).1
      rw [← show ix (ix3 T r u) = BitVec.ofNat 32 (20480 * T.val + q) from hix]
      refine fold_minsi_spec (fun w : Fin 128 => slotScore m sl g l r T w = slotMax m sl g l r T) _ (fun w => ix (ix3 T r w))
        (fun w => ⟨fun h => if_pos h, fun h => if_neg h⟩) u ((slot_filled l r ok hqb hu).trans hqe) fun w hw => ?_
      obtain ⟨j, h1, h2, h3⟩ := hfill w hw
      have hj2 := j.2
      have hT5 := T.2
      have hjq : ¬ j.val < q := fun h => hmin j h ⟨j.2, h1, h3⟩
      have small : ∀ a : ℕ, a < 2 ^ 31 → (BitVec.ofNat 32 a).toInt = a := fun a h => by
        rw [BitVec.toInt_ofNat', Int.bmod_eq_of_le] <;> omega
      show (ix (ix3 T r u)).toInt ≤ (ix (ix3 T r w)).toInt
      rw [hix, (ok.cand T r j w h1 h2).1, small _ (show 20480 * T.val + q < _ by omega), small _ (by omega)]
      show ((20480 * T.val + q : ℕ) : ℤ) ≤ ((20480 * T.val + j.val : ℕ) : ℤ)
      omega
    · obtain ⟨t', i, ht', hji⟩ := split j (by omega)
      have e' : t' = T := Fin.ext (by omega)
      subst e'
      rw [hji]
      by_cases hb : Bit (fun k => m (ix3 t' r k)) i
      · refine .inl (lt_of_le_of_ne (hin t' i hb) fun e => hmin i.val (by omega) ⟨i.2, hb, e⟩)
      · exact .inr (hout t' i hb)

end Row

end Cert.Noise

end
-- ==== Proof.PreRead.lean ====
/-
  The precondition read at its elements: the five properties say that the tables are right.
-/
module

public import proofs.«01_k».proof.Proof.PreNoise
public import proofs.«01_k».proof.Proof.Tables
public import Idealize.ShloMosaic.Lib.ReduceAll

@[expose] public section

set_option maxRecDepth 8000
set_option maxHeartbeats 1000000

noncomputable section

namespace Cert.Pre_tables_ok.Own

open Cert.Pre_tables_ok Cert.Noise
open Idealize.ShloMosaic

section Words

theorem ori_iff : ∀ a b : BitVec 1, IntOp.ori a b = 1#1 ↔ a = 1#1 ∨ b = 1#1 := by decide
theorem andi_iff : ∀ a b : BitVec 1, IntOp.andi a b = 1#1 ↔ a = 1#1 ∧ b = 1#1 := by decide
theorem not_iff : ∀ a : BitVec 1, ~~~ a = 1#1 ↔ ¬ a = 1#1 := by decide
theorem eq_iff (x y : BitVec 32) : IntOp.cmpi .eq x y = 1#1 ↔ x = y := by simp [IntOp.cmpi, WordCmp.ofBool_eq_one_iff]
theorem ne_iff (x y : BitVec 32) : IntOp.cmpi .ne x y = 1#1 ↔ x ≠ y := by simp [IntOp.cmpi, WordCmp.ofBool_eq_one_iff]
theorem slt_iff (x y : BitVec 32) : IntOp.cmpi .slt x y = 1#1 ↔ x.toInt < y.toInt := by
  rw [WordCmp.cmpi_slt_eq]; exact WordCmp.ofBool_decide_eq_one_iff _
theorem sge_iff (x y : BitVec 32) : IntOp.cmpi .sge x y = 1#1 ↔ y.toInt ≤ x.toInt :=
  WordCmp.ofBool_decide_eq_one_iff _
theorem oeq_iff (x y : EReal) : FloatOps.cmpf (F := Ideal) (φ := .f32) .oeq x y = 1#1 ↔ x = y := WordCmp.ofBool_decide_eq_one_iff _
theorem ole_iff (x y : EReal) : FloatOps.cmpf (F := Ideal) (φ := .f32) .ole x y = 1#1 ↔ x ≤ y := WordCmp.ofBool_decide_eq_one_iff _
theorem oge_iff (x y : EReal) : FloatOps.cmpf (F := Ideal) (φ := .f32) .oge x y = 1#1 ↔ y ≤ x := WordCmp.ofBool_decide_eq_one_iff _

theorem foldl_ori {ι : Type} (f : ι → BitVec 1) (l : List ι) (a : BitVec 1) (h : l.foldl (fun r n => IntOp.ori r (f n)) a = 1#1) :
    a = 1#1 ∨ ∃ n ∈ l, f n = 1#1 := by
  induction l generalizing a with
  | nil => exact .inl h
  | cons b l ih =>
    rcases ih _ h with h' | ⟨n, hn, h'⟩
    · rcases (ori_iff _ _).mp h' with h' | h'
      · exact .inl h'
      · exact .inr ⟨b, List.mem_cons_self, h'⟩
    · exact .inr ⟨n, List.mem_cons_of_mem _ hn, h'⟩

/-- A reduction by "or" holds only where an element that reduces into it does. -/
theorem reduce_ori {s t u : Shape} {axes : List (Fin s.rank)} (x : s.Idx → BitVec 1) (v : u.Idx → BitVec 1) (h : s.ReducesTo axes t)
    (hu : 0 < u.numel) (hv : v (Shape.Idx.first hu) = 0#1) (j : t.Idx) (e : Host.reduce IntOp.ori x v h hu j = 1#1) :
    ∃ i, h.drop i = j ∧ x i = 1#1 := by
  rcases foldl_ori (fun n => x (s.rowMajor.symm n)) _ _ e with h' | ⟨n, hn, h'⟩
  · rw [hv] at h'; exact absurd h' (by decide)
  · exact ⟨_, of_decide_eq_true (List.mem_filter.mp hn).2, h'⟩

end Words

variable [Facts]

open Facts

section Reads

variable {α : Type}

/-- A value of each column, spread over the slots. -/
theorem over_slots (x : S5x128x20480.Idx → α) (t : Fin 5) (r : Fin 128) (j : Fin 20480) (s : Fin 128) :
    broadcastInDim S5x128x20480x128 ![0, 1, 2, 3] bcast_S5x128x20480x1_S5x128x20480x128_0_1_2_3
      (broadcastInDim S5x128x20480x1 ![0, 1, 2] bcast_S5x128x20480_S5x128x20480x1_0_1_2 x) (ValueIdx.ix4 t r j s) = x (ValueIdx.ix3 t r j) :=
  (broadcastInDim_apply _ _ _ (ValueIdx.ix4 t r j s) (ValueIdx.ix4 t r j 0) fun a => match a with
    | ⟨0, _⟩ => rfl | ⟨1, _⟩ => rfl | ⟨2, _⟩ => rfl | ⟨3, _⟩ => rfl).trans
  (broadcastInDim_apply _ _ _ (ValueIdx.ix4 t r j 0) (ValueIdx.ix3 t r j) fun a => match a with
    | ⟨0, _⟩ => rfl | ⟨1, _⟩ => rfl | ⟨2, _⟩ => rfl)

/-- A value of each slot, spread over the columns. -/
theorem over_columns (x : S5x128x128.Idx → α) (t : Fin 5) (r : Fin 128) (j : Fin 20480) (s : Fin 128) :
    broadcastInDim S5x128x20480x128 ![0, 1, 2, 3] bcast_S5x128x1x128_S5x128x20480x128_0_1_2_3
      (broadcastInDim S5x128x1x128 ![0, 1, 3] bcast_S5x128x128_S5x128x1x128_0_1_3 x) (ValueIdx.ix4 t r j s) = x (ValueIdx.ix3 t r s) :=
  (broadcastInDim_apply _ _ _ (ValueIdx.ix4 t r j s) (ValueIdx.ix4 t r 0 s) fun a => match a with
    | ⟨0, _⟩ => rfl | ⟨1, _⟩ => rfl | ⟨2, _⟩ => rfl | ⟨3, _⟩ => rfl).trans
  (broadcastInDim_apply _ _ _ (ValueIdx.ix4 t r 0 s) (ValueIdx.ix3 t r s) fun a => match a with
    | ⟨0, _⟩ => rfl | ⟨1, _⟩ => rfl | ⟨2, _⟩ => rfl)

/-- The slots of the columns, spread over the rows. -/
theorem over_rows (x : S5x1x20480.Idx → α) (t : Fin 5) (r : Fin 128) (j : Fin 20480) :
    broadcastInDim S5x128x20480 ![0, 1, 2] bcast_S5x1x20480_S5x128x20480_0_1_2 x (ValueIdx.ix3 t r j) = x (ValueIdx.ix3 t 0 j) :=
  broadcastInDim_apply _ _ _ (ValueIdx.ix3 t r j) (ValueIdx.ix3 t 0 j) fun a => match a with
    | ⟨0, _⟩ => rfl | ⟨1, _⟩ => rfl | ⟨2, _⟩ => rfl

/-- The rows' thresholds, spread over the tiles and columns. -/
theorem over_tiles (x : S128x1.Idx → α) (t : Fin 5) (r : Fin 128) (j : Fin 20480) :
    broadcastInDim S5x128x20480 ![0, 1, 2] bcast_S1x128x1_S5x128x20480_0_1_2 (broadcastInDim S1x128x1 ![1, 2] bcast_S128x1_S1x128x1_1_2 x)
      (ValueIdx.ix3 t r j) = x (ValueIdx.ix2 r 0) :=
  (broadcastInDim_apply _ _ _ (ValueIdx.ix3 t r j) (ValueIdx.ix3 0 r 0) fun a => match a with
    | ⟨0, _⟩ => rfl | ⟨1, _⟩ => rfl | ⟨2, _⟩ => rfl).trans
  (broadcastInDim_apply _ _ _ (ValueIdx.ix3 0 r 0) (ValueIdx.ix2 r 0) fun a => match a with
    | ⟨0, _⟩ => rfl | ⟨1, _⟩ => rfl)

/-- The mask words, spread over the planes. -/
theorem over_planes (x : S5x128x640.Idx → α) (t : Fin 5) (r : Fin 128) (n : Fin 32) (k : Fin 640) :
    broadcastInDim S5x128x32x640 ![0, 1, 2, 3] bcast_S5x128x1x640_S5x128x32x640_0_1_2_3
      (broadcastInDim S5x128x1x640 ![0, 1, 3] bcast_S5x128x640_S5x128x1x640_0_1_3 x) (ValueIdx.ix4 t r n k) = x (ValueIdx.ix3 t r k) :=
  (broadcastInDim_apply _ _ _ (ValueIdx.ix4 t r n k) (ValueIdx.ix4 t r 0 k) fun a => match a with
    | ⟨0, _⟩ => rfl | ⟨1, _⟩ => rfl | ⟨2, _⟩ => rfl | ⟨3, _⟩ => rfl).trans
  (broadcastInDim_apply _ _ _ (ValueIdx.ix4 t r 0 k) (ValueIdx.ix3 t r k) fun a => match a with
    | ⟨0, _⟩ => rfl | ⟨1, _⟩ => rfl | ⟨2, _⟩ => rfl)

/-- The planes of bits, laid out as columns. -/
theorem planes_at (x : S5x128x32x640.Idx → α) (t : Fin 5) (r : Fin 128) (j : Fin 20480) :
    shapeCast S5x128x20480 x shapeCasts_S5x128x32x640_S5x128x20480 (ValueIdx.ix3 t r j)
      = x (ValueIdx.ix4 t r ⟨j.val / 640, by omega⟩ ⟨j.val % 640, Nat.mod_lt _ (by decide)⟩) := by
  refine shapeCast_apply x _ (ValueIdx.ix3 t r j) _ ?_
  rw [Shape.rowMajor_val_three, Shape.rowMajor_val_four]
  show ((t.val * 128 + r.val) * 32 + j.val / 640) * 640 + j.val % 640 = (t.val * 128 + r.val) * 20480 + j.val
  omega

/-- The noise, padded and cut into tiles. -/
theorem tiled_at (x : S128x100000.Idx → α) (y : S128x2400.Idx → α) (t : Fin 5) (r : Fin 128) (j : Fin 20480) (h : 20480 * t.val + j.val < 100000) :
    transpose S5x128x20480 [1, 0, 2] (shapeCast S128x5x20480 (concatenate S128x102400 1 [⟨S128x100000, x⟩, ⟨S128x2400, y⟩] concatenates_S128x100000_S128x2400_S128x102400_d1)
      shapeCasts_S128x102400_S128x5x20480) transposes_S128x5x20480_S5x128x20480_1_0_2 (ValueIdx.ix3 t r j) = x (ValueIdx.ix2 r ⟨20480 * t.val + j.val, h⟩) := by
  refine (transpose_apply _ _ _ (ValueIdx.ix3 t r j) (ValueIdx.ix3 r t j) fun b => match b with
    | ⟨0, _⟩ => rfl | ⟨1, _⟩ => rfl | ⟨2, _⟩ => rfl).trans ?_
  refine (shapeCast_apply _ _ (ValueIdx.ix3 r t j) (ValueIdx.ix2 r ⟨20480 * t.val + j.val, by omega⟩) ?_).trans ?_
  · rw [Shape.rowMajor_val_three, Shape.rowMajor_val_two]
    show r.val * 102400 + (20480 * t.val + j.val) = (r.val * 5 + t.val) * 20480 + j.val
    omega
  · exact concatenate_pair_apply_left (t := S128x102400) 1 x y _ (ValueIdx.ix2 r ⟨20480 * t.val + j.val, by omega⟩) rfl
      (ValueIdx.ix2 r ⟨20480 * t.val + j.val, h⟩) fun b => match b with
        | ⟨0, _⟩ => rfl | ⟨1, _⟩ => rfl

end Reads

/-- The generator's key. -/
theorem key_at (a b : S1.Idx → BitVec 32) :
    concatenate S2 0 [⟨S1, a⟩, ⟨S1, b⟩] concatenates_S1_S1_S2_d0 (ValueIdx.ix1 0) = a (ValueIdx.ix1 0)
      ∧ concatenate S2 0 [⟨S1, a⟩, ⟨S1, b⟩] concatenates_S1_S1_S2_d0 (ValueIdx.ix1 1) = b (ValueIdx.ix1 0) :=
  ⟨concatenate_pair_apply_left (t := S2) 0 a b _ (ValueIdx.ix1 0) rfl (ValueIdx.ix1 0) fun b => match b with | ⟨0, _⟩ => rfl,
   concatenate_pair_apply_right (t := S2) 0 a b _ (ValueIdx.ix1 1) rfl rfl (ValueIdx.ix1 0)
    (fun b => match b with | ⟨0, _⟩ => fun h => absurd rfl h) rfl⟩

/-- The masked bit of a column. -/
abbrev marks (v : IVec S5x128x32x640 32) : IVec S5x128x20480 1 :=
  shapeCast S5x128x20480 (cmpi .ne v (broadcastInDim S5x128x32x640 ![] bcast_S_S5x128x32x640 (constantI S_ 32 0#32))) shapeCasts_S5x128x32x640_S5x128x20480

/-- The five properties, for any noise and any bits. -/
theorem parts_hold (a4 : IVec S5x1x20480 32) (a5 : FVec Ideal S5x128x128 .f32) (a6 : IVec S5x128x128 32) (a7 : FVec Ideal S128x1 .f32)
    (v11 : FVec Ideal S5x128x20480 .f32) (v17 : IVec S5x128x32x640 32) (t : Fin 5) (r : Fin 128) (j : Fin 20480) (s : Fin 128) :
    let R := fn_part1 (F := Ideal) a4 a5 a6 a7 v11 v17 (constantI S_ 32 0#32)
    let mk : Prop := marks v17 (ValueIdx.ix3 t r j) = 1#1
    let col : BitVec 32 := BitVec.ofNat 32 t.val * 20480#32 + BitVec.ofNat 32 j.val
    let sl : BitVec 32 := a4 (ValueIdx.ix3 t 0 j)
    (R.1 (ValueIdx.ix3 t r j) = 1#1 → (¬ mk ∨ ((col.toInt < (100000#32).toInt ∧ (0#32).toInt ≤ sl.toInt) ∧ sl.toInt < (128#32).toInt)))
    ∧ (R.2.1 (ValueIdx.ix4 t r j s) = 1#1 → (¬ (mk ∧ sl = BitVec.ofNat 32 s.val)
        ∨ (a6 (ValueIdx.ix3 t r s) = col ∧ a5 (ValueIdx.ix3 t r s) = v11 (ValueIdx.ix3 t r j))))
    ∧ (R.2.2.1 (ValueIdx.ix3 t r s) = 1#1 → (∃ j : Fin 20480, marks v17 (ValueIdx.ix3 t r j) = 1#1 ∧ a4 (ValueIdx.ix3 t 0 j) = BitVec.ofNat 32 s.val)
        ∨ a5 (ValueIdx.ix3 t r s) = low)
    ∧ (R.2.2.2.1 (ValueIdx.ix3 t r j) = 1#1 → ((¬ (col.toInt < (100000#32).toInt) ∨ mk) ∨ v11 (ValueIdx.ix3 t r j) ≤ a7 (ValueIdx.ix2 r 0)))
    ∧ (R.2.2.2.2 (ValueIdx.ix2 r 0) = 1#1 → Ideal.ofBits .f32 0x00000000#32 ≤ a7 (ValueIdx.ix2 r 0)) := by
  intro R mk col sl
  have hcol : (addi (muli (iotaInDim S5x128x20480 32 0) (broadcastInDim S5x128x20480 ![] bcast_S_S5x128x20480 (constantI S_ 32 20480#32)))
      (iotaInDim S5x128x20480 32 2)) (ValueIdx.ix3 t r j) = col := rfl
  refine ⟨fun h => ?_, fun h => ?_, fun h => ?_, fun h => ?_, fun h => ?_⟩
  · have h' : IntOp.ori (~~~ (marks v17 (ValueIdx.ix3 t r j))) (IntOp.andi (IntOp.andi (IntOp.cmpi .slt col 100000#32)
        (IntOp.cmpi .sge (broadcastInDim S5x128x20480 ![0, 1, 2] bcast_S5x1x20480_S5x128x20480_0_1_2 a4 (ValueIdx.ix3 t r j)) 0#32))
        (IntOp.cmpi .slt (broadcastInDim S5x128x20480 ![0, 1, 2] bcast_S5x1x20480_S5x128x20480_0_1_2 a4 (ValueIdx.ix3 t r j)) 128#32)) = 1#1 := h
    rwa [over_rows, ori_iff, not_iff, andi_iff, andi_iff, slt_iff, sge_iff, slt_iff] at h'
  · have h' : IntOp.ori (~~~ (IntOp.andi
          (broadcastInDim S5x128x20480x128 ![0, 1, 2, 3] bcast_S5x128x20480x1_S5x128x20480x128_0_1_2_3
            (broadcastInDim S5x128x20480x1 ![0, 1, 2] bcast_S5x128x20480_S5x128x20480x1_0_1_2 (marks v17)) (ValueIdx.ix4 t r j s))
          (IntOp.cmpi .eq (broadcastInDim S5x128x20480x128 ![0, 1, 2, 3] bcast_S5x128x20480x1_S5x128x20480x128_0_1_2_3
            (broadcastInDim S5x128x20480x1 ![0, 1, 2] bcast_S5x128x20480_S5x128x20480x1_0_1_2
              (broadcastInDim S5x128x20480 ![0, 1, 2] bcast_S5x1x20480_S5x128x20480_0_1_2 a4)) (ValueIdx.ix4 t r j s)) (BitVec.ofNat 32 s.val))))
        (IntOp.andi (IntOp.cmpi .eq (broadcastInDim S5x128x20480x128 ![0, 1, 2, 3] bcast_S5x128x1x128_S5x128x20480x128_0_1_2_3
            (broadcastInDim S5x128x1x128 ![0, 1, 3] bcast_S5x128x128_S5x128x1x128_0_1_3 a6) (ValueIdx.ix4 t r j s))
          (broadcastInDim S5x128x20480x128 ![0, 1, 2, 3] bcast_S5x128x20480x1_S5x128x20480x128_0_1_2_3
            (broadcastInDim S5x128x20480x1 ![0, 1, 2] bcast_S5x128x20480_S5x128x20480x1_0_1_2
              (addi (muli (iotaInDim S5x128x20480 32 0) (broadcastInDim S5x128x20480 ![] bcast_S_S5x128x20480 (constantI S_ 32 20480#32)))
                (iotaInDim S5x128x20480 32 2))) (ValueIdx.ix4 t r j s)))
          (FloatOps.cmpf (F := Ideal) (φ := .f32) .oeq (broadcastInDim S5x128x20480x128 ![0, 1, 2, 3] bcast_S5x128x1x128_S5x128x20480x128_0_1_2_3
            (broadcastInDim S5x128x1x128 ![0, 1, 3] bcast_S5x128x128_S5x128x1x128_0_1_3 a5) (ValueIdx.ix4 t r j s))
          (broadcastInDim S5x128x20480x128 ![0, 1, 2, 3] bcast_S5x128x20480x1_S5x128x20480x128_0_1_2_3
            (broadcastInDim S5x128x20480x1 ![0, 1, 2] bcast_S5x128x20480_S5x128x20480x1_0_1_2 v11) (ValueIdx.ix4 t r j s)))) = 1#1 := h
    rwa [over_slots, over_slots, over_slots, over_slots, over_columns, over_columns, over_rows, hcol, ori_iff, not_iff, andi_iff, andi_iff,
      eq_iff, eq_iff, oeq_iff] at h'
  · have h' : IntOp.ori (Host.reduce IntOp.ori
          (andi (broadcastInDim S5x128x20480x128 ![0, 1, 2, 3] bcast_S5x128x20480x1_S5x128x20480x128_0_1_2_3
            (broadcastInDim S5x128x20480x1 ![0, 1, 2] bcast_S5x128x20480_S5x128x20480x1_0_1_2 (marks v17)))
          (cmpi .eq (broadcastInDim S5x128x20480x128 ![0, 1, 2, 3] bcast_S5x128x20480x1_S5x128x20480x128_0_1_2_3
            (broadcastInDim S5x128x20480x1 ![0, 1, 2] bcast_S5x128x20480_S5x128x20480x1_0_1_2
              (broadcastInDim S5x128x20480 ![0, 1, 2] bcast_S5x1x20480_S5x128x20480_0_1_2 a4))) (iotaInDim S5x128x20480x128 32 3)))
          (constantI S_ 1 0#1) reducesTo_S5x128x20480x128_S5x128x128_d2 h_S_ (ValueIdx.ix3 t r s))
        (FloatOps.cmpf (F := Ideal) (φ := .f32) .oeq (a5 (ValueIdx.ix3 t r s)) low) = 1#1 := h
    rw [ori_iff, oeq_iff] at h'
    refine h'.imp_left fun h' => ?_
    obtain ⟨i, hi, hx⟩ := reduce_ori _ _ _ _ rfl _ h'
    have e0 : i 0 = t := Fin.ext (congrArg Fin.val (congrFun hi 0))
    have e1 : i 1 = r := Fin.ext (congrArg Fin.val (congrFun hi 1))
    have e3 : i 3 = s := Fin.ext (congrArg Fin.val (congrFun hi 2))
    obtain ⟨j', rfl⟩ : ∃ j' : Fin 20480, i = ValueIdx.ix4 t r j' s := ⟨i 2, funext fun a => match a with
      | ⟨0, _⟩ => e0 | ⟨1, _⟩ => e1 | ⟨2, _⟩ => rfl | ⟨3, _⟩ => e3⟩
    have hx' : IntOp.andi
          (broadcastInDim S5x128x20480x128 ![0, 1, 2, 3] bcast_S5x128x20480x1_S5x128x20480x128_0_1_2_3
            (broadcastInDim S5x128x20480x1 ![0, 1, 2] bcast_S5x128x20480_S5x128x20480x1_0_1_2 (marks v17)) (ValueIdx.ix4 t r j' s))
          (IntOp.cmpi .eq (broadcastInDim S5x128x20480x128 ![0, 1, 2, 3] bcast_S5x128x20480x1_S5x128x20480x128_0_1_2_3
            (broadcastInDim S5x128x20480x1 ![0, 1, 2] bcast_S5x128x20480_S5x128x20480x1_0_1_2
              (broadcastInDim S5x128x20480 ![0, 1, 2] bcast_S5x1x20480_S5x128x20480_0_1_2 a4)) (ValueIdx.ix4 t r j' s)) (BitVec.ofNat 32 s.val)) = 1#1 := hx
    rw [over_slots, over_slots, over_rows, andi_iff, eq_iff] at hx'
    exact ⟨j', hx'⟩
  · have h' : IntOp.ori (IntOp.ori (~~~ (IntOp.cmpi .slt col 100000#32)) (marks v17 (ValueIdx.ix3 t r j)))
        (FloatOps.cmpf (F := Ideal) (φ := .f32) .ole (v11 (ValueIdx.ix3 t r j))
          (broadcastInDim S5x128x20480 ![0, 1, 2] bcast_S1x128x1_S5x128x20480_0_1_2 (broadcastInDim S1x128x1 ![1, 2] bcast_S128x1_S1x128x1_1_2 a7)
            (ValueIdx.ix3 t r j))) = 1#1 := h
    rwa [over_tiles, ori_iff, ori_iff, not_iff, slt_iff, ole_iff] at h'
  · have h' : FloatOps.cmpf (F := Ideal) (φ := .f32) .oge (a7 (ValueIdx.ix2 r 0)) (Ideal.ofBits .f32 0x00000000#32) = 1#1 := h
    rwa [oge_iff] at h'

/-- A column's mark, from the mask words. -/
theorem marks_iff (a3 : IVec S5x128x640 32) (t : Fin 5) (r : Fin 128) (j : Fin 20480) :
    marks (andi (Host.shrui (broadcastInDim S5x128x32x640 ![0, 1, 2, 3] bcast_S5x128x1x640_S5x128x32x640_0_1_2_3
      (broadcastInDim S5x128x1x640 ![0, 1, 3] bcast_S5x128x640_S5x128x1x640_0_1_3 a3)) (iotaInDim S5x128x32x640 32 2))
      (broadcastInDim S5x128x32x640 ![] bcast_S_S5x128x32x640 (constantI S_ 32 1#32))) (ValueIdx.ix3 t r j) = 1#1
      ↔ Bit (fun k => a3 (ValueIdx.ix3 t r k)) j := by
  rw [marks, planes_at]
  generalize hk : (⟨j.val % 640, Nat.mod_lt _ (by decide)⟩ : Fin 640) = k
  show IntOp.cmpi .ne (IntOp.andi (IntOp.shrui .host (broadcastInDim S5x128x32x640 ![0, 1, 2, 3] bcast_S5x128x1x640_S5x128x32x640_0_1_2_3
      (broadcastInDim S5x128x1x640 ![0, 1, 3] bcast_S5x128x640_S5x128x1x640_0_1_3 a3) (ValueIdx.ix4 t r ⟨j.val / 640, by omega⟩ k))
      (BitVec.ofNat 32 (j.val / 640))) 1#32) 0#32 = 1#1 ↔ _
  have hlt : (BitVec.ofNat 32 (j.val / 640)).toNat < 32 := by
    have := j.2
    rw [BitVec.toNat_ofNat]; omega
  rw [over_planes, ne_iff, IntOp.shrui, if_pos hlt, Bit, hk]
  rfl

/-- The precondition says that the tables are right. -/
theorem tables_hold (a0 : FVec Ideal S128x64 .f32) (a1 : FVec Ideal S64x100000 .f32) (a2 : FVec Ideal S100000 .f32) (a3 : IVec S5x128x640 32)
    (a4 : IVec S5x1x20480 32) (a5 : FVec Ideal S5x128x128 .f32) (a6 : IVec S5x128x128 32) (a7 : FVec Ideal S128x1 .f32)
    (h : (fn (F := Ideal) a0 a1 a2 a3 a4 a5 a6 a7).1 = (fun _ => 1#1) ∧ (fn (F := Ideal) a0 a1 a2 a3 a4 a5 a6 a7).2.1 = (fun _ => 1#1)
      ∧ (fn (F := Ideal) a0 a1 a2 a3 a4 a5 a6 a7).2.2.1 = (fun _ => 1#1) ∧ (fn (F := Ideal) a0 a1 a2 a3 a4 a5 a6 a7).2.2.2.1 = (fun _ => 1#1)
      ∧ (fn (F := Ideal) a0 a1 a2 a3 a4 a5 a6 a7).2.2.2.2 = (fun _ => 1#1)) : TablesOk a3 a4 a5 a6 a7 := by
  unfold fn at h
  obtain ⟨h1, h2, h3, h4, h5⟩ := h
  have hcol : ∀ (t : Fin 5) (j : Fin 20480), BitVec.ofNat 32 t.val * 20480#32 + BitVec.ofNat 32 j.val = BitVec.ofNat 32 (20480 * t.val + j.val) := fun t j => by
    rw [BitVec.ofNat_add, Nat.mul_comm, BitVec.ofNat_mul]
  have hsmall : ∀ a : ℕ, a < 2 ^ 31 → (BitVec.ofNat 32 a).toInt = a := fun a h => by
    rw [BitVec.toInt_ofNat', Int.bmod_eq_of_le] <;> omega
  have hlt : ∀ (t : Fin 5) (j : Fin 20480), (BitVec.ofNat 32 (20480 * t.val + j.val)).toInt < (100000#32).toInt ↔ 20480 * t.val + j.val < 100000 := fun t j => by
    have ht := t.2
    have hj := j.2
    rw [hsmall _ (by omega), show (100000#32).toInt = 100000 by decide]
    omega
  have hnoise : ∀ (x : S128x2400.Idx → EReal) (k : IVec S2 32) (hk : k (ValueIdx.ix1 0) = 0#32) (hk' : k (ValueIdx.ix1 1) = 42#32)
      (t : Fin 5) (r : Fin 128) (j : Fin 20480) (hj : 20480 * t.val + j.val < 100000),
      transpose S5x128x20480 [1, 0, 2] (shapeCast S128x5x20480 (concatenate S128x102400 1 [⟨S128x100000, fn_gumbel (F := Ideal) k⟩, ⟨S128x2400, x⟩]
        concatenates_S128x100000_S128x2400_S128x102400_d1) shapeCasts_S128x102400_S128x5x20480) transposes_S128x5x20480_S5x128x20480_1_0_2 (ValueIdx.ix3 t r j)
        = noise r.val (20480 * t.val + j.val) := fun x k hk hk' t r j hj =>
    (tiled_at _ _ t r j hj).trans (gumbel_holds k hk hk' r ⟨20480 * t.val + j.val, hj⟩)
  have hkey : (broadcastInDim S1 ![] bcast_S_S1 (id (Host.shrui (constantI S_ 32 42#32) (constantI S_ 32 32#32))) : S1.Idx → BitVec 32) (ValueIdx.ix1 0) = 0#32
      ∧ (broadcastInDim S1 ![] bcast_S_S1 (id (andi (constantI S_ 32 42#32) (constantI S_ 32 4294967295#32))) : S1.Idx → BitVec 32) (ValueIdx.ix1 0) = 42#32 :=
    ⟨rfl, show (42#32 &&& 4294967295#32) = 42#32 by decide⟩
  refine ⟨fun t r j hb => ?_, fun t r j s hb hs => ?_, fun t r s => ?_, fun t r j hj => ?_, fun r => ?_⟩
  · have p := (parts_hold a4 a5 a6 a7 _ _ t r j 0).1 (congrFun h1 (ValueIdx.ix3 t r j))
    dsimp only at p
    rw [marks_iff, hcol, hlt] at p
    obtain ⟨⟨p1, p2⟩, p3⟩ := p.resolve_left (not_not.mpr hb)
    have e0 : (0#32).toInt = 0 := by decide
    have e1 : (128#32).toInt = 128 := by decide
    rw [e0] at p2
    rw [e1] at p3
    generalize a4 (ValueIdx.ix3 t 0 j) = u at p2 p3
    refine ⟨p1, ⟨u.toNat, ?_⟩, ?_⟩
    · have := BitVec.toInt_eq_toNat_cond u
      split at this <;> omega
    · show u = BitVec.ofNat 32 u.toNat
      rw [BitVec.ofNat_toNat, BitVec.setWidth_eq]
  · have hj : 20480 * t.val + j.val < 100000 := by
      have p := (parts_hold a4 a5 a6 a7 _ _ t r j 0).1 (congrFun h1 (ValueIdx.ix3 t r j))
      dsimp only at p
      rw [marks_iff, hcol, hlt] at p
      exact (p.resolve_left (not_not.mpr hb)).1.1
    have p := (parts_hold a4 a5 a6 a7 _ _ t r j s).2.1 (congrFun h2 (ValueIdx.ix4 t r j s))
    dsimp only at p
    rw [marks_iff, hcol, hnoise _ _ ((key_at _ _).1.trans hkey.1) ((key_at _ _).2.trans hkey.2) t r j hj] at p
    exact p.resolve_left (not_not.mpr ⟨hb, hs⟩)
  · have p := (parts_hold a4 a5 a6 a7 _ _ t r 0 s).2.2.1 (congrFun h3 (ValueIdx.ix3 t r s))
    refine p.imp_left fun ⟨j, h6, h7⟩ => ⟨j, (marks_iff a3 t r j).mp h6, h7⟩
  · have p := (parts_hold a4 a5 a6 a7 _ _ t r j 0).2.2.2.1 (congrFun h4 (ValueIdx.ix3 t r j))
    dsimp only at p
    rw [marks_iff, hcol, hlt, hnoise _ _ ((key_at _ _).1.trans hkey.1) ((key_at _ _).2.trans hkey.2) t r j hj] at p
    exact p.imp_left fun p => p.resolve_left (not_not.mpr hj)
  · have p := (parts_hold a4 a5 a6 a7 _ _ 0 r 0 0).2.2.2.2 (congrFun h5 (ValueIdx.ix2 r 0))
    rwa [Ideal.ofBits_zero_f32] at p

end Cert.Pre_tables_ok.Own

end
-- ==== Proof.FastRead.lean ====
/-
  The fast call's blocks read at an element: what a fetched block holds where it lies inside the array.
-/
module

public import proofs.«01_k».proof.Proof.FastData
public import proofs.«01_k».proof.Proof.Row

@[expose] public section

set_option maxRecDepth 8000

noncomputable section

namespace Cert.KernelIdeal.Own

open Cert.KernelIdeal Cert.KernelIdeal.Gen Cert.Noise Cert.First

open Idealize.ShloMosaic
open Idealize.ShloMosaic.Pipeline (Cfg Window RDat)

variable {F : FTy → Type} [FloatOps F]

/-- The part of each clipped block that lies inside its array. -/
theorem inside0 : ∀ t : Fin grid0.N, (cfg0.win 1).xsize (grid0.coords t) 0 = 64 ∧ (cfg0.win 1).xsize (grid0.coords t) 1 = min 20480 (100000 - 20480 * t.val)
    ∧ (cfg0.win 2).xsize (grid0.coords t) 0 = 1 ∧ (cfg0.win 2).xsize (grid0.coords t) 1 = min 20480 (100000 - 20480 * t.val) := by decide

/-- Which block each point reads. -/
theorem index0 : ∀ t : Fin grid0.N, (cfg0.win 0).index t 0 = 0 ∧ (cfg0.win 0).index t 1 = 0 ∧ (cfg0.win 1).index t 0 = 0
    ∧ (cfg0.win 1).index t 1 = t.val ∧ (cfg0.win 2).index t 0 = 0 ∧ (cfg0.win 2).index t 1 = t.val := by decide

/-- Which block of the tables each point reads. -/
theorem index0_tables : ∀ t : Fin grid0.N, ((cfg0.win 3).index t 0 = t.val ∧ (cfg0.win 3).index t 1 = 0 ∧ (cfg0.win 3).index t 2 = 0)
    ∧ ((cfg0.win 4).index t 0 = t.val ∧ (cfg0.win 4).index t 1 = 0 ∧ (cfg0.win 4).index t 2 = 0)
    ∧ ((cfg0.win 5).index t 0 = t.val ∧ (cfg0.win 5).index t 1 = 0 ∧ (cfg0.win 5).index t 2 = 0)
    ∧ ((cfg0.win 6).index t 0 = t.val ∧ (cfg0.win 6).index t 1 = 0 ∧ (cfg0.win 6).index t 2 = 0) := by decide

variable (V : Dev nD → Valuation τ sig (Elt F)) (c : Dev nD) (t : Fin cfg0.N)

theorem fetched0_x (d) (r : Fin 128) (k : Fin 64) :
    (arr0 V c).fetched 0 t d (ValueIdx.ix2 r k) = V c (Proc.devRef .tc main_arg0) (ValueIdx.ix2 r k) := by
  obtain ⟨h0, h1, -⟩ := index0 t
  have hm : (cfg0.win 0).moved (grid0.coords t) (ValueIdx.ix2 r k) = true := rfl
  unfold RDat.fetched Window.fill
  rw [dif_pos hm]
  refine congrArg (V c (Proc.devRef .tc main_arg0)) ((ValueIdx.eq_ix2 _).trans (congrArg₂ ValueIdx.ix2 (Fin.ext ?_) (Fin.ext ?_)))
  · exact ((cfg0.win 0).rect_emb_val t _ 0).trans (by rw [h0, Nat.zero_mul, Nat.zero_add]; rfl)
  · exact ((cfg0.win 0).rect_emb_val t _ 1).trans (by rw [h1, Nat.zero_mul, Nat.zero_add]; rfl)

theorem fetched0_w (d) (k : Fin 64) (j : Fin 20480) (h : 20480 * t.val + j.val < 100000) :
    (arr0 V c).fetched 1 t d (ValueIdx.ix2 k j) = V c (Proc.devRef .tc main_arg1) (ValueIdx.ix2 k ⟨20480 * t.val + j.val, h⟩) := by
  obtain ⟨h0, h1, -, -⟩ := inside0 t
  obtain ⟨-, -, i0, i1, -, -⟩ := index0 t
  have hm : (cfg0.win 1).moved (grid0.coords t) (ValueIdx.ix2 k j) = true := by
    refine ((cfg0.win 1).moved_iff _ _).mpr fun a => ?_
    match a with
    | ⟨0, _⟩ => exact lt_of_lt_of_eq k.2 h0.symm
    | ⟨1, _⟩ => exact lt_of_lt_of_eq (lt_min j.2 (show j.val < _ by omega)) h1.symm
  unfold RDat.fetched Window.fill
  rw [dif_pos hm]
  refine congrArg (V c (Proc.devRef .tc main_arg1)) ((ValueIdx.eq_ix2 _).trans (congrArg₂ ValueIdx.ix2 (Fin.ext ?_) (Fin.ext ?_)))
  · exact ((cfg0.win 1).rect_emb_val t _ 0).trans (by rw [i0, Nat.zero_mul, Nat.zero_add]; rfl)
  · exact ((cfg0.win 1).rect_emb_val t _ 1).trans (by rw [i1, Nat.mul_comm]; rfl)

theorem fetched0_b (d) (j : Fin 20480) (h : 20480 * t.val + j.val < 100000) :
    (arr0 V c).fetched 2 t d (ValueIdx.ix2 0 j) = V c (Proc.devRef .tc main_v0) (ValueIdx.ix2 0 ⟨20480 * t.val + j.val, h⟩) := by
  obtain ⟨-, -, h0, h1⟩ := inside0 t
  obtain ⟨-, -, -, -, i0, i1⟩ := index0 t
  have hm : (cfg0.win 2).moved (grid0.coords t) (ValueIdx.ix2 0 j) = true := by
    refine ((cfg0.win 2).moved_iff _ _).mpr fun a => ?_
    match a with
    | ⟨0, _⟩ => exact lt_of_lt_of_eq Nat.one_pos h0.symm
    | ⟨1, _⟩ => exact lt_of_lt_of_eq (lt_min j.2 (show j.val < _ by omega)) h1.symm
  unfold RDat.fetched Window.fill
  rw [dif_pos hm]
  refine congrArg (V c (Proc.devRef .tc main_v0)) ((ValueIdx.eq_ix2 _).trans (congrArg₂ ValueIdx.ix2 (Fin.ext ?_) (Fin.ext ?_)))
  · exact ((cfg0.win 2).rect_emb_val t _ 0).trans (by rw [i0, Nat.zero_mul, Nat.zero_add]; rfl)
  · exact ((cfg0.win 2).rect_emb_val t _ 1).trans (by rw [i1, Nat.mul_comm]; rfl)

theorem fetched0_m (d) (r : Fin 128) (k : Fin 640) :
    (arr0 V c).fetched 3 t d (ValueIdx.ix3 0 r k) = V c (Proc.devRef .tc main_arg3) (ValueIdx.ix3 t r k) := by
  obtain ⟨⟨i0, i1, i2⟩, -⟩ := index0_tables t
  have hm : (cfg0.win 3).moved (grid0.coords t) (ValueIdx.ix3 0 r k) = true := rfl
  unfold RDat.fetched Window.fill
  rw [dif_pos hm]
  refine congrArg (V c (Proc.devRef .tc main_arg3)) (funext fun a => Fin.ext ?_)
  match a with
  | ⟨0, _⟩ => exact ((cfg0.win 3).rect_emb_val t _ 0).trans (by rw [i0]; exact Nat.mul_one _)
  | ⟨1, _⟩ => exact ((cfg0.win 3).rect_emb_val t _ 1).trans (by rw [i1, Nat.zero_mul, Nat.zero_add]; rfl)
  | ⟨2, _⟩ => exact ((cfg0.win 3).rect_emb_val t _ 2).trans (by rw [i2, Nat.zero_mul, Nat.zero_add]; rfl)

theorem fetched0_sl (d) (j : Fin 20480) :
    (arr0 V c).fetched 4 t d (ValueIdx.ix3 0 0 j) = V c (Proc.devRef .tc main_arg4) (ValueIdx.ix3 t 0 j) := by
  obtain ⟨-, ⟨i0, i1, i2⟩, -⟩ := index0_tables t
  have hm : (cfg0.win 4).moved (grid0.coords t) (ValueIdx.ix3 0 0 j) = true := rfl
  unfold RDat.fetched Window.fill
  rw [dif_pos hm]
  refine congrArg (V c (Proc.devRef .tc main_arg4)) (funext fun a => Fin.ext ?_)
  match a with
  | ⟨0, _⟩ => exact ((cfg0.win 4).rect_emb_val t _ 0).trans (by rw [i0]; exact Nat.mul_one _)
  | ⟨1, _⟩ => exact ((cfg0.win 4).rect_emb_val t _ 1).trans (by rw [i1, Nat.zero_mul, Nat.zero_add]; rfl)
  | ⟨2, _⟩ => exact ((cfg0.win 4).rect_emb_val t _ 2).trans (by rw [i2, Nat.zero_mul, Nat.zero_add]; rfl)

theorem fetched0_g (d) (r s : Fin 128) :
    (arr0 V c).fetched 5 t d (ValueIdx.ix3 0 r s) = V c (Proc.devRef .tc main_arg5) (ValueIdx.ix3 t r s) := by
  obtain ⟨-, -, ⟨i0, i1, i2⟩, -⟩ := index0_tables t
  have hm : (cfg0.win 5).moved (grid0.coords t) (ValueIdx.ix3 0 r s) = true := rfl
  unfold RDat.fetched Window.fill
  rw [dif_pos hm]
  refine congrArg (V c (Proc.devRef .tc main_arg5)) (funext fun a => Fin.ext ?_)
  match a with
  | ⟨0, _⟩ => exact ((cfg0.win 5).rect_emb_val t _ 0).trans (by rw [i0]; exact Nat.mul_one _)
  | ⟨1, _⟩ => exact ((cfg0.win 5).rect_emb_val t _ 1).trans (by rw [i1, Nat.zero_mul, Nat.zero_add]; rfl)
  | ⟨2, _⟩ => exact ((cfg0.win 5).rect_emb_val t _ 2).trans (by rw [i2, Nat.zero_mul, Nat.zero_add]; rfl)

theorem fetched0_ix (d) (r s : Fin 128) :
    (arr0 V c).fetched 6 t d (ValueIdx.ix3 0 r s) = V c (Proc.devRef .tc main_arg6) (ValueIdx.ix3 t r s) := by
  obtain ⟨-, -, -, i0, i1, i2⟩ := index0_tables t
  have hm : (cfg0.win 6).moved (grid0.coords t) (ValueIdx.ix3 0 r s) = true := rfl
  unfold RDat.fetched Window.fill
  rw [dif_pos hm]
  refine congrArg (V c (Proc.devRef .tc main_arg6)) (funext fun a => Fin.ext ?_)
  match a with
  | ⟨0, _⟩ => exact ((cfg0.win 6).rect_emb_val t _ 0).trans (by rw [i0]; exact Nat.mul_one _)
  | ⟨1, _⟩ => exact ((cfg0.win 6).rect_emb_val t _ 1).trans (by rw [i1, Nat.zero_mul, Nat.zero_add]; rfl)
  | ⟨2, _⟩ => exact ((cfg0.win 6).rect_emb_val t _ 2).trans (by rw [i2, Nat.zero_mul, Nat.zero_add]; rfl)

end Cert.KernelIdeal.Own

end
-- ==== Proof.DenseNoise.lean ====
/-
  The dense call's score of one element: the noise of the element's number plus the logit, minus infinity past the last
  column.
-/
module

public import proofs.«01_k».proof.Proof.DenseBody
public import proofs.«01_k».proof.Proof.Threefry
public import Idealize.ShloMosaic.Lib.ValueIdx

@[expose] public section

noncomputable section

namespace Cert.KernelIdeal.Own

open Cert.KernelIdeal Cert.KernelIdeal.Gen Cert.Noise
open Idealize.ShloMosaic

variable {F : FTy → Type} [FloatOps F]

/-- The first three rounds, and the sum the fourth begins with. -/
theorem rounds_start (i : grid1.Coords) (e : S128x20480.Idx) :
    Holds (k1_pay14 i) (k1_pay15 i) e (round 26#32 6#32 (round 15#32 17#32 (round 13#32 19#32 (0#32, k1_pay9 i e)))) := by
  have h0 : Holds (broadcast S128x20480 0#32) (k1_pay9 i) e (0#32, k1_pay9 i e) := ⟨rfl, rfl⟩
  have h1 : Holds (k1_pay10 i) (k1_pay11 i) e _ := round_at h0 13#32 19#32 (by decide) (by decide) rfl rfl
  have h2 : Holds (k1_pay12 i) (k1_pay13 i) e _ := round_at h1 15#32 17#32 (by decide) (by decide) rfl rfl
  exact round_at h2 26#32 6#32 (by decide) (by decide) rfl rfl

/-- From there to the second keys. -/
theorem rounds_second {X v38 v39 v40 : IVec S128x20480 32} {e : S128x20480.Idx} {p : Pair} (h : Holds X v38 e p)
    (h39 : v39 e = IntOp.addi (X e) (v38 e)) (h40 : v40 e = 6#32) :
    Holds (k1_pay26 v38 v39 v40) (k1_pay27 v38 v39 v40) e
      (key 466689008#32 0#32 2#32 (odd (key 42#32 466689008#32 1#32 (round 6#32 26#32 p)))) := by
  have h1 : Holds v39 (xori (ori (shli v38 v40) (shrui v38 (broadcast S128x20480 26#32))) v39) e (round 6#32 26#32 p) :=
    round_at (u := .vector) h 6#32 26#32 (by decide) (by decide) h39 (by rw [← h40]; rfl)
  have h2 : Holds (addi v39 (broadcast S128x20480 42#32)) (k1_pay18 v38 v39 v40) e _ :=
    key_at h1 42#32 466689008#32 1#32 rfl rfl
  have h3 : Holds (k1_pay19 v38 v39 v40) (k1_pay20 v38 v39 v40) e _ := round_at h2 17#32 15#32 (by decide) (by decide) rfl rfl
  have h4 : Holds (k1_pay21 v38 v39 v40) (k1_pay22 v38 v39 v40) e _ := round_at h3 29#32 3#32 (by decide) (by decide) rfl rfl
  have h5 : Holds (k1_pay23 v38 v39 v40) (k1_pay24 v38 v39 v40) e _ := round_at h4 16#32 16#32 (by decide) (by decide) rfl rfl
  have h6 : Holds (k1_pay25 v38 v39 v40) (xori (ori (shli (k1_pay24 v38 v39 v40) (broadcast S128x20480 24#32))
      (shrui (k1_pay24 v38 v39 v40) (broadcast S128x20480 8#32))) (k1_pay25 v38 v39 v40)) e _ :=
    round_at h5 24#32 8#32 (by decide) (by decide) rfl rfl
  exact key_at h6 466689008#32 0#32 2#32 rfl rfl

/-- To the fourth keys' first round. -/
theorem rounds_third {v81 v85 : IVec S128x20480 32} {e : S128x20480.Idx} {p : Pair} (h : Holds v81 v85 e p) :
    Holds (k1_pay36 v81 v85) (k1_pay37 v81 v85) e (round 17#32 15#32 (key 0#32 42#32 3#32 (even p))) := by
  have h1 : Holds (k1_pay28 v81 v85) (k1_pay29 v81 v85) e _ := round_at h 13#32 19#32 (by decide) (by decide) rfl rfl
  have h2 : Holds (k1_pay30 v81 v85) (k1_pay31 v81 v85) e _ := round_at h1 15#32 17#32 (by decide) (by decide) rfl rfl
  have h3 : Holds (k1_pay32 v81 v85) (k1_pay33 v81 v85) e _ := round_at h2 26#32 6#32 (by decide) (by decide) rfl rfl
  have h4 : Holds (k1_pay34 v81 v85) (xori (ori (shli (k1_pay33 v81 v85) (broadcast S128x20480 6#32))
      (shrui (k1_pay33 v81 v85) (broadcast S128x20480 26#32))) (k1_pay34 v81 v85)) e _ :=
    round_at h3 6#32 26#32 (by decide) (by decide) rfl rfl
  have h5 : Holds (addi (k1_pay34 v81 v85) (broadcast S128x20480 0#32)) (k1_pay35 v81 v85) e _ :=
    key_at h4 0#32 42#32 3#32 rfl rfl
  exact round_at h5 17#32 15#32 (by decide) (by decide) rfl rfl

/-- To the last turn's third round. -/
theorem rounds_fourth {X v126 v127 v129 v130 : IVec S128x20480 32} {e : S128x20480.Idx} {p : Pair} (h : Holds X v126 e p)
    (h127 : v127 e = IntOp.addi (X e) (v126 e)) (h129 : v129 e = IntOp.shli .vector (v126 e) 29#32) (h130 : v130 e = 3#32) :
    Holds (k1_pay50 v126 v127 v129 v130) (k1_pay51 v126 v127 v129 v130) e
      (round 26#32 6#32 (round 15#32 17#32 (round 13#32 19#32 (key 42#32 466689008#32 4#32
        (round 24#32 8#32 (round 16#32 16#32 (round 29#32 3#32 p))))))) := by
  have h1 : Holds v127 (k1_pay41 v126 v127 v129 v130) e (round 29#32 3#32 p) :=
    round_at (u := .vector) h 29#32 3#32 (by decide) (by decide) h127 (by rw [← h129, ← h130]; rfl)
  have h2 : Holds (k1_pay42 v126 v127 v129 v130) (k1_pay43 v126 v127 v129 v130) e _ :=
    round_at h1 16#32 16#32 (by decide) (by decide) rfl rfl
  have h3 : Holds (k1_pay44 v126 v127 v129 v130) (xori (ori (shli (k1_pay43 v126 v127 v129 v130) (broadcast S128x20480 24#32))
      (shrui (k1_pay43 v126 v127 v129 v130) (broadcast S128x20480 8#32))) (k1_pay44 v126 v127 v129 v130)) e _ :=
    round_at h2 24#32 8#32 (by decide) (by decide) rfl rfl
  have h4 : Holds (addi (k1_pay44 v126 v127 v129 v130) (broadcast S128x20480 42#32)) (k1_pay45 v126 v127 v129 v130) e _ :=
    key_at h3 42#32 466689008#32 4#32 rfl rfl
  have h5 : Holds (k1_pay46 v126 v127 v129 v130) (k1_pay47 v126 v127 v129 v130) e _ :=
    round_at h4 13#32 19#32 (by decide) (by decide) rfl rfl
  have h6 : Holds (k1_pay48 v126 v127 v129 v130) (k1_pay49 v126 v127 v129 v130) e _ :=
    round_at h5 15#32 17#32 (by decide) (by decide) rfl rfl
  exact round_at h6 26#32 6#32 (by decide) (by decide) rfl rfl

/-- The noise and the score at an element, from the random words. -/
theorem score_at (v6 : FVec Ideal S128x20480 .f32) (v10 v188 : IVec S128x20480 32) (e : S128x20480.Idx) :
    select (cmpi .slt v10 (broadcast S128x20480 100000#32)) (addf (subf (broadcast S128x20480 (Scalar.ofBits .f32 0x00000000#32))
      (log (subf (broadcast S128x20480 (Scalar.ofBits .f32 0x00000000#32)) (log (maximumf (broadcast S128x20480 (Scalar.ofBits .f32 0x00800000#32))
        (addf (mulf (subf (bitcastToFloat (F := Ideal) .f32 (ori (shrui v188 (broadcast S128x20480 9#32)) (broadcast S128x20480 1065353216#32)))
          (broadcast S128x20480 (Scalar.ofBits .f32 0x3F800000#32))) (broadcast S128x20480 (Scalar.subf (Scalar.ofBits .f32 0x3F800000#32) (Scalar.ofBits .f32 0x00800000#32))))
          (broadcast S128x20480 (Scalar.ofBits .f32 0x00800000#32)))))))) v6) (broadcast S128x20480 (Scalar.ofBits .f32 0xFF800000#32)) e
    = Scalar.select (IntOp.cmpi .slt (v10 e) 100000#32)
        (-Ideal.log (-Ideal.log (max (Ideal.ofBits .f32 0x00800000#32)
          ((Ideal.ofBits .f32 (IntOp.shrui .vector (v188 e) 9#32 ||| 1065353216#32) - Ideal.ofBits .f32 0x3F800000#32)
            * (Ideal.ofBits .f32 0x3F800000#32 - Ideal.ofBits .f32 0x00800000#32) + Ideal.ofBits .f32 0x00800000#32))) + v6 e)
        (Ideal.ofBits .f32 0xFF800000#32) := by
  generalize hz : (Scalar.ofBits .f32 0x00000000#32 : Ideal .f32) = z
  have hz' : z = (0 : EReal) := hz.symm.trans Ideal.ofBits_zero_f32
  rw [hz', ← zero_sub (Ideal.log (-_)), ← zero_sub (Ideal.log (max _ _))]
  rfl

/-- The last round and keys, the uniform number, the noise and the score. -/
theorem score_last {v6 : FVec Ideal S128x20480 .f32} {v10 X v174 v175 v176 : IVec S128x20480 32} {e : S128x20480.Idx} {p : Pair}
    (h : Holds X v174 e p) (h175 : v175 e = IntOp.addi (X e) (v174 e)) (h176 : v176 e = 6#32) :
    k1_pay54 v6 v10 v174 v175 v176 e
      = Scalar.select (IntOp.cmpi .slt (v10 e) 100000#32)
          (gumbel ((key 466689008#32 0#32 5#32 (round 6#32 26#32 p)).1 ^^^ (key 466689008#32 0#32 5#32 (round 6#32 26#32 p)).2) + v6 e)
          (Ideal.ofBits .f32 0xFF800000#32) := by
  have h1 : Holds v175 (xori (ori (shli v174 v176) (shrui v174 (broadcast S128x20480 26#32))) v175) e (round 6#32 26#32 p) :=
    round_at (u := .vector) h 6#32 26#32 (by decide) (by decide) h175 (by rw [← h176]; rfl)
  have h2 : Holds (addi v175 (broadcast S128x20480 466689008#32)) (addi (addi (xori (ori (shli v174 v176)
      (shrui v174 (broadcast S128x20480 26#32))) v175) (broadcast S128x20480 0#32)) (broadcast S128x20480 5#32)) e _ :=
    key_at h1 466689008#32 0#32 5#32 rfl rfl
  rw [← h2.1, ← h2.2]
  exact (score_at _ _ _ e).trans (by rw [gumbel, uniform, ← shr_of_lt (u := .vector) _ 9#32 (by decide)]; rfl)

/-- The score of one element of a tile. -/
theorem dScore_apply (i : grid1.Coords) (x : Vec Ideal S128x64 .f32) (w : Vec Ideal S64x20480 .f32) (b : Vec Ideal S1x20480 .f32)
    (e : S128x20480.Idx) (n : BitVec 32) (hn : k1_pay9 i e = n + 42#32) :
    dScore i x w b e = Scalar.select (IntOp.cmpi .slt (k1_pay8 i e) 100000#32) (gumbel (word n) + k1_pay7 x w b e)
      (Ideal.ofBits .f32 0xFF800000#32) := by
  have h1 := rounds_start i e
  have h2 := rounds_second (v39 := k1_pay16 i) (v40 := k1_pay17) h1 rfl rfl
  have h3 := rounds_third h2
  have h4 := rounds_fourth (v127 := k1_pay38 _ _) (v129 := k1_pay39 _ _) (v130 := k1_pay40) h3 rfl rfl rfl
  rw [hn] at h4
  exact score_last (v175 := k1_pay52 _ _ _ _) (v176 := k1_pay53) h4 rfl rfl

end Cert.KernelIdeal.Own

end
-- ==== Proof.DenseRead.lean ====
/-
  The dense call's blocks read at an element: what a fetched block holds where it lies inside the array.
-/
module

public import proofs.«01_k».proof.Proof.DenseData
public import proofs.«01_k».proof.Proof.DenseNoise
public import proofs.«01_k».proof.Proof.Row
public import Idealize.ShloMosaic.Lib.StackMember

@[expose] public section

noncomputable section

namespace Cert.KernelIdeal.Own

open Cert.KernelIdeal Cert.KernelIdeal.Gen Cert.Noise Cert.First

open Idealize.ShloMosaic
open Idealize.ShloMosaic.Pipeline (Cfg Window RDat)

variable {F : FTy → Type} [FloatOps F]

/-- The part of each block that lies inside its array. -/
theorem inside1 : ∀ t : Fin grid1.N, (cfg1.win 1).xsize (grid1.coords t) 0 = 64 ∧ (cfg1.win 1).xsize (grid1.coords t) 1 = min 20480 (100000 - 20480 * t.val)
    ∧ (cfg1.win 2).xsize (grid1.coords t) 0 = 1 ∧ (cfg1.win 2).xsize (grid1.coords t) 1 = min 20480 (100000 - 20480 * t.val) := by decide

/-- Which block each point reads. -/
theorem index1 : ∀ t : Fin grid1.N, (cfg1.win 0).index t 0 = 0 ∧ (cfg1.win 0).index t 1 = 0 ∧ (cfg1.win 1).index t 0 = 0
    ∧ (cfg1.win 1).index t 1 = t.val ∧ (cfg1.win 2).index t 0 = 0 ∧ (cfg1.win 2).index t 1 = t.val := by decide

theorem fetched_x (V : Dev nD → Valuation τ sig (Elt F)) (c : Dev nD) (t : Fin cfg1.N) (d) (r : Fin 128) (k : Fin 64) :
    (arr1 V c).fetched 0 t d (ValueIdx.ix2 r k) = V c (Proc.devRef .tc main_arg0) (ValueIdx.ix2 r k) := by
  obtain ⟨h0, h1, -⟩ := index1 t
  have hm : (cfg1.win 0).moved (grid1.coords t) (ValueIdx.ix2 r k) = true := rfl
  unfold RDat.fetched Window.fill
  rw [dif_pos hm]
  refine congrArg (V c (Proc.devRef .tc main_arg0)) ((ValueIdx.eq_ix2 _).trans (congrArg₂ ValueIdx.ix2 (Fin.ext ?_) (Fin.ext ?_)))
  · exact ((cfg1.win 0).rect_emb_val t _ 0).trans (by rw [h0, Nat.zero_mul, Nat.zero_add]; rfl)
  · exact ((cfg1.win 0).rect_emb_val t _ 1).trans (by rw [h1, Nat.zero_mul, Nat.zero_add]; rfl)

theorem fetched_w (V : Dev nD → Valuation τ sig (Elt F)) (c : Dev nD) (t : Fin cfg1.N) (d) (k : Fin 64) (j : Fin 20480)
    (h : 20480 * t.val + j.val < 100000) :
    (arr1 V c).fetched 1 t d (ValueIdx.ix2 k j) = V c (Proc.devRef .tc main_arg1) (ValueIdx.ix2 k ⟨20480 * t.val + j.val, h⟩) := by
  obtain ⟨h0, h1, -, -⟩ := inside1 t
  obtain ⟨-, -, i0, i1, -, -⟩ := index1 t
  have hm : (cfg1.win 1).moved (grid1.coords t) (ValueIdx.ix2 k j) = true := by
    refine ((cfg1.win 1).moved_iff _ _).mpr fun a => ?_
    match a with
    | ⟨0, _⟩ => exact lt_of_lt_of_eq k.2 h0.symm
    | ⟨1, _⟩ => exact lt_of_lt_of_eq (lt_min j.2 (show j.val < _ by omega)) h1.symm
  unfold RDat.fetched Window.fill
  rw [dif_pos hm]
  refine congrArg (V c (Proc.devRef .tc main_arg1)) ((ValueIdx.eq_ix2 _).trans (congrArg₂ ValueIdx.ix2 (Fin.ext ?_) (Fin.ext ?_)))
  · exact ((cfg1.win 1).rect_emb_val t _ 0).trans (by rw [i0, Nat.zero_mul, Nat.zero_add]; rfl)
  · exact ((cfg1.win 1).rect_emb_val t _ 1).trans (by rw [i1, Nat.mul_comm]; rfl)

theorem fetched_b (V : Dev nD → Valuation τ sig (Elt F)) (c : Dev nD) (t : Fin cfg1.N) (d) (j : Fin 20480)
    (h : 20480 * t.val + j.val < 100000) :
    (arr1 V c).fetched 2 t d (ValueIdx.ix2 0 j) = V c (Proc.devRef .tc main_v0) (ValueIdx.ix2 0 ⟨20480 * t.val + j.val, h⟩) := by
  obtain ⟨-, -, h0, h1⟩ := inside1 t
  obtain ⟨-, -, -, -, i0, i1⟩ := index1 t
  have hm : (cfg1.win 2).moved (grid1.coords t) (ValueIdx.ix2 0 j) = true := by
    refine ((cfg1.win 2).moved_iff _ _).mpr fun a => ?_
    match a with
    | ⟨0, _⟩ => exact lt_of_lt_of_eq Nat.one_pos h0.symm
    | ⟨1, _⟩ => exact lt_of_lt_of_eq (lt_min j.2 (show j.val < _ by omega)) h1.symm
  unfold RDat.fetched Window.fill
  rw [dif_pos hm]
  refine congrArg (V c (Proc.devRef .tc main_v0)) ((ValueIdx.eq_ix2 _).trans (congrArg₂ ValueIdx.ix2 (Fin.ext ?_) (Fin.ext ?_)))
  · exact ((cfg1.win 2).rect_emb_val t _ 0).trans (by rw [i0, Nat.zero_mul, Nat.zero_add]; rfl)
  · exact ((cfg1.win 2).rect_emb_val t _ 1).trans (by rw [i1, Nat.mul_comm]; rfl)

end Cert.KernelIdeal.Own

end
-- ==== Proof.RowRed.lean ====
/-
  The reductions of a row: the maximum and the least word, kept as a column.
-/
module

public import proofs.«01_k».proof.Proof.First
public import Idealize.ShloMosaic.Lib.ValueIdx
public import Idealize.ShloMosaic.Lib.Pipeline.Value
public import Idealize.ShloMosaic.Lib.Pointwise.Reduce
public import Idealize.ShloMosaic.PureOps.Ideal.Laws

@[expose] public section

noncomputable section

namespace Cert.First

open Idealize.ShloMosaic

abbrev Rows : Shape := ⟨1, ![128]⟩
abbrev Column : Shape := ⟨2, ![128, 1]⟩

/-- A vector kept as a column, at a row. -/
theorem column_at {α : Type} (x : Rows.Idx → α) (h : Rows.ShapeCasts Column) (r : Fin 128) :
    shapeCast Column x h (ValueIdx.ix2 r 0) = x (ValueIdx.ix1 r) :=
  shapeCast_apply x h (ValueIdx.ix2 r 0) (ValueIdx.ix1 r) (by
    rw [Shape.rowMajor_val_two, Shape.rowMajor_val_one]
    exact (Nat.mul_one _).symm)

/-- A column spread over a row's elements. -/
theorem spread_column {α : Type} {n : ℕ} (x : Column.Idx → α) (h : Column.Broadcasts ⟨2, ![128, n]⟩) (r : Fin 128) (j : Fin n) :
    broadcastTo ⟨2, ![128, n]⟩ x h (ValueIdx.ix2 r j) = x (ValueIdx.ix2 r 0) := by
  refine broadcastTo_apply x h (ValueIdx.ix2 r j) (ValueIdx.ix2 r 0) fun a => ?_
  match a with
  | ⟨0, _⟩ => rfl
  | ⟨1, _⟩ => rfl

theorem ofBits_neg_inf : Ideal.ofBits .f32 0xFF800000#32 = ⊥ := by simp [Ideal.ofBits, Ideal.ieee]

/-- The largest of a row. -/
theorem rowMax_at {n : ℕ} (x : FVec Ideal ⟨2, ![128, n]⟩ .f32) (h : (⟨2, ![128, n]⟩ : Shape).Reduces [1] Rows) (hφ : FKind.Formats .f32)
    (hacc : 0xFF800000#32 = FKind.maximumf.neutral .f32 hφ) (hc : Rows.ShapeCasts Column) (r : Fin 128) :
    shapeCast Column (multiReduction .maximumf [1] Rows x 0xFF800000#32 h hφ hacc) hc (ValueIdx.ix2 r 0)
      = (Finset.univ : Finset (Fin n)).fold max ⊥ fun k => x (ValueIdx.ix2 r k) := by
  rw [column_at, multiReduction_maximumf_eq_fold, Shape.Reduces.fold_fiber_r2_a1]
  show Finset.fold max (Ideal.ofBits .f32 0xFF800000#32) _ _ = _
  rw [ofBits_neg_inf]
  rfl

/-- The least word of a row. -/
theorem rowMin_at {n : ℕ} (x : IVec ⟨2, ![128, n]⟩ 32) (h : (⟨2, ![128, n]⟩ : Shape).Reduces [1] Rows)
    (hacc : 2147483647#32 = IKind.minsi.neutral) (hc : Rows.ShapeCasts Column) (r : Fin 128) :
    shapeCast Column (multiReductionI .minsi [1] Rows x 2147483647#32 h hacc) hc (ValueIdx.ix2 r 0)
      = (Finset.univ : Finset (Fin n)).fold IKind.minsi.op 2147483647#32 fun k => x (ValueIdx.ix2 r k) := by
  rw [column_at, multiReductionI_eq_fold, Shape.Reduces.fold_fiber_r2_a1]
  rfl

end Cert.First

end
-- ==== Proof.DenseValue.lean ====
/-
  The dense call's result: the first column of the largest score, row by row.
-/
module

public import proofs.«01_k».proof.Proof.DenseRead
public import proofs.«01_k».proof.Proof.RowRed
public import Idealize.ShloMosaic.Lib.MatmulPlain

@[expose] public section

set_option maxRecDepth 8000
set_option maxHeartbeats 1000000

noncomputable section

namespace Cert.KernelIdeal.Own

open Cert.KernelIdeal Cert.KernelIdeal.Gen Cert.Noise Cert.First

open Idealize.ShloMosaic
open Idealize.ShloMosaic.Pipeline (Cfg Window RDat)

/-- A tile's largest score of row `r`. -/
def tileMax (l : Fin 100000 → EReal) (r t : ℕ) : EReal := (Finset.univ : Finset (Fin 20480)).fold max ⊥ fun j => scores l r (20480 * t + j.val)

/-- The least column of a tile that attains it. -/
def tileIdx (l : Fin 100000 → EReal) (r t : ℕ) : BitVec 32 := (Finset.univ : Finset (Fin 20480)).fold IKind.minsi.op 2147483647#32 fun j =>
  if scores l r (20480 * t + j.val) = tileMax l r t then BitVec.ofNat 32 (20480 * t + j.val) else 2147483647#32

theorem column_word (t : Fin grid1.N) (r : Fin 128) (j : Fin 20480) :
    k1_pay8 (grid1.coords t) (ValueIdx.ix2 r j) = BitVec.ofNat 32 (20480 * t.val + j.val) := by
  have e : ∀ t : Fin grid1.N, (BitVec.ofNat 32 (grid1.coords t 0).val) = BitVec.ofNat 32 t.val := by decide
  unfold k1_pay8
  show BitVec.ofNat 32 (grid1.coords t 0).val * 20480#32 + iota .tc S128x20480 32 [1] iota_S128x20480_d1_w32 (ValueIdx.ix2 r j) = _
  rw [iota_single_apply, e t, BitVec.ofNat_add, Nat.mul_comm, BitVec.ofNat_mul]

theorem number_word (t : Fin grid1.N) (r : Fin 128) (j : Fin 20480) :
    k1_pay9 (grid1.coords t) (ValueIdx.ix2 r j) = BitVec.ofNat 32 (r.val * 100000 + (20480 * t.val + j.val)) + 42#32 := by
  unfold k1_pay9
  show (iota .tc S128x20480 32 [0] iota_S128x20480_d0_w32 (ValueIdx.ix2 r j) * 100000#32 + k1_pay8 (grid1.coords t) (ValueIdx.ix2 r j)) + 42#32 = _
  rw [column_word, iota_single_apply, BitVec.ofNat_add (r.val * 100000), BitVec.ofNat_mul]

variable (V : Dev nD → Valuation τ sig (Elt Ideal)) (c : Dev nD)

/-- The launch's logits of a row: the bias is held as one row. -/
def rowLogit (r : Fin 128) (j : Fin 100000) : EReal :=
  logit (V c (Proc.devRef .tc main_arg0)) (V c (Proc.devRef .tc main_arg1))
    (fun e => (V c (Proc.devRef .tc main_v0) : S1x100000.Idx → EReal) (ValueIdx.ix2 0 (e 0))) r j

/-- A block's logits, inside the array. -/
theorem block_logit (x : FVec Ideal S128x64 .f32) (w : FVec Ideal S64x20480 .f32) (b : FVec Ideal S1x20480 .f32) (r : Fin 128) (j : Fin 20480) :
    k1_pay7 x w b (ValueIdx.ix2 r j) = (∑ k : Fin 64, x (ValueIdx.ix2 r k) * w (ValueIdx.ix2 k j)) + b (ValueIdx.ix2 0 j) := by
  unfold k1_pay7
  rw [ValueIdx.addf_apply]
  refine congrArg₂ (· + ·) ?_ ?_
  · refine (Ideal.matmul_plain_apply none x w (constant S128x20480 .f32 0x00000000#32) r j).trans ?_
    rw [show (constant (F := Ideal) S128x20480 .f32 0x00000000#32) (ValueIdx.ix2 r j) = 0 from Ideal.ofBits_zero_f32, zero_add]
  · rw [shapeCast_self]
    refine broadcastTo_apply b _ (ValueIdx.ix2 r j) (ValueIdx.ix2 0 j) fun a => ?_
    match a with
    | ⟨0, _⟩ => rfl
    | ⟨1, _⟩ => rfl

theorem block_scores (t : Fin cfg1.N) {x : Vec Ideal S128x64 .f32} {w : Vec Ideal S64x20480 .f32} {b : Vec Ideal S1x20480 .f32}
    (hx : ∃ d, x = (arr1 V c).fetched 0 t d) (hw : ∃ d, w = (arr1 V c).fetched 1 t d) (hb : ∃ d, b = (arr1 V c).fetched 2 t d)
    (r : Fin 128) (j : Fin 20480) :
    dScore (grid1.coords t) x w b (ValueIdx.ix2 r j) = scores (rowLogit V c r) r (20480 * t.val + j.val) := by
  have ht : t.val < 5 := t.2
  have hj := j.2
  rw [dScore_apply _ _ _ _ _ _ (number_word t r j), column_word, WordCmp.cmpi_slt_ofNat (by omega) (by decide)]
  by_cases h : 20480 * t.val + j.val < 100000
  · rw [scores_of_lt h, decide_eq_true h]
    show gumbel _ + _ = noise _ _ + _
    refine congrArg (gumbel _ + ·) ?_
    obtain ⟨dx, rfl⟩ := hx
    obtain ⟨dw, rfl⟩ := hw
    obtain ⟨db, rfl⟩ := hb
    rw [block_logit]
    refine congrArg₂ (· + ·) (Finset.sum_congr rfl fun k _ => congrArg₂ (· * ·) (fetched_x V c t dx r k) (fetched_w V c t dw k j h)) ?_
    exact fetched_b V c t db j h
  · rw [decide_eq_false h, scores, dif_neg h]
    exact ofBits_neg_inf

theorem block_max (t : Fin cfg1.N) {x : Vec Ideal S128x64 .f32} {w : Vec Ideal S64x20480 .f32} {b : Vec Ideal S1x20480 .f32}
    (hx : ∃ d, x = (arr1 V c).fetched 0 t d) (hw : ∃ d, w = (arr1 V c).fetched 1 t d) (hb : ∃ d, b = (arr1 V c).fetched 2 t d) (r : Fin 128) :
    dMax (grid1.coords t) x w b (ValueIdx.ix2 r 0) = tileMax (rowLogit V c r) r t.val := by
  refine (rowMax_at (dScore (grid1.coords t) x w b) reduces_S128x20480_S128 (.inl rfl) rfl shapeCasts_S128_S128x1 r).trans ?_
  exact congrArg (fun g => Finset.fold max ⊥ g Finset.univ) (funext fun j => block_scores V c t hx hw hb r j)

theorem block_idx (t : Fin cfg1.N) {x : Vec Ideal S128x64 .f32} {w : Vec Ideal S64x20480 .f32} {b : Vec Ideal S1x20480 .f32}
    (hx : ∃ d, x = (arr1 V c).fetched 0 t d) (hw : ∃ d, w = (arr1 V c).fetched 1 t d) (hb : ∃ d, b = (arr1 V c).fetched 2 t d) (r : Fin 128) :
    k1_pay1 (dIdx (grid1.coords t) x w b) (ValueIdx.ix2 r 0) = tileIdx (rowLogit V c r) r t.val := by
  refine (rowMin_at (dIdx (grid1.coords t) x w b) reduces_S128x20480_S128 rfl shapeCasts_S128_S128x1 r).trans ?_
  refine congrArg (fun g => Finset.fold IKind.minsi.op 2147483647#32 g Finset.univ) (funext fun j => ?_)
  show Scalar.select (Ideal.cmp .oeq (dScore (grid1.coords t) x w b (ValueIdx.ix2 r j))
    (broadcastTo S128x20480 (dMax (grid1.coords t) x w b) broadcasts_S128x1_S128x20480 (ValueIdx.ix2 r j)))
    (k1_pay8 (grid1.coords t) (ValueIdx.ix2 r j)) 2147483647#32 = _
  rw [spread_column, block_max V c t hx hw hb, block_scores V c t hx hw hb, column_word]
  by_cases h : scores (rowLogit V c r) r (20480 * t.val + j.val) = tileMax (rowLogit V c r) r t.val
  · rw [if_pos h, Ideal.cmp, decide_eq_true h]; rfl
  · rw [if_neg h, Ideal.cmp, decide_eq_false h]; rfl

theorem pay2_eq (v : FVec Ideal S128x1 .f32) : k1_pay2 v = v := shapeCast_self _ _
theorem pay3_eq (v : IVec S128x20480 32) : k1_pay3 v = k1_pay1 v := shapeCast_self _ _
theorem pay5_at (v s : FVec Ideal S128x1 .f32) (e) : k1_pay5 v s s e = Scalar.select (Ideal.cmp .ogt (v e) (s e)) (v e) (s e) :=
  congrFun (shapeCast_self (select (k1_pay4 v s) v s) _) e
theorem pay6_at (v s : FVec Ideal S128x1 .f32) (u : IVec S128x20480 32) (n : IVec S128x1 32) (e) :
    k1_pay6 v u s n e = Scalar.select (Ideal.cmp .ogt (v e) (s e)) (k1_pay1 u e) (n e) :=
  congrFun (shapeCast_self (select (k1_pay4 v s) (k1_pay1 u) n) _) e

/-- The scratch holds the best of the tiles seen. -/
theorem reach1_best : ∀ (k : ℕ), k < 5 → ∀ s n, Reach1 V c (k + 1) s n → ∀ r : Fin 128,
    Best (k + 1) (tileMax (rowLogit V c r) r) (tileIdx (rowLogit V c r) r) (s (ValueIdx.ix2 r 0)) (n (ValueIdx.ix2 r 0)) := by
  intro k
  induction k with
  | zero =>
    rintro - s n ⟨h, s0, n0, -, x, w, b, hx, hw, hb, h0, -⟩ r
    obtain ⟨rfl, rfl⟩ := h0 rfl
    have e1 : k1_pay2 (dMax (grid1.coords ⟨0, h⟩) x w b) (ValueIdx.ix2 r 0) = tileMax (rowLogit V c r) r 0 :=
      (congrFun (pay2_eq _) _).trans (block_max V c ⟨0, h⟩ hx hw hb r)
    have e2 : k1_pay3 (dIdx (grid1.coords ⟨0, h⟩) x w b) (ValueIdx.ix2 r 0) = tileIdx (rowLogit V c r) r 0 :=
      (congrFun (pay3_eq _) _).trans (block_idx V c ⟨0, h⟩ hx hw hb r)
    rw [e1, e2]
    exact best_first _ _
  | succ k ih =>
    rintro hk s n ⟨h, s0, n0, hr, x, w, b, hx, hw, hb, -, h1⟩ r
    obtain ⟨rfl, rfl⟩ := h1 (Nat.succ_ne_zero k)
    have hB := ih (by omega) s0 n0 hr r
    have e1 : k1_pay5 (dMax (grid1.coords ⟨k + 1, h⟩) x w b) s0 s0 (ValueIdx.ix2 r 0)
        = Scalar.select (Ideal.cmp .ogt (tileMax (rowLogit V c r) r (k + 1)) (s0 (ValueIdx.ix2 r 0))) (tileMax (rowLogit V c r) r (k + 1)) (s0 (ValueIdx.ix2 r 0)) := by
      rw [pay5_at, block_max V c ⟨k + 1, h⟩ hx hw hb r]
    have e2 : k1_pay6 (dMax (grid1.coords ⟨k + 1, h⟩) x w b) (dIdx (grid1.coords ⟨k + 1, h⟩) x w b) s0 n0 (ValueIdx.ix2 r 0)
        = Scalar.select (Ideal.cmp .ogt (tileMax (rowLogit V c r) r (k + 1)) (s0 (ValueIdx.ix2 r 0))) (tileIdx (rowLogit V c r) r (k + 1)) (n0 (ValueIdx.ix2 r 0)) := by
      rw [pay6_at, block_max V c ⟨k + 1, h⟩ hx hw hb r, block_idx V c ⟨k + 1, h⟩ hx hw hb r]
    rw [e1, e2]
    by_cases hc : s0 (ValueIdx.ix2 r 0) < tileMax (rowLogit V c r) r (k + 1)
    · rw [Ideal.cmp, decide_eq_true hc]; exact best_new hB hc
    · rw [Ideal.cmp, decide_eq_false hc]; exact best_keep hB hc

theorem toInt_ofNat_small {a : ℕ} (h : a < 2 ^ 31) : (BitVec.ofNat 32 a).toInt = a := by
  rw [BitVec.toInt_ofNat', Int.bmod_eq_of_le] <;> omega

/-- A tile's largest score and its first column. -/
theorem tile_first (l : Fin 100000 → EReal) (r t : ℕ) (ht : t < 5) : ∃ p, p / 20480 = t ∧ p < 100000 ∧ tileIdx l r t = BitVec.ofNat 32 p
    ∧ scores l r p = tileMax l r t ∧ ∀ j, j / 20480 = t → j < p → scores l r j < tileMax l r t := by
  obtain ⟨hle, j0, hj0⟩ := fold_max_spec fun j : Fin 20480 => scores l r (20480 * t + j.val)
  -- the least column at which the maximum stands
  have hex : ∃ q, q < 20480 ∧ scores l r (20480 * t + q) = tileMax l r t := ⟨j0, j0.2, hj0⟩
  classical
  obtain ⟨hq, he⟩ := Nat.find_spec hex
  have hmin := fun m => Nat.find_min (H := hex) (m := m)
  generalize Nat.find hex = q at hq he hmin
  have hlt : 20480 * t + q < 100000 := by
    by_contra hn
    have hb : scores l r (20480 * t + q) = ⊥ := dif_neg hn
    have h0 : scores l r (20480 * t + 0) = tileMax l r t :=
      le_antisymm (hle ⟨0, by decide⟩) (by rw [← he, hb]; exact bot_le)
    exact hmin 0 (by omega) ⟨by decide, h0⟩
  refine ⟨20480 * t + q, by omega, hlt, ?_, he, fun j hj hjp => ?_⟩
  · refine fold_minsi_spec (fun j : Fin 20480 => scores l r (20480 * t + j.val) = tileMax l r t) _
      (fun j => BitVec.ofNat 32 (20480 * t + j.val)) (fun j => ⟨fun h => if_pos h, fun h => if_neg h⟩) ⟨q, hq⟩ he fun j hj => ?_
    rw [toInt_ofNat_small (by show 20480 * t + q < _; omega), toInt_ofNat_small (by have := j.2; omega)]
    have : ¬ j.val < q := fun h => hmin j h ⟨j.2, hj⟩
    show ((20480 * t + q : ℕ) : ℤ) ≤ ((20480 * t + j.val : ℕ) : ℤ)
    omega
  · have hj' : j = 20480 * t + j % 20480 := by omega
    have h20 : j % 20480 < 20480 := Nat.mod_lt _ (by decide)
    rw [hj']
    refine lt_of_le_of_ne (hle ⟨j % 20480, h20⟩) fun e => hmin (j % 20480) (by omega) ⟨h20, e⟩

/-- What the dense call leaves, row by row. -/
theorem reach1_first {s n} (h : Reach1 V c 5 s n) (r : Fin 128) :
    ∃ p, IsFirst 100000 (scores (rowLogit V c r) r) p ∧ n (ValueIdx.ix2 r 0) = BitVec.ofNat 32 p := by
  refine merge _ (fun _ => False) _ _ _ _ (reach1_best V c 4 (by decide) s n h r) (fun _ h => h.elim) (fun t ht j hj e => .inl ?_) fun t ht _ => ?_
  · have hle := (fold_max_spec fun j : Fin 20480 => scores (rowLogit V c r) r (20480 * t + j.val)).1 ⟨j % 20480, Nat.mod_lt _ (by decide)⟩
    have : 20480 * t + j % 20480 = j := by omega
    simp only [this] at hle
    exact hle
  · obtain ⟨p, h1, h2, h3, h4, h5⟩ := tile_first (rowLogit V c r) r t ht
    exact ⟨p, h1, h2, h3, h4, fun j hj hp => .inl (h5 j hj hp)⟩

end Cert.KernelIdeal.Own

end
-- ==== Proof.FastScore.lean ====
/-
  The fast call's tile values read at an element: the marked logits, the slots' scores, their largest and its column, and
  the tile's largest logit.
-/
module

public import proofs.«01_k».proof.Proof.FastRead
public import proofs.«01_k».proof.Proof.DenseValue
public import proofs.«01_k».proof.Proof.Tables
public import proofs.«01_k».proof.Proof.RowRed

@[expose] public section

set_option maxRecDepth 8000
set_option maxHeartbeats 1000000

noncomputable section

namespace Cert.KernelIdeal.Own

open Cert.KernelIdeal Cert.KernelIdeal.Gen Cert.Noise Cert.First

open Idealize.ShloMosaic
open Idealize.ShloMosaic.Pipeline (Cfg Window RDat)

/-- One plane of the mask's bits. -/
def plane (u : IVec S128x640 32) (n : Fin 32) : IVec S128x640 32 :=
  andi (shrui u (broadcast S128x640 (BitVec.ofNat 32 n.val))) (broadcast S128x640 1#32)

/-- The marked logits: the planes side by side choose between the logit and zero. -/
theorem fZ_eq (x : FVec Ideal S128x64 .f32) (w : FVec Ideal S64x20480 .f32) (b : FVec Ideal S1x20480 .f32) (m : IVec S1x128x640 32)
    (h : Shape.Concatenates ((List.ofFn fun n : Fin 32 => (⟨S128x640, plane (k0_pay13 (F := Ideal) m) n⟩ : Σ s : Shape, s.Idx → BitVec 32)).map (·.1)) S128x20480 1) :
    fZ x w b m = select (cmpi .ne (concatenate S128x20480 1 (List.ofFn fun n : Fin 32 => ⟨S128x640, plane (k0_pay13 (F := Ideal) m) n⟩) h)
      (broadcast S128x20480 0#32)) (k0_pay11 (F := Ideal) x w b) (broadcast S128x20480 (Ideal.ofBits .f32 0x00000000#32)) := by
  rfl

/-- A plane's element. -/
theorem plane_at (u : IVec S128x640 32) (n : Fin 32) (r : Fin 128) (k : Fin 640) :
    plane u n (ValueIdx.ix2 r k) = (u (ValueIdx.ix2 r k) >>> BitVec.ofNat 32 n.val) &&& 1#32 := by
  have hlt : (BitVec.ofNat 32 n.val).toNat < 32 := by
    have := n.2
    rw [BitVec.toNat_ofNat]; omega
  show IntOp.andi (IntOp.shrui .vector (u (ValueIdx.ix2 r k)) (BitVec.ofNat 32 n.val)) 1#32 = _
  rw [IntOp.shrui, if_pos hlt]
  rfl

/-- A block with one leading tile, read without it. -/
theorem drop_tile {α : Type} {n : ℕ} (x : (⟨3, ![1, 128, n]⟩ : Shape).Idx → α) (h : (⟨3, ![1, 128, n]⟩ : Shape).ShapeCasts ⟨2, ![128, n]⟩) (r : Fin 128) (k : Fin n) :
    shapeCast ⟨2, ![128, n]⟩ x h (ValueIdx.ix2 r k) = x (ValueIdx.ix3 0 r k) := by
  refine shapeCast_apply x h (ValueIdx.ix2 r k) (ValueIdx.ix3 0 r k) ?_
  rw [Shape.rowMajor_val_three, Shape.rowMajor_val_two]
  show (0 * 128 + r.val) * n + k.val = r.val * n + k.val
  rw [Nat.zero_mul, Nat.zero_add]

open Classical in
/-- The marked logits at an element. -/
theorem fZ_at (x : FVec Ideal S128x64 .f32) (w : FVec Ideal S64x20480 .f32) (b : FVec Ideal S1x20480 .f32) (m : IVec S1x128x640 32)
    (r : Fin 128) (j : Fin 20480) : fZ x w b m (ValueIdx.ix2 r j)
      = if Bit (fun k => m (ValueIdx.ix3 0 r k)) j then k0_pay11 (F := Ideal) x w b (ValueIdx.ix2 r j) else 0 := by
  have h : Shape.Concatenates ((List.ofFn fun n : Fin 32 => (⟨S128x640, plane (k0_pay13 (F := Ideal) m) n⟩ : Σ s : Shape, s.Idx → BitVec 32)).map (·.1)) S128x20480 1 :=
    concatenates_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x640_S128x20480_d1
  rw [fZ_eq x w b m h]
  show Scalar.select (IntOp.cmpi .ne (concatenate S128x20480 1 (List.ofFn fun n : Fin 32 => ⟨S128x640, plane (k0_pay13 (F := Ideal) m) n⟩) h (ValueIdx.ix2 r j)) 0#32)
    (k0_pay11 (F := Ideal) x w b (ValueIdx.ix2 r j)) (Ideal.ofBits .f32 0x00000000#32) = _
  have hj := j.2
  rw [concatenate_ofFn_apply (t := S128x20480) 1 (fun n => plane (k0_pay13 (F := Ideal) m) n) h rfl 640 rfl (ValueIdx.ix2 r j) ⟨j.val / 640, by omega⟩ rfl
    (ValueIdx.ix2 r ⟨j.val % 640, Nat.mod_lt _ (by decide)⟩) rfl (fun b hb => match b, hb with
      | ⟨0, _⟩, _ => rfl
      | ⟨1, _⟩, hb => absurd rfl hb), plane_at, Ideal.ofBits_zero_f32]
  have e : ∀ k : Fin 640, k0_pay13 (F := Ideal) m (ValueIdx.ix2 r k) = m (ValueIdx.ix3 0 r k) := fun k => drop_tile m _ r k
  rw [e]
  by_cases hb : Bit (fun k => m (ValueIdx.ix3 0 r k)) j
  · rw [if_pos hb, IntOp.cmpi_ne.mpr hb]; rfl
  · rw [if_neg hb]
    exact if_neg fun h' => hb (IntOp.cmpi_ne.mp h')

/-- The word of a condition as a value. -/
theorem onehot_at (a b : BitVec 32) : (FloatOps.sitofp (F := Ideal) .f32 ((IntOp.cmpi .eq a b).setWidth 32) : EReal) = if a = b then 1 else 0 := by
  by_cases h : a = b
  · rw [if_pos h, IntOp.cmpi_eq.mpr h]
    show (((1#1).setWidth 32).toInt : ℝ) = (1 : EReal)
    norm_num
  · rw [if_neg h]
    have h0 : IntOp.cmpi .eq a b = 0#1 := by
      rcases (by decide : ∀ u : BitVec 1, u = 0#1 ∨ u = 1#1) (IntOp.cmpi .eq a b) with e | e
      · exact e
      · exact absurd (IntOp.cmpi_eq.mp e) h
    rw [h0]
    show (((0#1).setWidth 32).toInt : ℝ) = (0 : EReal)
    norm_num

/-- A slot's score at an element. -/
theorem pay1_at (z : FVec Ideal S128x20480 .f32) (row slot : IVec S128x20480 32) (g : FVec Ideal S1x128x128 .f32) (r s : Fin 128) :
    k0_pay1 z row slot g (ValueIdx.ix2 r s)
      = (∑ j : Fin 20480, z (ValueIdx.ix2 r j) * (if row (ValueIdx.ix2 s j) = slot (ValueIdx.ix2 s j) then 1 else 0)) + g (ValueIdx.ix3 0 r s) := by
  unfold k0_pay1
  rw [ValueIdx.addf_apply]
  refine congrArg₂ (· + ·) ?_ (drop_tile g _ r s)
  refine (Ideal.matmul_transposedRhs_apply none z _ (constant S128x128 .f32 0x00000000#32) r s).trans ?_
  rw [show (constant (F := Ideal) S128x128 .f32 0x00000000#32) (ValueIdx.ix2 r s) = 0 from Ideal.ofBits_zero_f32, zero_add]
  exact Finset.sum_congr rfl fun j _ => congrArg (z (ValueIdx.ix2 r j) * ·) (onehot_at _ _)

/-- The slots' columns, spread over the rows. -/
theorem slot_at (sl : IVec S1x1x20480 32) (s : Fin 128) (j : Fin 20480) : k0_pay42 (F := Ideal) sl (ValueIdx.ix2 s j) = sl (ValueIdx.ix3 0 0 j) := by
  unfold k0_pay42
  refine (broadcastTo_apply (shapeCast S1x20480 sl shapeCasts_S1x1x20480_S1x20480) _ (ValueIdx.ix2 s j) (ValueIdx.ix2 0 j) fun a => match a with | ⟨0, _⟩ => rfl | ⟨1, _⟩ => rfl).trans ?_
  refine shapeCast_apply sl _ (ValueIdx.ix2 0 j) (ValueIdx.ix3 0 0 j) ?_
  rw [Shape.rowMajor_val_three, Shape.rowMajor_val_two]
  show (0 * 1 + 0) * 20480 + j.val = 0 * 20480 + j.val
  rfl

theorem row_at (s : Fin 128) (j : Fin 20480) : fRow (ValueIdx.ix2 s j) = BitVec.ofNat 32 s.val := by
  unfold fRow
  rw [iota_single_apply]

end Cert.KernelIdeal.Own

end
-- ==== Proof.FastValue.lean ====
/-
  What the fast call leaves, row by row: the best slot of the tiles with its column, and the largest logit.
-/
module

public import proofs.«01_k».proof.Proof.FastScore

@[expose] public section

set_option maxRecDepth 8000
set_option maxHeartbeats 1000000

noncomputable section

namespace Cert.KernelIdeal.Own

open Cert.KernelIdeal Cert.KernelIdeal.Gen Cert.Noise Cert.First

open Idealize.ShloMosaic
open Idealize.ShloMosaic.Pipeline (Cfg Window RDat)

variable (V : Dev nD → Valuation τ sig (Elt Ideal)) (c : Dev nD)

/-- The tables as the launch holds them. -/
abbrev tMask : (⟨3, ![5, 128, 640]⟩ : Shape).Idx → BitVec 32 := V c (Proc.devRef .tc main_arg3)
abbrev tSlot : (⟨3, ![5, 1, 20480]⟩ : Shape).Idx → BitVec 32 := V c (Proc.devRef .tc main_arg4)
abbrev tNoise : (⟨3, ![5, 128, 128]⟩ : Shape).Idx → EReal := V c (Proc.devRef .tc main_arg5)
abbrev tIdx : (⟨3, ![5, 128, 128]⟩ : Shape).Idx → BitVec 32 := V c (Proc.devRef .tc main_arg6)
abbrev tBound : (⟨2, ![128, 1]⟩ : Shape).Idx → EReal := V c (Proc.devRef .tc main_arg7)

section Block

variable (ok : TablesOk (tMask V c) (tSlot V c) (tNoise V c) (tIdx V c) (tBound V c))
variable (t : Fin 5) {x : Vec Ideal S128x64 .f32} {w : Vec Ideal S64x20480 .f32} {b : Vec Ideal S1x20480 .f32}
  {m : Vec Ideal S1x128x640 .i32} {sl : Vec Ideal S1x1x20480 .i32} {g : Vec Ideal S1x128x128 .f32} {ix : Vec Ideal S1x128x128 .i32}

/-- A block's logits are the launch's. -/
theorem logit_at (hx : ∃ d, x = (arr0 V c).fetched 0 t d) (hw : ∃ d, w = (arr0 V c).fetched 1 t d) (hb : ∃ d, b = (arr0 V c).fetched 2 t d)
    (r : Fin 128) (j : Fin 20480) (h : 20480 * t.val + j.val < 100000) :
    k0_pay11 (F := Ideal) x w b (ValueIdx.ix2 r j) = rowLogit V c r ⟨20480 * t.val + j.val, h⟩ := by
  obtain ⟨dx, rfl⟩ := hx
  obtain ⟨dw, rfl⟩ := hw
  obtain ⟨db, rfl⟩ := hb
  refine (block_logit _ _ _ r j).trans ?_
  exact congrArg₂ (· + ·) (Finset.sum_congr rfl fun k _ => congrArg₂ (· * ·) (fetched0_x V c t dx r k) (fetched0_w V c t dw k j h)) (fetched0_b V c t db j h)

include ok in
theorem kept_at (hx : ∃ d, x = (arr0 V c).fetched 0 t d) (hw : ∃ d, w = (arr0 V c).fetched 1 t d) (hb : ∃ d, b = (arr0 V c).fetched 2 t d)
    (hm : ∃ d, m = (arr0 V c).fetched 3 t d) (r : Fin 128) (j : Fin 20480) :
    fZ x w b m (ValueIdx.ix2 r j) = kept (tMask V c) (rowLogit V c r) r t j := by
  obtain ⟨dm, rfl⟩ := hm
  rw [fZ_at, kept]
  have e : (fun k => (arr0 V c).fetched 3 t dm (ValueIdx.ix3 0 r k)) = fun k => tMask V c (ValueIdx.ix3 t r k) :=
    funext fun k => fetched0_m V c t dm r k
  rw [e]
  by_cases h : Bit (fun k => tMask V c (ValueIdx.ix3 t r k)) j
  · rw [if_pos h, if_pos h, dif_pos (ok.slot t r j h).1]
    exact logit_at V c t hx hw hb r j _
  · rw [if_neg h, if_neg h]

include ok in
theorem slotScore_at (hx : ∃ d, x = (arr0 V c).fetched 0 t d) (hw : ∃ d, w = (arr0 V c).fetched 1 t d) (hb : ∃ d, b = (arr0 V c).fetched 2 t d)
    (hm : ∃ d, m = (arr0 V c).fetched 3 t d) (hsl : ∃ d, sl = (arr0 V c).fetched 4 t d) (hg : ∃ d, g = (arr0 V c).fetched 5 t d) (r s : Fin 128) :
    k0_pay1 (fZ x w b m) fRow (k0_pay42 (F := Ideal) sl) g (ValueIdx.ix2 r s) = slotScore (tMask V c) (tSlot V c) (tNoise V c) (rowLogit V c r) r t s := by
  obtain ⟨dg, rfl⟩ := hg
  obtain ⟨ds, rfl⟩ := hsl
  rw [pay1_at, slotScore]
  refine congrArg₂ (· + ·) (Finset.sum_congr rfl fun j _ => ?_) (fetched0_g V c t dg r s)
  rw [kept_at V c ok t hx hw hb hm, row_at, slot_at, fetched0_sl V c t ds j]

include ok in
theorem slotMax_at (hx : ∃ d, x = (arr0 V c).fetched 0 t d) (hw : ∃ d, w = (arr0 V c).fetched 1 t d) (hb : ∃ d, b = (arr0 V c).fetched 2 t d)
    (hm : ∃ d, m = (arr0 V c).fetched 3 t d) (hsl : ∃ d, sl = (arr0 V c).fetched 4 t d) (hg : ∃ d, g = (arr0 V c).fetched 5 t d) (r : Fin 128) :
    k0_pay2 (fZ x w b m) fRow (k0_pay42 (F := Ideal) sl) g (ValueIdx.ix2 r 0) = slotMax (tMask V c) (tSlot V c) (tNoise V c) (rowLogit V c r) r t := by
  refine (rowMax_at (k0_pay1 (fZ x w b m) fRow (k0_pay42 (F := Ideal) sl) g) reduces_S128x128_S128 (.inl rfl) rfl shapeCasts_S128_S128x1 r).trans ?_
  exact congrArg (fun g => Finset.fold max ⊥ g Finset.univ) (funext fun s => slotScore_at V c ok t hx hw hb hm hsl hg r s)

/-- The least index among the slots at a value. -/
theorem pick_at (p : FVec Ideal S128x128 .f32) (q : FVec Ideal S128x1 .f32) (ix : IVec S1x128x128 32) (r : Fin 128) :
    shapeCast S128x1 (multiReductionI .minsi [1] S128 (select (cmpf .oeq p (broadcastTo S128x128 q broadcasts_S128x1_S128x128))
      (shapeCast S128x128 ix shapeCasts_S1x128x128_S128x128) (broadcast S128x128 2147483647#32)) 2147483647#32 reduces_S128x128_S128 rfl)
      shapeCasts_S128_S128x1 (ValueIdx.ix2 r 0) = (Finset.univ : Finset (Fin 128)).fold IKind.minsi.op 2147483647#32 fun s =>
      Scalar.select (Ideal.cmp .oeq (p (ValueIdx.ix2 r s)) (q (ValueIdx.ix2 r 0))) (ix (ValueIdx.ix3 0 r s)) 2147483647#32 := by
  refine (rowMin_at _ reduces_S128x128_S128 rfl shapeCasts_S128_S128x1 r).trans ?_
  refine congrArg (fun g => Finset.fold IKind.minsi.op 2147483647#32 g Finset.univ) (funext fun s => ?_)
  show Scalar.select (Ideal.cmp .oeq (p (ValueIdx.ix2 r s)) (broadcastTo S128x128 q broadcasts_S128x1_S128x128 (ValueIdx.ix2 r s)))
    (shapeCast S128x128 ix shapeCasts_S1x128x128_S128x128 (ValueIdx.ix2 r s)) 2147483647#32 = _
  rw [spread_column, drop_tile]

theorem pay3_at (z : FVec Ideal S128x20480 .f32) (row slot : IVec S128x20480 32) (g : FVec Ideal S1x128x128 .f32) (ix : IVec S1x128x128 32) (r : Fin 128) :
    k0_pay3 (F := Ideal) z row slot g ix (ValueIdx.ix2 r 0) = (Finset.univ : Finset (Fin 128)).fold IKind.minsi.op 2147483647#32 fun s =>
      Scalar.select (Ideal.cmp .oeq (k0_pay1 z row slot g (ValueIdx.ix2 r s)) (k0_pay2 z row slot g (ValueIdx.ix2 r 0))) (ix (ValueIdx.ix3 0 r s)) 2147483647#32 := by
  unfold k0_pay3
  exact pick_at _ _ ix r

include ok in
theorem slotIdx_at (hx : ∃ d, x = (arr0 V c).fetched 0 t d) (hw : ∃ d, w = (arr0 V c).fetched 1 t d) (hb : ∃ d, b = (arr0 V c).fetched 2 t d)
    (hm : ∃ d, m = (arr0 V c).fetched 3 t d) (hsl : ∃ d, sl = (arr0 V c).fetched 4 t d) (hg : ∃ d, g = (arr0 V c).fetched 5 t d)
    (hix : ∃ d, ix = (arr0 V c).fetched 6 t d) (r : Fin 128) :
    k0_pay3 (F := Ideal) (fZ x w b m) fRow (k0_pay42 (F := Ideal) sl) g ix (ValueIdx.ix2 r 0)
      = slotIdx (tMask V c) (tSlot V c) (tNoise V c) (tIdx V c) (rowLogit V c r) r t := by
  rw [pay3_at, slotMax_at V c ok t hx hw hb hm hsl hg, slotIdx]
  refine congrArg (fun g => Finset.fold IKind.minsi.op 2147483647#32 g Finset.univ) (funext fun s => ?_)
  rw [slotScore_at V c ok t hx hw hb hm hsl hg]
  obtain ⟨dix, rfl⟩ := hix
  rw [fetched0_ix V c t dix r s]
  by_cases h : slotScore (tMask V c) (tSlot V c) (tNoise V c) (rowLogit V c r) r t s = slotMax (tMask V c) (tSlot V c) (tNoise V c) (rowLogit V c r) r t
  · rw [if_pos h, Ideal.cmp, decide_eq_true h]; rfl
  · rw [if_neg h, Ideal.cmp, decide_eq_false h]; rfl

theorem column_word0 (t : Fin grid0.N) (r : Fin 128) (j : Fin 20480) :
    BitVec.ofNat 32 (grid0.coords t 0).val * 20480#32 + iota .tc S128x20480 32 [1] iota_S128x20480_d1_w32 (ValueIdx.ix2 r j) = BitVec.ofNat 32 (20480 * t.val + j.val) := by
  have e : ∀ t : Fin grid0.N, (BitVec.ofNat 32 (grid0.coords t 0).val) = BitVec.ofNat 32 t.val := by decide
  rw [iota_single_apply, e t, BitVec.ofNat_add, Nat.mul_comm, BitVec.ofNat_mul]

/-- The tile's largest logit, the low value past the last column. -/
theorem top_at (hx : ∃ d, x = (arr0 V c).fetched 0 t d) (hw : ∃ d, w = (arr0 V c).fetched 1 t d) (hb : ∃ d, b = (arr0 V c).fetched 2 t d) (r : Fin 128) :
    k0_pay12 (grid0.coords t) x w b (ValueIdx.ix2 r 0) = tileTop (rowLogit V c r) t.val := by
  have ht : t.val < 5 := t.2
  unfold k0_pay12
  refine (rowMax_at _ reduces_S128x20480_S128 (.inl rfl) rfl shapeCasts_S128_S128x1 r).trans ?_
  refine congrArg (fun g => Finset.fold max ⊥ g Finset.univ) (funext fun j => ?_)
  have hj := j.2
  show Scalar.select (IntOp.cmpi .slt (BitVec.ofNat 32 (grid0.coords t 0).val * 20480#32 + iota .tc S128x20480 32 [1] iota_S128x20480_d1_w32 (ValueIdx.ix2 r j)) 100000#32)
    (k0_pay11 (F := Ideal) x w b (ValueIdx.ix2 r j)) low = _
  rw [column_word0 t r j, WordCmp.cmpi_slt_ofNat (by omega) (by decide)]
  by_cases h : 20480 * t.val + j.val < 100000
  · rw [dif_pos h, decide_eq_true h]
    exact logit_at V c t hx hw hb r j h
  · rw [dif_neg h, decide_eq_false h]
    rfl

end Block

/-- The better of two values, and its index. -/
theorem better_value (v s : FVec Ideal S128x1 .f32) (e) : shapeCast S128x1 (select (cmpf .ogt v s) v s) shapeCasts_S128x1_S128x1 e
    = Scalar.select (Ideal.cmp .ogt (v e) (s e)) (v e) (s e) := congrFun (shapeCast_self (select (cmpf .ogt v s) v s) _) e
theorem better_index (v s : FVec Ideal S128x1 .f32) (u n : IVec S128x1 32) (e) : shapeCast S128x1 (select (cmpf .ogt v s) u n) shapeCasts_S128x1_S128x1 e
    = Scalar.select (Ideal.cmp .ogt (v e) (s e)) (u e) (n e) := congrFun (shapeCast_self (select (cmpf .ogt v s) u n) _) e

section Payloads

variable (z : FVec Ideal S128x20480 .f32) (row slot : IVec S128x20480 32) (g : FVec Ideal S1x128x128 .f32) (ix : IVec S1x128x128 32)
  (s : FVec Ideal S128x1 .f32) (n : IVec S128x1 32)

theorem pay4_at (e) : k0_pay4 z row slot g e = k0_pay2 z row slot g e := by
  unfold k0_pay4; rw [shapeCast_self]
theorem pay5_at0 (e) : k0_pay5 (F := Ideal) z row slot g ix e = k0_pay3 (F := Ideal) z row slot g ix e := by
  unfold k0_pay5; rw [shapeCast_self]
theorem pay6_at0 (v : FVec Ideal S128x1 .f32) (e) : k0_pay6 v e = v e := congrFun (shapeCast_self _ _) e
theorem pay8_at (e) : k0_pay8 z row slot g s s e = Scalar.select (Ideal.cmp .ogt (k0_pay2 z row slot g e) (s e)) (k0_pay2 z row slot g e) (s e) := by
  unfold k0_pay8 k0_pay7; exact better_value _ _ e
theorem pay9_at (e) : k0_pay9 (F := Ideal) z row slot g ix s n e
    = Scalar.select (Ideal.cmp .ogt (k0_pay2 z row slot g e) (s e)) (k0_pay3 (F := Ideal) z row slot g ix e) (n e) := by
  unfold k0_pay9 k0_pay7; exact better_index _ _ _ _ e
theorem pay10_at (v l : FVec Ideal S128x1 .f32) (e) : k0_pay10 v l e = max (v e) (l e) := congrFun (shapeCast_self (maximumf v l) _) e

end Payloads

/-- The scratch holds the best of the tiles seen, and their largest logit. -/
theorem reach0_best (ok : TablesOk (tMask V c) (tSlot V c) (tNoise V c) (tIdx V c) (tBound V c)) :
    ∀ (k : ℕ), k < 5 → ∀ s n l, Reach0 V c (k + 1) s n l → ∀ r : Fin 128,
    Best (k + 1) (vAt (tMask V c) (tSlot V c) (tNoise V c) (rowLogit V c r) r) (iAt (tMask V c) (tSlot V c) (tNoise V c) (tIdx V c) (rowLogit V c r) r)
      (s (ValueIdx.ix2 r 0)) (n (ValueIdx.ix2 r 0)) ∧ l (ValueIdx.ix2 r 0) = top (rowLogit V c r) k := by
  intro k
  induction k with
  | zero =>
    rintro - s n l ⟨h, s0, n0, l0, -, x, w, b, m, sl, g, ix, hx, hw, hb, hm, hsl, hg, hix, h0, -⟩ r
    obtain ⟨rfl, rfl, rfl⟩ := h0 rfl
    rw [pay4_at, pay5_at0, pay6_at0, slotMax_at V c ok (0 : Fin 5) hx hw hb hm hsl hg, slotIdx_at V c ok (0 : Fin 5) hx hw hb hm hsl hg hix,
      show k0_pay12 (grid0.coords ⟨0, h⟩) x w b (ValueIdx.ix2 r 0) = tileTop (rowLogit V c r) 0 from top_at V c (0 : Fin 5) hx hw hb r]
    have := best_first (vAt (tMask V c) (tSlot V c) (tNoise V c) (rowLogit V c r) r) (iAt (tMask V c) (tSlot V c) (tNoise V c) (tIdx V c) (rowLogit V c r) r)
    rw [vAt, dif_pos (by decide), iAt, dif_pos (by decide)] at this
    exact ⟨this, rfl⟩
  | succ k ih =>
    rintro hk s n l ⟨h, s0, n0, l0, hr, x, w, b, m, sl, g, ix, hx, hw, hb, hm, hsl, hg, hix, -, h1⟩ r
    obtain ⟨rfl, rfl, rfl⟩ := h1 (Nat.succ_ne_zero k)
    obtain ⟨hB, hl⟩ := ih (by omega) s0 n0 l0 hr r
    rw [pay8_at, pay9_at, pay10_at, slotMax_at V c ok (⟨k + 1, hk⟩ : Fin 5) hx hw hb hm hsl hg,
      slotIdx_at V c ok (⟨k + 1, hk⟩ : Fin 5) hx hw hb hm hsl hg hix,
      show k0_pay12 (grid0.coords ⟨k + 1, h⟩) x w b (ValueIdx.ix2 r 0) = tileTop (rowLogit V c r) (k + 1) from top_at V c (⟨k + 1, hk⟩ : Fin 5) hx hw hb r, hl]
    refine ⟨?_, rfl⟩
    have e1 : vAt (tMask V c) (tSlot V c) (tNoise V c) (rowLogit V c r) r (k + 1) = slotMax (tMask V c) (tSlot V c) (tNoise V c) (rowLogit V c r) r ⟨k + 1, hk⟩ := dif_pos hk
    have e2 : iAt (tMask V c) (tSlot V c) (tNoise V c) (tIdx V c) (rowLogit V c r) r (k + 1)
        = slotIdx (tMask V c) (tSlot V c) (tNoise V c) (tIdx V c) (rowLogit V c r) r ⟨k + 1, hk⟩ := dif_pos hk
    rw [← e1, ← e2]
    by_cases hc : s0 (ValueIdx.ix2 r 0) < vAt (tMask V c) (tSlot V c) (tNoise V c) (rowLogit V c r) r (k + 1)
    · rw [Ideal.cmp, decide_eq_true hc]; exact best_new hB hc
    · rw [Ideal.cmp, decide_eq_false hc]; exact best_keep hB hc

/-- What the fast call leaves in its three results, each known apart from the others: where a row's best slot beats the bound, its
    column is the row's first largest score. -/
theorem reach0_first (ok : TablesOk (tMask V c) (tSlot V c) (tNoise V c) (tIdx V c) (tBound V c)) {s n l : _}
    (hs : ∃ n' l', Reach0 V c 5 s n' l') (hn : ∃ s' l', Reach0 V c 5 s' n l') (hl : ∃ s' n', Reach0 V c 5 s' n' l) (r : Fin 128)
    (hb : tBound V c (ValueIdx.ix2 r 0) + l (ValueIdx.ix2 r 0) < s (ValueIdx.ix2 r 0)) :
    ∃ p, IsFirst 100000 (scores (rowLogit V c r) r) p ∧ n (ValueIdx.ix2 r 0) = BitVec.ofNat 32 p := by
  obtain ⟨n1, l1, h1⟩ := hs
  obtain ⟨s2, l2, h2⟩ := hn
  obtain ⟨s3, n3, h3⟩ := hl
  have b1 := (reach0_best V c ok 4 (by decide) _ _ _ h1 r).1
  have b2 := (reach0_best V c ok 4 (by decide) _ _ _ h2 r).1
  have b3 := (reach0_best V c ok 4 (by decide) _ _ _ h3 r).2
  rw [b3] at hb
  rw [← (b1.unique b2).2]
  exact Cert.Noise.fast_first (rowLogit V c r) r ok b1 hb

end Cert.KernelIdeal.Own

end
-- ==== Proof.Results.lean ====
/- The two calls' result arrays as the scratch left them at the last step. -/
module

public import proofs.«01_k».proof.Proof.FastValue
public import proofs.«01_k».proof.Proof.DenseValue
public import proofs.«01_k».proof.Proof.Run
public import Idealize.ShloMosaic.Lib.Pipeline.ArrRel
public import Idealize.ShloMosaic.Lib.Pipeline.ValueKit.Geometry

@[expose] public section

set_option maxRecDepth 8000
set_option maxHeartbeats 1000000

noncomputable section

namespace Cert.KernelIdeal.Own

open Cert.KernelIdeal Cert.KernelIdeal.Gen Cert.Noise Cert.First
open Idealize.ShloMosaic
open Idealize.ShloMosaic.Pipeline (Cfg Window RDat)

variable (V : Dev nD → Valuation τ sig (Elt Ideal)) (c : Dev nD)

theorem whole0_7 : (cfg0.win 7).WholeAt (⟨4, by decide⟩ : Fin cfg0.N) := by decide +kernel
theorem whole0_8 : (cfg0.win 8).WholeAt (⟨4, by decide⟩ : Fin cfg0.N) := by decide +kernel
theorem whole0_9 : (cfg0.win 9).WholeAt (⟨4, by decide⟩ : Fin cfg0.N) := by decide +kernel
theorem whole1_3 : (cfg1.win 3).WholeAt (⟨4, by decide⟩ : Fin cfg1.N) := by decide +kernel

/-- The fast call's best scores. -/
theorem array0_7 (G : S128x1.Idx → EReal) (h : (rd0 V c).ArrAt 7 cfg0.N G) : ∃ n l, Reach0 V c 5 G n l := by
  obtain ⟨X, ⟨Y, -, hX⟩, e⟩ := RDat.ArrAt.emb_eq_of_wholeAt h whole0_7
  have : G = X := funext fun j => (e j)
  rw [this]; exact hX rfl

/-- The fast call's columns. -/
theorem array0_8 (G : S128x1.Idx → BitVec 32) (h : (rd0 V c).ArrAt 8 cfg0.N G) : ∃ s l, Reach0 V c 5 s G l := by
  obtain ⟨X, ⟨Y, -, hX⟩, e⟩ := RDat.ArrAt.emb_eq_of_wholeAt h whole0_8
  have : G = X := funext fun j => (e j)
  rw [this]; exact hX rfl

/-- The fast call's largest logits. -/
theorem array0_9 (G : S128x1.Idx → EReal) (h : (rd0 V c).ArrAt 9 cfg0.N G) : ∃ s n, Reach0 V c 5 s n G := by
  obtain ⟨X, ⟨Y, -, hX⟩, e⟩ := RDat.ArrAt.emb_eq_of_wholeAt h whole0_9
  have : G = X := funext fun j => (e j)
  rw [this]; exact hX rfl

/-- The dense call's columns. -/
theorem array1_3 (G : S128x1.Idx → BitVec 32) (h : (rd1 V c).ArrAt 3 cfg1.N G) : ∃ s, Reach1 V c 5 s G := by
  obtain ⟨X, ⟨Y, -, hX⟩, e⟩ := RDat.ArrAt.emb_eq_of_wholeAt h whole1_3
  have : G = X := funext fun j => (e j)
  rw [this]; exact hX rfl

end Cert.KernelIdeal.Own

end
-- ==== Proof.Value.lean ====
/- What the kernel's @main leaves in its two results. -/
module

public import proofs.«01_k».proof.Proof.Results
public import Idealize.ShloMosaic.Lib.ReduceAll
public import Idealize.ShloMosaic.Lib.StableHlo.RunRead

@[expose] public section

set_option maxRecDepth 8000
set_option maxHeartbeats 1000000

noncomputable section

namespace Cert.KernelIdeal.Own

open Cert.KernelIdeal Cert.KernelIdeal.Gen Cert.Noise Cert.First
open Idealize.ShloMosaic
open Idealize.ShloMosaic.TcCoe Idealize.ShloMosaic.Tactic
open Idealize.ShloMosaic.StableHlo (after)
open Idealize.ShloMosaic.Pipeline (Cfg Window RDat)

/-- A column of 128 as a row of 128. -/
theorem flat_column {α : Type} (x : S128x1.Idx → α) (r : Fin 128) : shapeCast S128 x shapeCasts_S128x1_S128 (ValueIdx.ix1 r) = x (ValueIdx.ix2 r 0) := by
  refine shapeCast_apply x _ _ _ ?_
  rw [Shape.rowMajor_val_one, Shape.rowMajor_val_two]
  show r.val * 1 + 0 = r.val
  omega

/-- A row of 100000 as a one-row matrix. -/
theorem one_row {α : Type} (x : S100000.Idx → α) (j : Fin 100000) : shapeCast S1x100000 x shapeCasts_S100000_S1x100000 (ValueIdx.ix2 0 j) = x (ValueIdx.ix1 j) := by
  refine shapeCast_apply x _ _ _ ?_
  rw [Shape.rowMajor_val_one, Shape.rowMajor_val_two]
  show j.val = 0 * 100000 + j.val
  omega

section Reads

variable (W : Valuation τ sig (Elt Ideal))

theorem bias_reads : (after hostOps0 W (Proc.devRef .tc main_v0) : S1x100000.Idx → EReal)
    = shapeCast S1x100000 (W (Proc.devRef .tc main_arg2) : S100000.Idx → EReal) shapeCasts_S100000_S1x100000 := by
  simp only [hostOps0]; after_reads_simp; rfl

theorem ok_reads : (after [rdOp] (after hostOps1 W) (Proc.devRef .tc main_v6) : S_.Idx → BitVec 32)
    = extui 32 (Host.reduce IntOp.andi (cmpf (F := Ideal) (φ := .f32) .ogt (W (Proc.devRef .tc main_v1_0)) (addf (F := Ideal) (φ := .f32) (W (Proc.devRef .tc main_arg7)) (W (Proc.devRef .tc main_v1_2))))
        (constantI S_ 1 1#1) reducesTo_S128x1_S_d0_1 h_S_) natLt_1_32 := by
  simp only [hostOps1, rdOp]; after_reads_simp

theorem fast_reads : (after [rdOp] (after hostOps1 W) (Proc.devRef .tc main_v5) : S128.Idx → BitVec 32)
    = shapeCast S128 (W (Proc.devRef .tc main_v1_1) : S128x1.Idx → BitVec 32) shapeCasts_S128x1_S128 := by
  simp only [hostOps1, rdOp]; after_reads_simp; rfl

theorem dense_reads : (after hostOps1_1 (after (armOps 0) W) (Proc.devRef .tc main_v7) : S128.Idx → BitVec 32)
    = shapeCast S128 (W (Proc.devRef .tc main_case0b0_v9) : S128x1.Idx → BitVec 32) shapeCasts_S128x1_S128 := by
  simp only [hostOps1_1, armOps]; after_reads_simp; rfl

theorem kept_reads : (after hostOps1_1 (after (armOps 1) W) (Proc.devRef .tc main_v7) : S128.Idx → BitVec 32)
    = (W (Proc.devRef .tc main_v5) : S128.Idx → BitVec 32) := by
  simp only [hostOps1_1, armOps]; after_reads_simp; rfl

theorem ones_reads (j : S128.Idx) : (after hostOps1_1 W (Proc.devRef .tc main_v8) : S128.Idx → EReal) j = Ideal.ofBits .f32 0x3C000000#32 := by
  simp only [hostOps1_1]; after_reads_simp; rfl

end Reads

theorem over_128 : Ideal.ofBits .f32 0x3C000000#32 = ((1 / 128 : ℝ) : EReal) := by
  simp [Ideal.ofBits, Ideal.ieee]; rw [← EReal.coe_mul]; norm_num

theorem gt_of_one (x y : EReal) (h : Ideal.cmp .ogt x y = 1#1) : y < x := by
  by_contra hn
  rw [Ideal.cmp, decide_eq_false hn] at h
  exact absurd h (by decide)

/-- A truth word that names the second branch is one. -/
theorem word_one (b : BitVec 1) (h : HostLoop.branch (b.setWidth 32) 1 = 1) : b = 1#1 := by
  revert b; decide

variable (m : (ℓ : Loc nD τ sig) → Buf (Elt Ideal) ℓ) (ρ : Dev nD → PrngReg) (c : Dev nD)

/-- A row's logits, from the arguments as launched. -/
theorem launch_logit (r : Fin 128) : rowLogit (V₁ m ρ) c r
    = logit (m ((c : Thread nD τ).loc main_arg0)) (m ((c : Thread nD τ).loc main_arg1)) (m ((c : Thread nD τ).loc main_arg2)) r := by
  funext j
  unfold rowLogit
  rw [show V₁ m ρ c = after hostOps0 (V₀ m ρ c) from rfl, ops0_keep _ main_arg0 (by decide), ops0_keep _ main_arg1 (by decide), bias_reads]
  unfold logit
  refine congrArg₂ (· + ·) rfl ?_
  exact one_row (V₀ m ρ c (Proc.devRef .tc main_arg2) : S100000.Idx → EReal) j

/-- The kernel's first result, a row at a time. -/
theorem final_sample (V : Valuation τ sig (Elt Ideal)) (hf : Final m ρ c V)
    (ok : TablesOk (m ((c : Thread nD τ).loc main_arg3)) (m ((c : Thread nD τ).loc main_arg4)) (m ((c : Thread nD τ).loc main_arg5))
      (m ((c : Thread nD τ).loc main_arg6)) (m ((c : Thread nD τ).loc main_arg7))) (r : Fin 128) :
    ∃ p, IsFirst 100000 (scores (logit (m ((c : Thread nD τ).loc main_arg0)) (m ((c : Thread nD τ).loc main_arg1)) (m ((c : Thread nD τ).loc main_arg2)) r) r) p
      ∧ (V (Proc.devRef .tc main_v7) : S128.Idx → BitVec 32) (ValueIdx.ix1 r) = BitVec.ofNat 32 p := by
  rw [← launch_logit m ρ c r]
  have ok' : TablesOk (tMask (V₁ m ρ) c) (tSlot (V₁ m ρ) c) (tNoise (V₁ m ρ) c) (tIdx (V₁ m ρ) c) (tBound (V₁ m ρ) c) := by
    unfold tMask tSlot tNoise tIdx tBound
    rw [show V₁ m ρ c = after hostOps0 (V₀ m ρ c) from rfl, ops0_keep _ main_arg3 (by decide), ops0_keep _ main_arg4 (by decide),
      ops0_keep _ main_arg5 (by decide), ops0_keep _ main_arg6 (by decide), ops0_keep _ main_arg7 (by decide)]
    exact ok
  obtain ⟨V2, V4, ha, hk, rfl, ⟨-, Vd, hd, -, rfl⟩ | ⟨hw, rfl⟩⟩ := hf
  · obtain ⟨s, hs⟩ := array1_3 (V₁ m ρ) c _ hd
    rw [dense_reads, flat_column]
    exact reach1_first (V₁ m ρ) c hs r
  · rw [kept_reads, fast_reads, flat_column]
    refine reach0_first (V₁ m ρ) c ok' (array0_7 (V₁ m ρ) c _ (ha 7)) (array0_8 (V₁ m ρ) c _ (ha 8)) (array0_9 (V₁ m ρ) c _ (ha 9)) r ?_
    rw [ok_reads] at hw
    have h1 := Host.reduce_andi_all _ _ _ _ _ (word_one _ hw) (ValueIdx.ix2 r 0)
    have h2 := hk main_arg7 (by decide)
    unfold tBound
    rw [← h2]
    exact gt_of_one _ _ h1

/-- The kernel's second result. -/
theorem final_ones (V : Valuation τ sig (Elt Ideal)) (hf : Final m ρ c V) (j : S128.Idx) :
    (V (Proc.devRef .tc main_v8) : S128.Idx → EReal) j = ((1 / 128 : ℝ) : EReal) := by
  obtain ⟨V2, V4, -, -, rfl, -⟩ := hf
  exact (ones_reads V4 j).trans over_128

end Cert.KernelIdeal.Own

end
-- ==== Proof.RefNoise.lean ====
/-
  The reference's random words read at an element: the generator's rounds, one after the other, in the buffers they are
  kept in.
-/
module

public import proofs.«01_k».proof.Proof.RefRun
public import proofs.«01_k».proof.Proof.Threefry
public import Idealize.ShloMosaic.Lib.ValueIdx
public import Idealize.ShloMosaic.Lib.Pipeline.Frame
public import Idealize.ShloMosaic.Lib.StableHlo.RunRead

@[expose] public section

set_option maxRecDepth 8000
set_option maxHeartbeats 2000000

noncomputable section

namespace Cert.ReferenceIdeal.Own

open Cert.ReferenceIdeal Cert.ReferenceIdeal.Gen Cert.Noise
open Idealize.ShloMosaic Idealize.SL.Sem
open Idealize.ShloMosaic.StableHlo (TRef after)

variable {F : FTy → Type} [FloatOps F]

/-- What a buffer of words holds. -/
abbrev inW (V : Valuation τ sig (Elt F)) (x : Words) : S128x100000.Idx → BitVec 32 := x.ofBuf (V (Proc.devRef .tc x.ref))

/-- What a buffer of one word holds. -/
abbrev in1 (V : Valuation τ sig (Elt F)) (x : Word1) : BitVec 32 := (x.ofBuf (V (Proc.devRef .tc x.ref)) : S_.Idx → BitVec 32) ValueIdx.ix0

theorem spread_apply (x : (⟨S_, .i32⟩ : BufTy).Contents (Elt F)) (e : S128x100000.Idx) : spread x e = x ValueIdx.ix0 :=
  congrArg x (ValueIdx.eq_ix0 _)

/-- A round, read at an element. -/
theorem read_round {V : Valuation τ sig (Elt F)} {x y s : Words} {c1 : Word1} {w1 l : Words} {c2 : Word1} {w2 r o z : Words}
    {a b : BitVec 32} {e : S128x100000.Idx} {p : Pair} (h : Holds (inW V x) (inW V y) e p)
    (hd : [y.ref, s.ref, c1.ref, w1.ref, l.ref, c2.ref, w2.ref, r.ref, o.ref, z.ref].Nodup)
    (ha : a.toNat < 32) (hb : b.toNat < 32) :
    Holds (inW (after (roundOps x y s c1 w1 l c2 w2 r o z a b) V) s) (inW (after (roundOps x y s c1 w1 l c2 w2 r o z a b) V) z) e
      (Noise.round a b p) := by
  simp only [List.nodup_cons, List.mem_cons, not_or, List.not_mem_nil, not_false_eq_true, List.nodup_nil, and_true] at hd
  refine round_at (u := .host) (X := inW V x) (Y := inW V y) h a b ha hb ?_ ?_ <;>
    simp only [inW, roundOps, StableHlo.after_cons, StableHlo.after_nil, TRef.binary, TRef.nullary, TRef.unary, StableHlo.binary_result',
      StableHlo.nullary_result', StableHlo.unary_result', StableHlo.binary_result_ne', StableHlo.nullary_result_ne',
      StableHlo.unary_result_ne', TRef.ofBuf_toBuf, hd, ne_eq, not_false_eq_true]
  · rfl
  · exact BitVec.xor_comm _ _

/-- The keys added, read at an element. -/
theorem read_key {V : Valuation τ sig (Elt F)} {ka kb : Word1} {x z wa x1 wb z1 : Words} {c : Word1} {wc z2 : Words}
    {n : BitVec 32} {e : S128x100000.Idx} {p : Pair} (h : Holds (inW V x) (inW V z) e p)
    (hd : [ka.ref, kb.ref, x.ref, z.ref, wa.ref, x1.ref, wb.ref, z1.ref, c.ref, wc.ref, z2.ref].Nodup)
    {k k' : BitVec 32} (hka : in1 V ka = k) (hkb : in1 V kb = k') :
    Holds (inW (after (keyOps ka kb x z wa x1 wb z1 c wc z2 n) V) x1) (inW (after (keyOps ka kb x z wa x1 wb z1 c wc z2 n) V) z2) e
      (key k k' n p) := by
  simp only [List.nodup_cons, List.mem_cons, not_or, List.not_mem_nil, not_false_eq_true, List.nodup_nil, and_true] at hd
  refine key_at (X := inW V x) (Y := inW V z) h k k' n ?_ ?_ <;>
    simp only [inW, keyOps, StableHlo.after_cons, StableHlo.after_nil, TRef.binary, TRef.nullary, TRef.unary, StableHlo.binary_result',
      StableHlo.nullary_result', StableHlo.unary_result', StableHlo.binary_result_ne', StableHlo.nullary_result_ne',
      StableHlo.unary_result_ne', TRef.ofBuf_toBuf, hd, ne_eq, not_false_eq_true]
  · exact congrArg (IntOp.addi _) ((spread_apply (F := F) _ e).trans hka)
  · exact congrArg (IntOp.addi · n) (congrArg (IntOp.addi _) ((spread_apply (F := F) _ e).trans hkb))

/-- The generator's buffers, its two keys and the third. -/
abbrev gen : fn_threefry2x32.Bufs := main_call0_call0_call0
abbrev keyA : Word1 := main_call0_call0.v4
abbrev keyB : Word1 := main_call0_call0.v6

/-- The keys hold (0, 42) and their mixture. -/
def Keys (V : Valuation τ sig (Elt F)) : Prop := in1 V keyA = 0#32 ∧ in1 V keyB = 42#32 ∧ in1 V gen.v1 = 466689008#32

theorem keys_keep {seg : List (HloOp τ sig (Elt F))} {lo n : ℕ} {h : lo + n ≤ 300}
    (hW : seg.map HloOp.writes = (span lo n h).map fun w => {Proc.devRef (τ := τ) .tc w}) (hlo : 48 ≤ lo)
    {V : Valuation τ sig (Elt F)} (hk : Keys V) : Keys (after seg V) := by
  refine ⟨(congrFun ?_ ValueIdx.ix0).trans hk.1, (congrFun ?_ ValueIdx.ix0).trans hk.2.1, (congrFun ?_ ValueIdx.ix0).trans hk.2.2⟩
  · exact congrArg keyA.ofBuf (keep_span hW V 28 (by omega) (.inl (by omega)))
  · exact congrArg keyB.ofBuf (keep_span hW V 30 (by omega) (.inl (by omega)))
  · exact congrArg gen.v1.ofBuf (keep_span hW V 47 (by omega) (.inl (by omega)))

/-- A turn: four rounds `R`, which leave the keys, and then the keys added, `K`. -/
theorem turn_step {V : Valuation τ sig (Elt F)} {R K : List (HloOp τ sig (Elt F))} {lo : ℕ} {h1 : lo + 36 ≤ 300} {h2 : lo + 43 ≤ 300}
    (hR : R.map HloOp.writes = (span lo 36 h1).map fun w => {Proc.devRef (τ := τ) .tc w})
    (hRK : (R ++ K).map HloOp.writes = (span lo 43 h2).map fun w => {Proc.devRef (τ := τ) .tc w}) (hlo : 48 ≤ lo) (hk : Keys V)
    {x' z' : Words} {e : S128x100000.Idx} {q : Pair}
    (read : Keys (after R V) → Holds (inW (after K (after R V)) x') (inW (after K (after R V)) z') e q) :
    Holds (inW (after (R ++ K) V) x') (inW (after (R ++ K) V) z') e q ∧ Keys (after (R ++ K) V) := by
  refine ⟨?_, keys_keep hRK hlo hk⟩
  rw [StableHlo.after_append]
  exact read (keys_keep hR hlo hk)

/-- The first turn. -/
theorem turn0_holds {V : Valuation τ sig (Elt F)} {e : S128x100000.Idx} {p : Pair} (hk : Keys V)
    (h : Holds (inW V gen.v3) (inW V gen.v5) e p) :
    Holds (inW (after (turn0 keyA keyB gen) V) gen.v35) (inW (after (turn0 keyA keyB gen) V) gen.v39) e
      (key 42#32 466689008#32 1#32 (even p)) ∧ Keys (after (turn0 keyA keyB gen) V) := by
  refine turn_step (lo := 52) (h1 := by decide) (h2 := by decide) rfl rfl (by decide) hk fun hk => ?_
  simp only [StableHlo.after_append] at hk ⊢
  refine read_key (read_round (read_round (read_round (read_round h ?_ ?_ ?_) ?_ ?_ ?_) ?_ ?_ ?_) ?_ ?_ ?_) ?_ hk.2.1 hk.2.2 <;> decide

/-- The second turn. -/
theorem turn1_holds {V : Valuation τ sig (Elt F)} {e : S128x100000.Idx} {p : Pair} (hk : Keys V)
    (h : Holds (inW V gen.v35) (inW V gen.v39) e p) :
    Holds (inW (after (turn1 keyA keyB gen) V) gen.v69) (inW (after (turn1 keyA keyB gen) V) gen.v73) e
      (key 466689008#32 0#32 2#32 (odd p)) ∧ Keys (after (turn1 keyA keyB gen) V) := by
  refine turn_step (lo := 95) (h1 := by decide) (h2 := by decide) rfl rfl (by decide) hk fun hk => ?_
  simp only [StableHlo.after_append] at hk ⊢
  refine read_key (read_round (read_round (read_round (read_round h ?_ ?_ ?_) ?_ ?_ ?_) ?_ ?_ ?_) ?_ ?_ ?_) ?_ hk.2.2 hk.1 <;> decide

/-- The third turn. -/
theorem turn2_holds {V : Valuation τ sig (Elt F)} {e : S128x100000.Idx} {p : Pair} (hk : Keys V)
    (h : Holds (inW V gen.v69) (inW V gen.v73) e p) :
    Holds (inW (after (turn2 keyA keyB gen) V) gen.v103) (inW (after (turn2 keyA keyB gen) V) gen.v107) e
      (key 0#32 42#32 3#32 (even p)) ∧ Keys (after (turn2 keyA keyB gen) V) := by
  refine turn_step (lo := 138) (h1 := by decide) (h2 := by decide) rfl rfl (by decide) hk fun hk => ?_
  simp only [StableHlo.after_append] at hk ⊢
  refine read_key (read_round (read_round (read_round (read_round h ?_ ?_ ?_) ?_ ?_ ?_) ?_ ?_ ?_) ?_ ?_ ?_) ?_ hk.1 hk.2.1 <;> decide

/-- The fourth turn. -/
theorem turn3_holds {V : Valuation τ sig (Elt F)} {e : S128x100000.Idx} {p : Pair} (hk : Keys V)
    (h : Holds (inW V gen.v103) (inW V gen.v107) e p) :
    Holds (inW (after (turn3 keyA keyB gen) V) gen.v137) (inW (after (turn3 keyA keyB gen) V) gen.v141) e
      (key 42#32 466689008#32 4#32 (odd p)) ∧ Keys (after (turn3 keyA keyB gen) V) := by
  refine turn_step (lo := 181) (h1 := by decide) (h2 := by decide) rfl rfl (by decide) hk fun hk => ?_
  simp only [StableHlo.after_append] at hk ⊢
  refine read_key (read_round (read_round (read_round (read_round h ?_ ?_ ?_) ?_ ?_ ?_) ?_ ?_ ?_) ?_ ?_ ?_) ?_ hk.2.1 hk.2.2 <;> decide

/-- The fifth turn. -/
theorem turn4_holds {V : Valuation τ sig (Elt F)} {e : S128x100000.Idx} {p : Pair} (hk : Keys V)
    (h : Holds (inW V gen.v137) (inW V gen.v141) e p) :
    Holds (inW (after (turn4 keyA keyB gen) V) gen.v171) (inW (after (turn4 keyA keyB gen) V) gen.v175) e
      (key 466689008#32 0#32 5#32 (even p)) ∧ Keys (after (turn4 keyA keyB gen) V) := by
  refine turn_step (lo := 224) (h1 := by decide) (h2 := by decide) rfl rfl (by decide) hk fun hk => ?_
  simp only [StableHlo.after_append] at hk ⊢
  refine read_key (read_round (read_round (read_round (read_round h ?_ ?_ ?_) ?_ ?_ ?_) ?_ ?_ ?_) ?_ ?_ ?_) ?_ hk.2.2 hk.1 <;> decide

/-- The start: the keys are added to the words, and the third key is made. -/
theorem start_holds {V : Valuation τ sig (Elt F)} {e : S128x100000.Idx} {n : BitVec 32} (hA : in1 V keyA = 0#32) (hB : in1 V keyB = 42#32)
    (hhi : inW V main_call0_call0.v17 e = 0#32) (hlo : inW V main_call0_call0.v16 e = n) :
    Holds (inW (after (startOps keyA keyB main_call0_call0.v17 main_call0_call0.v16 gen) V) gen.v3)
      (inW (after (startOps keyA keyB main_call0_call0.v17 main_call0_call0.v16 gen) V) gen.v5) e (0#32, n + 42#32)
    ∧ Keys (after (startOps keyA keyB main_call0_call0.v17 main_call0_call0.v16 gen) V) := by
  refine ⟨⟨?_, ?_⟩, hA, hB, ?_⟩
  · rw [inW, startOps]; after_reads_simp
    simp only [TRef.ofBuf_toBuf]
    exact congrArg₂ IntOp.addi hhi ((spread_apply (F := F) _ e).trans hA)
  · rw [inW, startOps]; after_reads_simp
    simp only [TRef.ofBuf_toBuf]
    exact congrArg₂ IntOp.addi hlo ((spread_apply (F := F) _ e).trans hB)
  · rw [in1, startOps]; after_reads_simp
    simp only [TRef.ofBuf_toBuf]
    exact congrArg (IntOp.xori · 466688986#32) (congrArg₂ IntOp.xori hA hB)

/-- The words at the end of the generator. -/
theorem bits_holds {V : Valuation τ sig (Elt F)} {e : S128x100000.Idx} {n : BitVec 32} (hA : in1 V keyA = 0#32) (hB : in1 V keyB = 42#32)
    (hhi : inW V main_call0_call0.v17 e = 0#32) (hlo : inW V main_call0_call0.v16 e = n) :
    Holds (inW (after uBits V) gen.v171) (inW (after uBits V) gen.v175) e (words 0#32 42#32 466689008#32 (0#32, n + 42#32)) := by
  obtain ⟨h, hk⟩ := start_holds hA hB hhi hlo
  obtain ⟨h, hk⟩ := turn0_holds hk h
  obtain ⟨h, hk⟩ := turn1_holds hk h
  obtain ⟨h, hk⟩ := turn2_holds hk h
  obtain ⟨h, hk⟩ := turn3_holds hk h
  obtain ⟨h, -⟩ := turn4_holds hk h
  simp only [uBits, bitsOps, StableHlo.after_append]
  exact h

/-- The element's number. -/
def num (r c : ℕ) : BitVec 32 := BitVec.ofNat 32 (r * 100000 + c)

abbrev toNumbers : List (HloOp τ sig (Elt F)) := numberOps (.of main_v10) main_call0.cst main_call0.cst_0 main_call0_call0

theorem numbers_hold {V : Valuation τ sig (Elt F)} (r : Fin 128) (c : Fin 100000)
    (h0 : (V (Proc.devRef .tc main_v10) : S2.Idx → BitVec 32) (ValueIdx.ix1 0) = 0#32)
    (h1 : (V (Proc.devRef .tc main_v10) : S2.Idx → BitVec 32) (ValueIdx.ix1 1) = 42#32) :
    in1 (after toNumbers V) keyA = 0#32 ∧ in1 (after toNumbers V) keyB = 42#32
    ∧ inW (after toNumbers V) main_call0_call0.v17 (ValueIdx.ix2 r c) = 0#32
    ∧ inW (after toNumbers V) main_call0_call0.v16 (ValueIdx.ix2 r c) = num r c := by
  refine ⟨?_, ?_, ?_, ?_⟩
  · rw [in1, toNumbers, numberOps]; after_reads_simp
    refine Eq.trans (congrArg (V (Proc.devRef .tc main_v10) : S2.Idx → BitVec 32) (?_ : _ = ValueIdx.ix1 0)) h0
    exact (ValueIdx.eq_ix1 _).trans (congrArg ValueIdx.ix1 (Fin.ext rfl))
  · rw [in1, toNumbers, numberOps]; after_reads_simp
    refine Eq.trans (congrArg (V (Proc.devRef .tc main_v10) : S2.Idx → BitVec 32) (?_ : _ = ValueIdx.ix1 1)) h1
    exact (ValueIdx.eq_ix1 _).trans (congrArg ValueIdx.ix1 (Fin.ext rfl))
  · rw [inW, toNumbers, numberOps]; after_reads_simp
    simp only [TRef.ofBuf_toBuf]
    show BitVec.setWidth 32 (IntOp.shrui .host (100000#64 * BitVec.ofNat 64 r + 1#64 * BitVec.ofNat 64 c) 32#64) = 0#32
    have hr := r.2
    have hc := c.2
    rw [IntOp.shrui, if_pos (by decide)]
    apply BitVec.eq_of_toNat_eq
    simp only [BitVec.toNat_setWidth, BitVec.ushiftRight_eq', BitVec.toNat_ushiftRight, BitVec.toNat_add, BitVec.toNat_mul, BitVec.toNat_ofNat,
      Nat.shiftRight_eq_div_pow, Nat.reducePow, Nat.reduceMod]
    rw [Nat.mod_eq_of_lt (by omega : (r : ℕ) < 18446744073709551616), Nat.mod_eq_of_lt (by omega : (c : ℕ) < 18446744073709551616),
      Nat.mod_eq_of_lt (by omega : 100000 * (r : ℕ) < 18446744073709551616), Nat.mod_eq_of_lt (by omega : 1 * (c : ℕ) < 18446744073709551616),
      Nat.mod_eq_of_lt (by omega : 100000 * (r : ℕ) + 1 * c < 18446744073709551616), Nat.div_eq_of_lt (by omega)]
  · rw [inW, toNumbers, numberOps]; after_reads_simp
    simp only [TRef.ofBuf_toBuf]
    show BitVec.setWidth 32 (100000#64 * BitVec.ofNat 64 r + 1#64 * BitVec.ofNat 64 c) = num r c
    have hr := r.2
    have hc := c.2
    apply BitVec.eq_of_toNat_eq
    simp only [num, BitVec.toNat_setWidth, BitVec.toNat_add, BitVec.toNat_mul, BitVec.toNat_ofNat]
    omega

/-- From the generator's words to the noise, at an element. -/
theorem noise_at (A B : S128x100000.Idx → BitVec 32) (lo hi : FVec Ideal S1x1 .f32)
    (hlo : lo = broadcastInDim S1x1 ![] bcast_S_S1x1 (constant (F := Ideal) S_ .f32 0x00800000#32))
    (hhi : hi = broadcastInDim S1x1 ![] bcast_S_S1x1 (constant (F := Ideal) S_ .f32 0x3F800000#32)) (e : S128x100000.Idx) :
    Host.negf (Host.log (Host.negf (Host.log (maximumf (broadcastInDim S128x100000 ![0, 1] bcast_S1x1_S128x100000_0_1 lo)
      (addf (mulf (subf (bitcastToFloat (F := Ideal) .f32 (ori (Host.shrui (xori A B) (broadcastInDim S128x100000 ![] bcast_S_S128x100000 (constantI S_ 32 9#32)))
        (broadcastInDim S128x100000 ![] bcast_S_S128x100000 (constantI S_ 32 1065353216#32))))
        (broadcastInDim S128x100000 ![] bcast_S_S128x100000 (constant (F := Ideal) S_ .f32 0x3F800000#32)))
        (broadcastInDim S128x100000 ![0, 1] bcast_S1x1_S128x100000_0_1 (subf hi lo)))
        (broadcastInDim S128x100000 ![0, 1] bcast_S1x1_S128x100000_0_1 lo)))))) e = gumbel (A e ^^^ B e) := by
  subst hlo hhi
  rw [gumbel, Noise.uniform, ← shr_of_lt (u := .host) _ 9#32 (by decide)]
  rfl

/-- The noise of an element, when the key holds (0, 42). -/
theorem noise_holds {V : Valuation τ sig (Elt Ideal)} (r : Fin 128) (c : Fin 100000)
    (h0 : (V (Proc.devRef .tc main_v10) : S2.Idx → BitVec 32) (ValueIdx.ix1 0) = 0#32)
    (h1 : (V (Proc.devRef .tc main_v10) : S2.Idx → BitVec 32) (ValueIdx.ix1 1) = 42#32) :
    (after noiseOps V (Proc.devRef .tc main_v11) : S128x100000.Idx → EReal) (ValueIdx.ix2 r c) = gumbel (word (num r c)) := by
  simp only [noiseOps, StableHlo.after_append]
  generalize hV1 : after (constOps main_call0) V = V1
  have k0 : V1 (Proc.devRef .tc main_v10) = V (Proc.devRef .tc main_v10) := by subst hV1; rfl
  have hc1 : (V1 (Proc.devRef .tc main_call0_cst) : S_.Idx → EReal) = constant (F := Ideal) S_ .f32 0x3F800000#32 := by
    subst hV1; rw [constOps]; after_reads_simp; rfl
  have hc2 : (V1 (Proc.devRef .tc main_call0_cst_0) : S_.Idx → EReal) = constant (F := Ideal) S_ .f32 0x00800000#32 := by
    subst hV1; rw [constOps]; after_reads_simp; rfl
  obtain ⟨hA, hB, hhi, hlo⟩ := numbers_hold (V := V1) r c (by rw [k0]; exact h0) (by rw [k0]; exact h1)
  have hb := bits_holds hA hB hhi hlo
  generalize hV3 : after uBits (after toNumbers V1) = V3 at hb
  have hw1 : (V3 (Proc.devRef .tc main_call0_call0_v1) : S1x1.Idx → EReal)
      = broadcastInDim S1x1 ![] bcast_S_S1x1 (constant (F := Ideal) S_ .f32 0x00800000#32) := by
    subst hV3
    refine (keep_span (lo := 45) (n := 222) (h := by decide) rfl _ 25 (by decide) (.inl (by decide))).trans ?_
    rw [← hc2, toNumbers, numberOps]
    after_reads_simp; rfl
  have hw2 : (V3 (Proc.devRef .tc main_call0_call0_v2) : S1x1.Idx → EReal)
      = broadcastInDim S1x1 ![] bcast_S_S1x1 (constant (F := Ideal) S_ .f32 0x3F800000#32) := by
    subst hV3
    refine (keep_span (lo := 45) (n := 222) (h := by decide) rfl _ 26 (by decide) (.inl (by decide))).trans ?_
    rw [← hc1, toNumbers, numberOps]
    after_reads_simp; rfl
  simp only [uniformOps, logOps]
  after_reads_simp
  simp only [TRef.ofBuf_toBuf]
  refine (noise_at (inW V3 gen.v171) (inW V3 gen.v175) _ _ hw1 hw2 (ValueIdx.ix2 r c)).trans ?_
  rw [hb.1, hb.2]; rfl

end Cert.ReferenceIdeal.Own

end
-- ==== Proof.RefValue.lean ====
/-
  The reference's results: the sample is the first column of the largest score, and every probability is one over 128.
-/
module

public import proofs.«01_k».proof.Proof.RefNoise
public import proofs.«01_k».proof.Proof.Row
public import Idealize.ShloMosaic.Lib.StackMember

@[expose] public section

set_option maxRecDepth 8000
set_option maxHeartbeats 2000000

noncomputable section

namespace Cert.ReferenceIdeal.Own

open Cert.ReferenceIdeal Cert.ReferenceIdeal.Gen Cert.Noise Cert.First
open Idealize.ShloMosaic Idealize.SL.Sem
open Idealize.ShloMosaic.StableHlo (TRef after)

/-- The reduction's choice between two pairs is the better one. -/
theorem reducer_eq : reducer_argmax_f32_i32 (F := Ideal) = better := by
  funext a b
  have h : ∀ c : Prop, [Decidable c] → (BitVec.ofBool (decide c) = 1#1 ↔ c) := fun c _ => by
    by_cases hc : c <;> simp [hc]
  unfold reducer_argmax_f32_i32 better
  simp only [Ideal.cmpf_def, Ideal.cmp, ne_eq, not_true_eq_false, decide_false, WordCmp.cmpi_slt_eq]
  by_cases h1 : b.1 < a.1
  · have h2 : a.1 ≠ b.1 := h1.ne'
    simp [h1, h2, Scalar.select, IntOp.ori, IntOp.andi]
  · by_cases h2 : a.1 = b.1
    · by_cases h3 : a.2.toInt < b.2.toInt
      · simp [h2, h3, Scalar.select, IntOp.ori, IntOp.andi]
        exact Prod.ext h2.symm rfl
      · simp [h2, h3, Scalar.select, IntOp.ori, IntOp.andi]
    · simp [h1, h2, Scalar.select, IntOp.ori, IntOp.andi]

/-- The index the reduction keeps of a row. -/
theorem argmax_at (x : S128x100000.Idx → EReal) (u : S_.Idx → EReal) (v : S_.Idx → BitVec 32) (hu : u ValueIdx.ix0 = ⊥) (hv : v ValueIdx.ix0 = 0#32)
    (f : ℕ → EReal) (r : Fin 128) (hf : ∀ c : Fin 100000, x (ValueIdx.ix2 r c) = f c) :
    ∃ p, IsFirst 100000 f p ∧ (Host.argReduce (F := Ideal) (φ := .f32) reducer_argmax_f32_i32 x (iotaInDim S128x100000 32 1) u v reducesTo_S128x100000_S128_d1 h_S_
      (ValueIdx.ix1 r)).2 = BitVec.ofNat 32 p := by
  rw [Ideal.argReduce_eq_reduce2, Host.reduce2_eq_foldl_fiber, reducer_eq]
  have e0 : (u (Shape.Idx.first h_S_), v (Shape.Idx.first h_S_)) = (⊥, 0#32) := by
    rw [ValueIdx.eq_ix0 (Shape.Idx.first h_S_), hu, hv]
  rw [e0]
  refine argmax_fold (by decide) (by decide) f _ fun q => ?_
  have hdrop : ∀ (s : Fin 128) (c : Fin 100000), reducesTo_S128x100000_S128_d1.drop (ValueIdx.ix2 s c) = ValueIdx.ix1 s := fun s c =>
    (ValueIdx.eq_ix1 _).trans (congrArg ValueIdx.ix1 (Fin.ext rfl))
  simp only [Host.argReduceFiber, List.mem_map, List.mem_filter, List.mem_finRange, true_and, decide_eq_true_eq]
  constructor
  · rintro ⟨n, hn, rfl⟩
    generalize S128x100000.rowMajor.symm n = i at hn
    obtain ⟨s, c, rfl⟩ : ∃ s c, i = ValueIdx.ix2 s c := ⟨i 0, i 1, ValueIdx.eq_ix2 i⟩
    rw [hdrop] at hn
    have hs : s = r := congrFun hn 0
    subst hs
    exact ⟨c, c.2, Prod.ext (hf c) rfl⟩
  · rintro ⟨j, hj, rfl⟩
    refine ⟨S128x100000.rowMajor (ValueIdx.ix2 r ⟨j, hj⟩), ?_, ?_⟩ <;> rw [Equiv.symm_apply_apply]
    · exact hdrop _ _
    · exact Prod.ext (hf ⟨j, hj⟩) rfl

/-- The key. -/
theorem key_holds (V : Valuation τ sig (Elt Ideal)) :
    (after logitOps V (Proc.devRef .tc main_v10) : S2.Idx → BitVec 32) (ValueIdx.ix1 0) = 0#32
    ∧ (after logitOps V (Proc.devRef .tc main_v10) : S2.Idx → BitVec 32) (ValueIdx.ix1 1) = 42#32 := by
  simp only [logitOps]
  after_reads_simp
  constructor
  · show IntOp.shrui .host 42#32 32#32 = 0#32
    decide
  · show IntOp.andi 42#32 4294967295#32 = 42#32
    decide

theorem bias_at (b : S100000.Idx → EReal) (r : Fin 128) (c : Fin 100000) :
    broadcastInDim S128x100000 ![0, 1] bcast_S1x100000_S128x100000_0_1 (broadcastInDim S1x100000 ![1] bcast_S100000_S1x100000_1 b) (ValueIdx.ix2 r c)
      = b (ValueIdx.ix1 c) :=
  congrArg b ((ValueIdx.eq_ix1 _).trans (congrArg ValueIdx.ix1 (Fin.ext rfl)))

theorem logit_at (x : FVec Ideal S128x64 .f32) (w : FVec Ideal S64x100000 .f32) (b : FVec Ideal S100000 .f32) (r : Fin 128) (c : Fin 100000) :
    addf (Host.dotGeneral dot_S128x64_S64x100000_S128x100000_1_0_0_1_n_n none x w : FVec Ideal S128x100000 .f32)
      (broadcastInDim S128x100000 ![0, 1] bcast_S1x100000_S128x100000_0_1 (broadcastInDim S1x100000 ![1] bcast_S100000_S1x100000_1 b)) (ValueIdx.ix2 r c)
      = logit x w b r c := by
  rw [ValueIdx.addf_apply, bias_at]
  exact congrArg (· + b (ValueIdx.ix1 c)) (StackMember.dotGeneral_plain_apply none x w r c)

/-- The logits. -/
theorem logits_hold (V : Valuation τ sig (Elt Ideal)) (r : Fin 128) (c : Fin 100000) :
    (after logitOps V (Proc.devRef .tc main_v3) : S128x100000.Idx → EReal) (ValueIdx.ix2 r c)
      = logit (V (Proc.devRef .tc main_arg0)) (V (Proc.devRef .tc main_arg1)) (V (Proc.devRef .tc main_arg2)) r c := by
  simp only [logitOps]
  after_reads_simp
  exact logit_at _ _ _ r c

theorem noise_eq (r c : ℕ) : noise r c = gumbel (word (num r c)) := rfl

theorem score_reads (V : Valuation τ sig (Elt Ideal)) (r : Fin 128) (c : Fin 100000) {p q : EReal}
    (hp : (V (Proc.devRef .tc main_v11) : S128x100000.Idx → EReal) (ValueIdx.ix2 r c) = p)
    (hq : (V (Proc.devRef .tc main_v3) : S128x100000.Idx → EReal) (ValueIdx.ix2 r c) = q) :
    (after scoreOps V (Proc.devRef .tc main_v12) : S128x100000.Idx → EReal) (ValueIdx.ix2 r c) = p + q := by
  subst hp hq
  simp only [scoreOps]
  after_reads_simp
  rfl

theorem index_reads (V : Valuation τ sig (Elt Ideal)) :
    (after (argmaxOps (.of main_v12) main_call1) V (Proc.devRef .tc main_v13) : S128.Idx → BitVec 32)
      = fun j => (Host.argReduce (F := Ideal) (φ := .f32) reducer_argmax_f32_i32 (V (Proc.devRef .tc main_v12)) (iotaInDim S128x100000 32 1)
          (constant (F := Ideal) S_ .f32 0xFF800000#32) (constantI S_ 32 0#32) reducesTo_S128x100000_S128_d1 h_S_ j).2 := by
  simp only [argmaxOps]
  after_reads_simp
  rfl

/-- The reference's first result, a row at a time. -/
theorem sample_holds (V : Valuation τ sig (Elt Ideal)) (r : Fin 128) :
    ∃ p, IsFirst 100000 (scores (logit (V (Proc.devRef .tc main_arg0)) (V (Proc.devRef .tc main_arg1)) (V (Proc.devRef .tc main_arg2)) r) r) p
      ∧ (after ops V (Proc.devRef .tc main_v13) : S128.Idx → BitVec 32) (ValueIdx.ix1 r) = BitVec.ofNat 32 p := by
  simp only [ops, StableHlo.after_append]
  obtain ⟨h0, h1⟩ := key_holds V
  have hl := logits_hold V r
  generalize after logitOps V = V1 at h0 h1 hl
  have hn := fun c => noise_holds (V := V1) r c h0 h1
  have hk : after noiseOps V1 (Proc.devRef .tc main_v3) = V1 (Proc.devRef .tc main_v3) :=
    keep_span (lo := 22) (n := 267) (h := by decide) rfl V1 11 (by decide) (.inl (by decide))
  generalize after noiseOps V1 = V2 at hn hk
  have hs : ∀ c : Fin 100000, (after scoreOps V2 (Proc.devRef .tc main_v12) : S128x100000.Idx → EReal) (ValueIdx.ix2 r c)
      = scores (logit (V (Proc.devRef .tc main_arg0)) (V (Proc.devRef .tc main_arg1)) (V (Proc.devRef .tc main_arg2)) r) r c := fun c => by
    rw [scores_of_lt c.2, noise_eq]
    exact score_reads V2 r c (hn c) ((congrFun hk _).trans (hl c))
  generalize after scoreOps V2 = V3 at hs
  obtain ⟨p, hp, e⟩ := argmax_at (V3 (Proc.devRef .tc main_v12)) (constant (F := Ideal) S_ .f32 0xFF800000#32) (constantI S_ 32 0#32)
    (by simp [constant, Scalar.ofBits, Ideal.ofBits, Ideal.ieee]) rfl _ r hs
  refine ⟨p, hp, ?_⟩
  refine Eq.trans ?_ e
  have k : after onesOps (after (argmaxOps (.of main_v12) main_call1) V3) (Proc.devRef .tc main_v13)
      = after (argmaxOps (.of main_v12) main_call1) V3 (Proc.devRef .tc main_v13) :=
    keep_span (lo := 295) (n := 5) (h := by decide) rfl _ 294 (by decide) (.inl (by decide))
  rw [k]
  exact congrFun (index_reads V3) _

theorem one_over : Ideal.div (Ideal.ofBits .f32 0x3F800000#32) (Ideal.ofBits .f32 0x43000000#32) = ((1 / 128 : ℝ) : EReal) := by
  have h1 : Ideal.ofBits .f32 0x3F800000#32 = ((1 : ℝ) : EReal) := by simp [Ideal.ofBits, Ideal.ieee]; rw [← EReal.coe_mul]; norm_num
  have h2 : Ideal.ofBits .f32 0x43000000#32 = ((128 : ℝ) : EReal) := by simp [Ideal.ofBits, Ideal.ieee]; rw [← EReal.coe_mul]; norm_num
  rw [h1, h2]
  simp [Ideal.div]
  exact (EReal.coe_inv _).symm

/-- The reference's second result. -/
theorem ones_hold (V : Valuation τ sig (Elt Ideal)) (j : S128.Idx) :
    (after ops V (Proc.devRef .tc main_v16) : S128.Idx → EReal) j
      = ((1 / 128 : ℝ) : EReal) := by
  simp only [ops, StableHlo.after_append]
  generalize after (argmaxOps (F := Ideal) (.of main_v12) main_call1) _ = W
  simp only [onesOps]
  after_reads_simp
  exact one_over

end Cert.ReferenceIdeal.Own

end
-- ==== Proof.Equal.lean ====
/- The kernel and the reference leave the same results. -/
module

public import proofs.«01_k».proof.Proof.Value
public import proofs.«01_k».proof.Proof.RefValue

@[expose] public section

set_option maxRecDepth 8000
set_option maxHeartbeats 1000000

noncomputable section

namespace Cert.Equal

open Cert.Noise Cert.First
open Idealize.ShloMosaic
open Idealize.ShloMosaic.TcCoe

abbrev KMem : Type := (ℓ : Loc KernelIdeal.nD KernelIdeal.τ KernelIdeal.sig) → Buf (Elt Ideal) ℓ
abbrev RMem : Type := (ℓ : Loc ReferenceIdeal.nD ReferenceIdeal.τ ReferenceIdeal.sig) → Buf (Elt Ideal) ℓ

/-- What the reference leaves in its two results. -/
def sample (m' : RMem) (c : Dev ReferenceIdeal.nD) : ReferenceIdeal.S128.Idx → BitVec 32 :=
  StableHlo.after ReferenceIdeal.Own.ops (StableHlo.launchContents m' c) (Proc.devRef .tc ReferenceIdeal.main_v13)
def ones (m' : RMem) (c : Dev ReferenceIdeal.nD) : ReferenceIdeal.S128.Idx → EReal :=
  StableHlo.after ReferenceIdeal.Own.ops (StableHlo.launchContents m' c) (Proc.devRef .tc ReferenceIdeal.main_v16)

variable (m : KMem) (ρ : Dev KernelIdeal.nD → PrngReg) (m' : RMem) (c : Dev KernelIdeal.nD)
  (V : Valuation KernelIdeal.τ KernelIdeal.sig (Elt Ideal)) (hf : KernelIdeal.Own.Final m ρ c V)

include hf in
/-- The first results agree. -/
theorem sample_eq
    (ok : TablesOk (m ((c : Thread KernelIdeal.nD KernelIdeal.τ).loc KernelIdeal.main_arg3)) (m ((c : Thread KernelIdeal.nD KernelIdeal.τ).loc KernelIdeal.main_arg4))
      (m ((c : Thread KernelIdeal.nD KernelIdeal.τ).loc KernelIdeal.main_arg5)) (m ((c : Thread KernelIdeal.nD KernelIdeal.τ).loc KernelIdeal.main_arg6))
      (m ((c : Thread KernelIdeal.nD KernelIdeal.τ).loc KernelIdeal.main_arg7)))
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    (V (Proc.devRef .tc KernelIdeal.main_v7) : KernelIdeal.S128.Idx → BitVec 32) = sample m' c := by
  funext j
  obtain ⟨r, rfl⟩ : ∃ r : Fin 128, j = ValueIdx.ix1 r := ⟨j 0, funext fun a => by fin_cases a; rfl⟩
  obtain ⟨p, hp, e⟩ := KernelIdeal.Own.final_sample m ρ c V hf ok r
  obtain ⟨q, hq, e'⟩ := ReferenceIdeal.Own.sample_holds (StableHlo.launchContents m' c) r
  rw [e]
  refine Eq.trans ?_ e'.symm
  rw [← h0, ← h1, ← h2] at hp
  exact congrArg _ (hp.unique hq)

include hf in
/-- The second results agree. -/
theorem ones_eq : (V (Proc.devRef .tc KernelIdeal.main_v8) : KernelIdeal.S128.Idx → EReal) = ones m' c := by
  funext j
  exact (KernelIdeal.Own.final_ones m ρ c V hf j).trans (ReferenceIdeal.Own.ones_hold (StableHlo.launchContents m' c) j).symm

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables_ok
public import proofs.«01_k».proof.Proof.Run
public import proofs.«01_k».proof.Proof.Same
public import proofs.«01_k».proof.Proof.RefRun
public import proofs.«01_k».proof.Proof.PreRead
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem

/-- The kernel leaves what the reference leaves, where the tables are as the precondition says. -/
theorem equal : Cert.algebraic_KernelIdeal_ReferenceIdeal_pre_tables_ok (hKernelIdeal := Cert.KernelIdeal.Gen.facts)
    (hReferenceIdeal := Cert.ReferenceIdeal.Gen.facts) (hPre_tables_ok := Cert.Pre_tables_ok.Gen.facts) := by
  intro m g m' g' hpre hargs
  refine ⟨fun c => Cert.Equal.sample m' c, fun c => Cert.Equal.ones m' c, θ_run_mono (Cert.KernelIdeal.Own.run_main m g) fun r hr c => ?_,
    θ_run_mono (θ_run_and (Cert.ReferenceIdeal.Own.run m' g') (Cert.ReferenceIdeal.Own.frame m' g')) fun r hr c => ⟨hr.1 c _, hr.1 c _, hr.2.1 c⟩⟩
  obtain ⟨V, hV, hm⟩ := hr.1 c
  obtain ⟨h0, h1, h2, -⟩ := hargs c
  have ok := Cert.Pre_tables_ok.Own.tables_hold _ _ _ _ _ _ _ _ (hpre c)
  have keep := fun b hs hb => (hm b hs).trans (Cert.KernelIdeal.Own.final_arg m g c V hV b hb)
  exact ⟨(hm _ rfl).trans (Cert.Equal.sample_eq m g m' c V hV ok h0 h1 h2), (hm _ rfl).trans (Cert.Equal.ones_eq m g m' c V hV),
    keep _ rfl (by decide), keep _ rfl (by decide), keep _ rfl (by decide), keep _ rfl (by decide),
    keep _ rfl (by decide), keep _ rfl (by decide), keep _ rfl (by decide), keep _ rfl (by decide)⟩

theorem claim : Cert.Claim := ⟨Cert.Kernel.Gen.facts, Cert.KernelIdeal.Gen.facts, Cert.ReferenceIdeal.Gen.facts, Cert.Pre_tables_ok.Gen.facts,
  fun m g _ => Cert.KernelIdeal.Own.frame_kernel m g (Cert.KernelIdeal.Own.frame (F := Bits) m g),
  fun m g _ => Cert.KernelIdeal.Own.frame m g, fun m g _ => Cert.KernelIdeal.Own.frame m g,
  fun m g _ => Cert.ReferenceIdeal.Own.frame m g, fun m g _ => Cert.ReferenceIdeal.Own.frame m g, trivial, equal⟩

end Cert.Proof

end
